-- ==== Defs.lean ====
def Pre_Sfive (m : (ℓ : Loc Cert.Sfive.nD Cert.Sfive.τ Cert.Sfive.sig) → Buf (Elt Bits) ℓ) : Prop :=
  True

def Pre_SfiveIdeal (m : (ℓ : Loc Cert.SfiveIdeal.nD Cert.SfiveIdeal.τ Cert.SfiveIdeal.sig) → Buf (Elt Ideal) ℓ) : Prop :=
  True

def Pre_SfiveRefIdeal (m : (ℓ : Loc Cert.SfiveRefIdeal.nD Cert.SfiveRefIdeal.τ Cert.SfiveRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def quiescent_Sfive [hSfive : Cert.Sfive.Facts] : Prop :=
  ∀ (m : (ℓ : Loc Cert.Sfive.nD Cert.Sfive.τ Cert.Sfive.sig) → Buf (Elt Bits) ℓ) (g : Dev Cert.Sfive.nD → PrngReg), Pre_Sfive m →
    θ_run (Cert.Sfive.defs (F := Bits)) (onTc (τ := Cert.Sfive.τ) (Cert.Sfive.main (F := Bits))) ⟨m, fun _ => 0, g⟩ (fun r => (∀ c : Dev Cert.Sfive.nD,
      r.2.mem ((c.tc : Thread Cert.Sfive.nD Cert.Sfive.τ).loc Cert.Sfive.main_arg0) = m ((c.tc : Thread Cert.Sfive.nD Cert.Sfive.τ).loc Cert.Sfive.main_arg0)
      ∧ r.2.mem ((c.tc : Thread Cert.Sfive.nD Cert.Sfive.τ).loc Cert.Sfive.main_arg1) = m ((c.tc : Thread Cert.Sfive.nD Cert.Sfive.τ).loc Cert.Sfive.main_arg1)
      ∧ r.2.mem ((c.tc : Thread Cert.Sfive.nD Cert.Sfive.τ).loc Cert.Sfive.main_arg2) = m ((c.tc : Thread Cert.Sfive.nD Cert.Sfive.τ).loc Cert.Sfive.main_arg2)
      ∧ r.2.mem ((c.tc : Thread Cert.Sfive.nD Cert.Sfive.τ).loc Cert.Sfive.main_arg3) = m ((c.tc : Thread Cert.Sfive.nD Cert.Sfive.τ).loc Cert.Sfive.main_arg3)
      ∧ r.2.mem ((c.tc : Thread Cert.Sfive.nD Cert.Sfive.τ).loc Cert.Sfive.main_arg4) = m ((c.tc : Thread Cert.Sfive.nD Cert.Sfive.τ).loc Cert.Sfive.main_arg4)
      ∧ r.2.mem ((c.tc : Thread Cert.Sfive.nD Cert.Sfive.τ).loc Cert.Sfive.main_arg5) = m ((c.tc : Thread Cert.Sfive.nD Cert.Sfive.τ).loc Cert.Sfive.main_arg5)
      ∧ r.2.mem ((c.tc : Thread Cert.Sfive.nD Cert.Sfive.τ).loc Cert.Sfive.main_arg6) = m ((c.tc : Thread Cert.Sfive.nD Cert.Sfive.τ).loc Cert.Sfive.main_arg6)
      ∧ r.2.mem ((c.tc : Thread Cert.Sfive.nD Cert.Sfive.τ).loc Cert.Sfive.main_arg7) = m ((c.tc : Thread Cert.Sfive.nD Cert.Sfive.τ).loc Cert.Sfive.main_arg7))
      ∧ r.2.sem = fun _ => 0)

def quiescent_SfiveIdeal [hSfiveIdeal : Cert.SfiveIdeal.Facts] : Prop :=
  ∀ (m : (ℓ : Loc Cert.SfiveIdeal.nD Cert.SfiveIdeal.τ Cert.SfiveIdeal.sig) → Buf (Elt Ideal) ℓ) (g : Dev Cert.SfiveIdeal.nD → PrngReg), Pre_SfiveIdeal m →
    θ_run (Cert.SfiveIdeal.defs (F := Ideal)) (onTc (τ := Cert.SfiveIdeal.τ) (Cert.SfiveIdeal.main (F := Ideal))) ⟨m, fun _ => 0, g⟩ (fun r => (∀ c : Dev Cert.SfiveIdeal.nD,
      r.2.mem ((c.tc : Thread Cert.SfiveIdeal.nD Cert.SfiveIdeal.τ).loc Cert.SfiveIdeal.main_arg0) = m ((c.tc : Thread Cert.SfiveIdeal.nD Cert.SfiveIdeal.τ).loc Cert.SfiveIdeal.main_arg0)
      ∧ r.2.mem ((c.tc : Thread Cert.SfiveIdeal.nD Cert.SfiveIdeal.τ).loc Cert.SfiveIdeal.main_arg1) = m ((c.tc : Thread Cert.SfiveIdeal.nD Cert.SfiveIdeal.τ).loc Cert.SfiveIdeal.main_arg1)
      ∧ r.2.mem ((c.tc : Thread Cert.SfiveIdeal.nD Cert.SfiveIdeal.τ).loc Cert.SfiveIdeal.main_arg2) = m ((c.tc : Thread Cert.SfiveIdeal.nD Cert.SfiveIdeal.τ).loc Cert.SfiveIdeal.main_arg2)
      ∧ r.2.mem ((c.tc : Thread Cert.SfiveIdeal.nD Cert.SfiveIdeal.τ).loc Cert.SfiveIdeal.main_arg3) = m ((c.tc : Thread Cert.SfiveIdeal.nD Cert.SfiveIdeal.τ).loc Cert.SfiveIdeal.main_arg3)
      ∧ r.2.mem ((c.tc : Thread Cert.SfiveIdeal.nD Cert.SfiveIdeal.τ).loc Cert.SfiveIdeal.main_arg4) = m ((c.tc : Thread Cert.SfiveIdeal.nD Cert.SfiveIdeal.τ).loc Cert.SfiveIdeal.main_arg4)
      ∧ r.2.mem ((c.tc : Thread Cert.SfiveIdeal.nD Cert.SfiveIdeal.τ).loc Cert.SfiveIdeal.main_arg5) = m ((c.tc : Thread Cert.SfiveIdeal.nD Cert.SfiveIdeal.τ).loc Cert.SfiveIdeal.main_arg5)
      ∧ r.2.mem ((c.tc : Thread Cert.SfiveIdeal.nD Cert.SfiveIdeal.τ).loc Cert.SfiveIdeal.main_arg6) = m ((c.tc : Thread Cert.SfiveIdeal.nD Cert.SfiveIdeal.τ).loc Cert.SfiveIdeal.main_arg6)
      ∧ r.2.mem ((c.tc : Thread Cert.SfiveIdeal.nD Cert.SfiveIdeal.τ).loc Cert.SfiveIdeal.main_arg7) = m ((c.tc : Thread Cert.SfiveIdeal.nD Cert.SfiveIdeal.τ).loc Cert.SfiveIdeal.main_arg7))
      ∧ r.2.sem = fun _ => 0)

def quiescent_SfiveRefIdeal [hSfiveRefIdeal : Cert.SfiveRefIdeal.Facts] : Prop :=
  ∀ (m : (ℓ : Loc Cert.SfiveRefIdeal.nD Cert.SfiveRefIdeal.τ Cert.SfiveRefIdeal.sig) → Buf (Elt Ideal) ℓ) (g : Dev Cert.SfiveRefIdeal.nD → PrngReg), Pre_SfiveRefIdeal m →
    θ_run (Cert.SfiveRefIdeal.defs (F := Ideal)) (onTc (τ := Cert.SfiveRefIdeal.τ) (Cert.SfiveRefIdeal.main (F := Ideal))) ⟨m, fun _ => 0, g⟩ (fun r => (∀ c : Dev Cert.SfiveRefIdeal.nD,
      r.2.mem ((c.tc : Thread Cert.SfiveRefIdeal.nD Cert.SfiveRefIdeal.τ).loc Cert.SfiveRefIdeal.main_arg0) = m ((c.tc : Thread Cert.SfiveRefIdeal.nD Cert.SfiveRefIdeal.τ).loc Cert.SfiveRefIdeal.main_arg0)
      ∧ r.2.mem ((c.tc : Thread Cert.SfiveRefIdeal.nD Cert.SfiveRefIdeal.τ).loc Cert.SfiveRefIdeal.main_arg1) = m ((c.tc : Thread Cert.SfiveRefIdeal.nD Cert.SfiveRefIdeal.τ).loc Cert.SfiveRefIdeal.main_arg1)
      ∧ r.2.mem ((c.tc : Thread Cert.SfiveRefIdeal.nD Cert.SfiveRefIdeal.τ).loc Cert.SfiveRefIdeal.main_arg2) = m ((c.tc : Thread Cert.SfiveRefIdeal.nD Cert.SfiveRefIdeal.τ).loc Cert.SfiveRefIdeal.main_arg2)
      ∧ r.2.mem ((c.tc : Thread Cert.SfiveRefIdeal.nD Cert.SfiveRefIdeal.τ).loc Cert.SfiveRefIdeal.main_arg3) = m ((c.tc : Thread Cert.SfiveRefIdeal.nD Cert.SfiveRefIdeal.τ).loc Cert.SfiveRefIdeal.main_arg3)
      ∧ r.2.mem ((c.tc : Thread Cert.SfiveRefIdeal.nD Cert.SfiveRefIdeal.τ).loc Cert.SfiveRefIdeal.main_arg4) = m ((c.tc : Thread Cert.SfiveRefIdeal.nD Cert.SfiveRefIdeal.τ).loc Cert.SfiveRefIdeal.main_arg4)
      ∧ r.2.mem ((c.tc : Thread Cert.SfiveRefIdeal.nD Cert.SfiveRefIdeal.τ).loc Cert.SfiveRefIdeal.main_arg5) = m ((c.tc : Thread Cert.SfiveRefIdeal.nD Cert.SfiveRefIdeal.τ).loc Cert.SfiveRefIdeal.main_arg5)
      ∧ r.2.mem ((c.tc : Thread Cert.SfiveRefIdeal.nD Cert.SfiveRefIdeal.τ).loc Cert.SfiveRefIdeal.main_arg6) = m ((c.tc : Thread Cert.SfiveRefIdeal.nD Cert.SfiveRefIdeal.τ).loc Cert.SfiveRefIdeal.main_arg6)
      ∧ r.2.mem ((c.tc : Thread Cert.SfiveRefIdeal.nD Cert.SfiveRefIdeal.τ).loc Cert.SfiveRefIdeal.main_arg7) = m ((c.tc : Thread Cert.SfiveRefIdeal.nD Cert.SfiveRefIdeal.τ).loc Cert.SfiveRefIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8)
      ∧ r.2.mem ((c.tc : Thread Cert.Inproj.nD Cert.Inproj.τ).loc Cert.Inproj.main_arg9) = m ((c.tc : Thread Cert.Inproj.nD Cert.Inproj.τ).loc Cert.Inproj.main_arg9)
      ∧ r.2.mem ((c.tc : Thread Cert.Inproj.nD Cert.Inproj.τ).loc Cert.Inproj.main_arg10) = m ((c.tc : Thread Cert.Inproj.nD Cert.Inproj.τ).loc Cert.Inproj.main_arg10)
      ∧ r.2.mem ((c.tc : Thread Cert.Inproj.nD Cert.Inproj.τ).loc Cert.Inproj.main_arg11) = m ((c.tc : Thread Cert.Inproj.nD Cert.Inproj.τ).loc Cert.Inproj.main_arg11)
      ∧ r.2.mem ((c.tc : Thread Cert.Inproj.nD Cert.Inproj.τ).loc Cert.Inproj.main_arg12) = m ((c.tc : Thread Cert.Inproj.nD Cert.Inproj.τ).loc Cert.Inproj.main_arg12)
      ∧ r.2.mem ((c.tc : Thread Cert.Inproj.nD Cert.Inproj.τ).loc Cert.Inproj.main_arg13) = m ((c.tc : Thread Cert.Inproj.nD Cert.Inproj.τ).loc Cert.Inproj.main_arg13))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
      ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
      ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12)
      ∧ r.2.mem ((c.tc : Thread Cert.InprojIdeal.nD Cert.InprojIdeal.τ).loc Cert.InprojIdeal.main_arg13) = m ((c.tc : Thread Cert.InprojIdeal.nD Cert.InprojIdeal.τ).loc Cert.InprojIdeal.main_arg13))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8)
      ∧ r.2.mem ((c.tc : Thread Cert.InprojRefIdeal.nD Cert.InprojRefIdeal.τ).loc Cert.InprojRefIdeal.main_arg9) = m ((c.tc : Thread Cert.InprojRefIdeal.nD Cert.InprojRefIdeal.τ).loc Cert.InprojRefIdeal.main_arg9)
      ∧ r.2.mem ((c.tc : Thread Cert.InprojRefIdeal.nD Cert.InprojRefIdeal.τ).loc Cert.InprojRefIdeal.main_arg10) = m ((c.tc : Thread Cert.InprojRefIdeal.nD Cert.InprojRefIdeal.τ).loc Cert.InprojRefIdeal.main_arg10)
      ∧ r.2.mem ((c.tc : Thread Cert.InprojRefIdeal.nD Cert.InprojRefIdeal.τ).loc Cert.InprojRefIdeal.main_arg11) = m ((c.tc : Thread Cert.InprojRefIdeal.nD Cert.InprojRefIdeal.τ).loc Cert.InprojRefIdeal.main_arg11)
      ∧ r.2.mem ((c.tc : Thread Cert.InprojRefIdeal.nD Cert.InprojRefIdeal.τ).loc Cert.InprojRefIdeal.main_arg12) = m ((c.tc : Thread Cert.InprojRefIdeal.nD Cert.InprojRefIdeal.τ).loc Cert.InprojRefIdeal.main_arg12)
      ∧ r.2.mem ((c.tc : Thread Cert.InprojRefIdeal.nD Cert.InprojRefIdeal.τ).loc Cert.InprojRefIdeal.main_arg13) = m ((c.tc : Thread Cert.InprojRefIdeal.nD Cert.InprojRefIdeal.τ).loc Cert.InprojRefIdeal.main_arg13))
      ∧ r.2.sem = fun _ => 0)

def preserves_Sfive_SfiveIdeal : Prop :=
  True

def algebraic_SfiveIdeal_SfiveRefIdeal [hSfiveIdeal : Cert.SfiveIdeal.Facts] [hSfiveRefIdeal : Cert.SfiveRefIdeal.Facts] : Prop :=
  ∀ (m : (ℓ : Loc Cert.SfiveIdeal.nD Cert.SfiveIdeal.τ Cert.SfiveIdeal.sig) → Buf (Elt Ideal) ℓ) (g : Dev Cert.SfiveIdeal.nD → PrngReg)
    (m' : (ℓ : Loc Cert.SfiveRefIdeal.nD Cert.SfiveRefIdeal.τ Cert.SfiveRefIdeal.sig) → Buf (Elt Ideal) ℓ) (g' : Dev Cert.SfiveRefIdeal.nD → PrngReg), Pre_SfiveIdeal m →
    (∀ c : Dev Cert.SfiveIdeal.nD,
      m' ((c.tc : Thread Cert.SfiveRefIdeal.nD Cert.SfiveRefIdeal.τ).loc Cert.SfiveRefIdeal.main_arg0) = m ((c.tc : Thread Cert.SfiveIdeal.nD Cert.SfiveIdeal.τ).loc Cert.SfiveIdeal.main_arg0)
      ∧ m' ((c.tc : Thread Cert.SfiveRefIdeal.nD Cert.SfiveRefIdeal.τ).loc Cert.SfiveRefIdeal.main_arg1) = m ((c.tc : Thread Cert.SfiveIdeal.nD Cert.SfiveIdeal.τ).loc Cert.SfiveIdeal.main_arg1)
      ∧ m' ((c.tc : Thread Cert.SfiveRefIdeal.nD Cert.SfiveRefIdeal.τ).loc Cert.SfiveRefIdeal.main_arg2) = m ((c.tc : Thread Cert.SfiveIdeal.nD Cert.SfiveIdeal.τ).loc Cert.SfiveIdeal.main_arg2)
      ∧ m' ((c.tc : Thread Cert.SfiveRefIdeal.nD Cert.SfiveRefIdeal.τ).loc Cert.SfiveRefIdeal.main_arg3) = m ((c.tc : Thread Cert.SfiveIdeal.nD Cert.SfiveIdeal.τ).loc Cert.SfiveIdeal.main_arg3)
      ∧ m' ((c.tc : Thread Cert.SfiveRefIdeal.nD Cert.SfiveRefIdeal.τ).loc Cert.SfiveRefIdeal.main_arg4) = m ((c.tc : Thread Cert.SfiveIdeal.nD Cert.SfiveIdeal.τ).loc Cert.SfiveIdeal.main_arg4)
      ∧ m' ((c.tc : Thread Cert.SfiveRefIdeal.nD Cert.SfiveRefIdeal.τ).loc Cert.SfiveRefIdeal.main_arg5) = m ((c.tc : Thread Cert.SfiveIdeal.nD Cert.SfiveIdeal.τ).loc Cert.SfiveIdeal.main_arg5)
      ∧ m' ((c.tc : Thread Cert.SfiveRefIdeal.nD Cert.SfiveRefIdeal.τ).loc Cert.SfiveRefIdeal.main_arg6) = m ((c.tc : Thread Cert.SfiveIdeal.nD Cert.SfiveIdeal.τ).loc Cert.SfiveIdeal.main_arg6)
      ∧ m' ((c.tc : Thread Cert.SfiveRefIdeal.nD Cert.SfiveRefIdeal.τ).loc Cert.SfiveRefIdeal.main_arg7) = m ((c.tc : Thread Cert.SfiveIdeal.nD Cert.SfiveIdeal.τ).loc Cert.SfiveIdeal.main_arg7)) →
    ∃ (v0 : (c : Dev Cert.SfiveIdeal.nD) → Buf (Elt Ideal) ((c.tc : Thread Cert.SfiveIdeal.nD Cert.SfiveIdeal.τ).loc Cert.SfiveIdeal.main_v0)),
      θ_run (Cert.SfiveIdeal.defs (F := Ideal)) (onTc (τ := Cert.SfiveIdeal.τ) (Cert.SfiveIdeal.main (F := Ideal))) ⟨m, fun _ => 0, g⟩ (fun r => ∀ c : Dev Cert.SfiveIdeal.nD,
          r.2.mem ((c.tc : Thread Cert.SfiveIdeal.nD Cert.SfiveIdeal.τ).loc Cert.SfiveIdeal.main_v0) = v0 c
          ∧ r.2.mem ((c.tc : Thread Cert.SfiveIdeal.nD Cert.SfiveIdeal.τ).loc Cert.SfiveIdeal.main_arg0) = m ((c.tc : Thread Cert.SfiveIdeal.nD Cert.SfiveIdeal.τ).loc Cert.SfiveIdeal.main_arg0)
          ∧ r.2.mem ((c.tc : Thread Cert.SfiveIdeal.nD Cert.SfiveIdeal.τ).loc Cert.SfiveIdeal.main_arg1) = m ((c.tc : Thread Cert.SfiveIdeal.nD Cert.SfiveIdeal.τ).loc Cert.SfiveIdeal.main_arg1)
          ∧ r.2.mem ((c.tc : Thread Cert.SfiveIdeal.nD Cert.SfiveIdeal.τ).loc Cert.SfiveIdeal.main_arg2) = m ((c.tc : Thread Cert.SfiveIdeal.nD Cert.SfiveIdeal.τ).loc Cert.SfiveIdeal.main_arg2)
          ∧ r.2.mem ((c.tc : Thread Cert.SfiveIdeal.nD Cert.SfiveIdeal.τ).loc Cert.SfiveIdeal.main_arg3) = m ((c.tc : Thread Cert.SfiveIdeal.nD Cert.SfiveIdeal.τ).loc Cert.SfiveIdeal.main_arg3)
          ∧ r.2.mem ((c.tc : Thread Cert.SfiveIdeal.nD Cert.SfiveIdeal.τ).loc Cert.SfiveIdeal.main_arg4) = m ((c.tc : Thread Cert.SfiveIdeal.nD Cert.SfiveIdeal.τ).loc Cert.SfiveIdeal.main_arg4)
          ∧ r.2.mem ((c.tc : Thread Cert.SfiveIdeal.nD Cert.SfiveIdeal.τ).loc Cert.SfiveIdeal.main_arg5) = m ((c.tc : Thread Cert.SfiveIdeal.nD Cert.SfiveIdeal.τ).loc Cert.SfiveIdeal.main_arg5)
          ∧ r.2.mem ((c.tc : Thread Cert.SfiveIdeal.nD Cert.SfiveIdeal.τ).loc Cert.SfiveIdeal.main_arg6) = m ((c.tc : Thread Cert.SfiveIdeal.nD Cert.SfiveIdeal.τ).loc Cert.SfiveIdeal.main_arg6)
          ∧ r.2.mem ((c.tc : Thread Cert.SfiveIdeal.nD Cert.SfiveIdeal.τ).loc Cert.SfiveIdeal.main_arg7) = m ((c.tc : Thread Cert.SfiveIdeal.nD Cert.SfiveIdeal.τ).loc Cert.SfiveIdeal.main_arg7))
      ∧ θ_run (Cert.SfiveRefIdeal.defs (F := Ideal)) (onTc (τ := Cert.SfiveRefIdeal.τ) (Cert.SfiveRefIdeal.main (F := Ideal))) ⟨m', fun _ => 0, g'⟩ (fun r => ∀ c : Dev Cert.SfiveRefIdeal.nD,
          r.2.mem ((c.tc : Thread Cert.SfiveRefIdeal.nD Cert.SfiveRefIdeal.τ).loc Cert.SfiveRefIdeal.main_v26) = v0 c
          ∧ r.2.mem ((c.tc : Thread Cert.SfiveRefIdeal.nD Cert.SfiveRefIdeal.τ).loc Cert.SfiveRefIdeal.main_arg0) = m' ((c.tc : Thread Cert.SfiveRefIdeal.nD Cert.SfiveRefIdeal.τ).loc Cert.SfiveRefIdeal.main_arg0)
          ∧ r.2.mem ((c.tc : Thread Cert.SfiveRefIdeal.nD Cert.SfiveRefIdeal.τ).loc Cert.SfiveRefIdeal.main_arg1) = m' ((c.tc : Thread Cert.SfiveRefIdeal.nD Cert.SfiveRefIdeal.τ).loc Cert.SfiveRefIdeal.main_arg1)
          ∧ r.2.mem ((c.tc : Thread Cert.SfiveRefIdeal.nD Cert.SfiveRefIdeal.τ).loc Cert.SfiveRefIdeal.main_arg2) = m' ((c.tc : Thread Cert.SfiveRefIdeal.nD Cert.SfiveRefIdeal.τ).loc Cert.SfiveRefIdeal.main_arg2)
          ∧ r.2.mem ((c.tc : Thread Cert.SfiveRefIdeal.nD Cert.SfiveRefIdeal.τ).loc Cert.SfiveRefIdeal.main_arg3) = m' ((c.tc : Thread Cert.SfiveRefIdeal.nD Cert.SfiveRefIdeal.τ).loc Cert.SfiveRefIdeal.main_arg3)
          ∧ r.2.mem ((c.tc : Thread Cert.SfiveRefIdeal.nD Cert.SfiveRefIdeal.τ).loc Cert.SfiveRefIdeal.main_arg4) = m' ((c.tc : Thread Cert.SfiveRefIdeal.nD Cert.SfiveRefIdeal.τ).loc Cert.SfiveRefIdeal.main_arg4)
          ∧ r.2.mem ((c.tc : Thread Cert.SfiveRefIdeal.nD Cert.SfiveRefIdeal.τ).loc Cert.SfiveRefIdeal.main_arg5) = m' ((c.tc : Thread Cert.SfiveRefIdeal.nD Cert.SfiveRefIdeal.τ).loc Cert.SfiveRefIdeal.main_arg5)
          ∧ r.2.mem ((c.tc : Thread Cert.SfiveRefIdeal.nD Cert.SfiveRefIdeal.τ).loc Cert.SfiveRefIdeal.main_arg6) = m' ((c.tc : Thread Cert.SfiveRefIdeal.nD Cert.SfiveRefIdeal.τ).loc Cert.SfiveRefIdeal.main_arg6)
          ∧ r.2.mem ((c.tc : Thread Cert.SfiveRefIdeal.nD Cert.SfiveRefIdeal.τ).loc Cert.SfiveRefIdeal.main_arg7) = m' ((c.tc : Thread Cert.SfiveRefIdeal.nD Cert.SfiveRefIdeal.τ).loc Cert.SfiveRefIdeal.main_arg7))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v50) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)
      ∧ m' ((c.tc : Thread Cert.InprojRefIdeal.nD Cert.InprojRefIdeal.τ).loc Cert.InprojRefIdeal.main_arg8) = m ((c.tc : Thread Cert.InprojIdeal.nD Cert.InprojIdeal.τ).loc Cert.InprojIdeal.main_arg8)
      ∧ m' ((c.tc : Thread Cert.InprojRefIdeal.nD Cert.InprojRefIdeal.τ).loc Cert.InprojRefIdeal.main_arg9) = m ((c.tc : Thread Cert.InprojIdeal.nD Cert.InprojIdeal.τ).loc Cert.InprojIdeal.main_arg9)
      ∧ m' ((c.tc : Thread Cert.InprojRefIdeal.nD Cert.InprojRefIdeal.τ).loc Cert.InprojRefIdeal.main_arg10) = m ((c.tc : Thread Cert.InprojIdeal.nD Cert.InprojIdeal.τ).loc Cert.InprojIdeal.main_arg10)
      ∧ m' ((c.tc : Thread Cert.InprojRefIdeal.nD Cert.InprojRefIdeal.τ).loc Cert.InprojRefIdeal.main_arg11) = m ((c.tc : Thread Cert.InprojIdeal.nD Cert.InprojIdeal.τ).loc Cert.InprojIdeal.main_arg11)
      ∧ m' ((c.tc : Thread Cert.InprojRefIdeal.nD Cert.InprojRefIdeal.τ).loc Cert.InprojRefIdeal.main_arg12) = m ((c.tc : Thread Cert.InprojIdeal.nD Cert.InprojIdeal.τ).loc Cert.InprojIdeal.main_arg12)
      ∧ m' ((c.tc : Thread Cert.InprojRefIdeal.nD Cert.InprojRefIdeal.τ).loc Cert.InprojRefIdeal.main_arg13) = m ((c.tc : Thread Cert.InprojIdeal.nD Cert.InprojIdeal.τ).loc Cert.InprojIdeal.main_arg13)) →
    ∃ (v0 : (c : Dev Cert.InprojIdeal.nD) → Buf (Elt Ideal) ((c.tc : Thread Cert.InprojIdeal.nD Cert.InprojIdeal.τ).loc Cert.InprojIdeal.main_v0_0)) (v1 : (c : Dev Cert.InprojIdeal.nD) → Buf (Elt Ideal) ((c.tc : Thread Cert.InprojIdeal.nD Cert.InprojIdeal.τ).loc Cert.InprojIdeal.main_v0_1)) (v2 : (c : Dev Cert.InprojIdeal.nD) → Buf (Elt Ideal) ((c.tc : Thread Cert.InprojIdeal.nD Cert.InprojIdeal.τ).loc Cert.InprojIdeal.main_v0_2)) (v3 : (c : Dev Cert.InprojIdeal.nD) → Buf (Elt Ideal) ((c.tc : Thread Cert.InprojIdeal.nD Cert.InprojIdeal.τ).loc Cert.InprojIdeal.main_v0_3)) (v4 : (c : Dev Cert.InprojIdeal.nD) → Buf (Elt Ideal) ((c.tc : Thread Cert.InprojIdeal.nD Cert.InprojIdeal.τ).loc Cert.InprojIdeal.main_v0_4)) (v5 : (c : Dev Cert.InprojIdeal.nD) → Buf (Elt Ideal) ((c.tc : Thread Cert.InprojIdeal.nD Cert.InprojIdeal.τ).loc Cert.InprojIdeal.main_v0_5)) (v6 : (c : Dev Cert.InprojIdeal.nD) → Buf (Elt Ideal) ((c.tc : Thread Cert.InprojIdeal.nD Cert.InprojIdeal.τ).loc Cert.InprojIdeal.main_v0_6)) (v7 : (c : Dev Cert.InprojIdeal.nD) → Buf (Elt Ideal) ((c.tc : Thread Cert.InprojIdeal.nD Cert.InprojIdeal.τ).loc Cert.InprojIdeal.main_v0_7)) (v8 : (c : Dev Cert.InprojIdeal.nD) → Buf (Elt Ideal) ((c.tc : Thread Cert.InprojIdeal.nD Cert.InprojIdeal.τ).loc Cert.InprojIdeal.main_v0_8)) (v9 : (c : Dev Cert.InprojIdeal.nD) → Buf (Elt Ideal) ((c.tc : Thread Cert.InprojIdeal.nD Cert.InprojIdeal.τ).loc Cert.InprojIdeal.main_v0_9)) (v10 : (c : Dev Cert.InprojIdeal.nD) → Buf (Elt Ideal) ((c.tc : Thread Cert.InprojIdeal.nD Cert.InprojIdeal.τ).loc Cert.InprojIdeal.main_v0_10)) (v11 : (c : Dev Cert.InprojIdeal.nD) → Buf (Elt Ideal) ((c.tc : Thread Cert.InprojIdeal.nD Cert.InprojIdeal.τ).loc Cert.InprojIdeal.main_v0_11)) (v12 : (c : Dev Cert.InprojIdeal.nD) → Buf (Elt Ideal) ((c.tc : Thread Cert.InprojIdeal.nD Cert.InprojIdeal.τ).loc Cert.InprojIdeal.main_v0_12)) (v13 : (c : Dev Cert.InprojIdeal.nD) → Buf (Elt Ideal) ((c.tc : Thread Cert.InprojIdeal.nD Cert.InprojIdeal.τ).loc Cert.InprojIdeal.main_v0_13)) (v14 : (c : Dev Cert.InprojIdeal.nD) → Buf (Elt Ideal) ((c.tc : Thread Cert.InprojIdeal.nD Cert.InprojIdeal.τ).loc Cert.InprojIdeal.main_v0_14)) (v15 : (c : Dev Cert.InprojIdeal.nD) → Buf (Elt Ideal) ((c.tc : Thread Cert.InprojIdeal.nD Cert.InprojIdeal.τ).loc Cert.InprojIdeal.main_v0_15)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0_0) = v0 c
          ∧ r.2.mem ((c.tc : Thread Cert.InprojIdeal.nD Cert.InprojIdeal.τ).loc Cert.InprojIdeal.main_v0_1) = v1 c
          ∧ r.2.mem ((c.tc : Thread Cert.InprojIdeal.nD Cert.InprojIdeal.τ).loc Cert.InprojIdeal.main_v0_2) = v2 c
          ∧ r.2.mem ((c.tc : Thread Cert.InprojIdeal.nD Cert.InprojIdeal.τ).loc Cert.InprojIdeal.main_v0_3) = v3 c
          ∧ r.2.mem ((c.tc : Thread Cert.InprojIdeal.nD Cert.InprojIdeal.τ).loc Cert.InprojIdeal.main_v0_4) = v4 c
          ∧ r.2.mem ((c.tc : Thread Cert.InprojIdeal.nD Cert.InprojIdeal.τ).loc Cert.InprojIdeal.main_v0_5) = v5 c
          ∧ r.2.mem ((c.tc : Thread Cert.InprojIdeal.nD Cert.InprojIdeal.τ).loc Cert.InprojIdeal.main_v0_6) = v6 c
          ∧ r.2.mem ((c.tc : Thread Cert.InprojIdeal.nD Cert.InprojIdeal.τ).loc Cert.InprojIdeal.main_v0_7) = v7 c
          ∧ r.2.mem ((c.tc : Thread Cert.InprojIdeal.nD Cert.InprojIdeal.τ).loc Cert.InprojIdeal.main_v0_8) = v8 c
          ∧ r.2.mem ((c.tc : Thread Cert.InprojIdeal.nD Cert.InprojIdeal.τ).loc Cert.InprojIdeal.main_v0_9) = v9 c
          ∧ r.2.mem ((c.tc : Thread Cert.InprojIdeal.nD Cert.InprojIdeal.τ).loc Cert.InprojIdeal.main_v0_10) = v10 c
          ∧ r.2.mem ((c.tc : Thread Cert.InprojIdeal.nD Cert.InprojIdeal.τ).loc Cert.InprojIdeal.main_v0_11) = v11 c
          ∧ r.2.mem ((c.tc : Thread Cert.InprojIdeal.nD Cert.InprojIdeal.τ).loc Cert.InprojIdeal.main_v0_12) = v12 c
          ∧ r.2.mem ((c.tc : Thread Cert.InprojIdeal.nD Cert.InprojIdeal.τ).loc Cert.InprojIdeal.main_v0_13) = v13 c
          ∧ r.2.mem ((c.tc : Thread Cert.InprojIdeal.nD Cert.InprojIdeal.τ).loc Cert.InprojIdeal.main_v0_14) = v14 c
          ∧ r.2.mem ((c.tc : Thread Cert.InprojIdeal.nD Cert.InprojIdeal.τ).loc Cert.InprojIdeal.main_v0_15) = v15 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
          ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
          ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
          ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
          ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12)
          ∧ r.2.mem ((c.tc : Thread Cert.InprojIdeal.nD Cert.InprojIdeal.τ).loc Cert.InprojIdeal.main_arg13) = m ((c.tc : Thread Cert.InprojIdeal.nD Cert.InprojIdeal.τ).loc Cert.InprojIdeal.main_arg13))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v94) = v0 c
          ∧ r.2.mem ((c.tc : Thread Cert.InprojRefIdeal.nD Cert.InprojRefIdeal.τ).loc Cert.InprojRefIdeal.main_v95) = v1 c
          ∧ r.2.mem ((c.tc : Thread Cert.InprojRefIdeal.nD Cert.InprojRefIdeal.τ).loc Cert.InprojRefIdeal.main_v96) = v2 c
          ∧ r.2.mem ((c.tc : Thread Cert.InprojRefIdeal.nD Cert.InprojRefIdeal.τ).loc Cert.InprojRefIdeal.main_v98) = v3 c
          ∧ r.2.mem ((c.tc : Thread Cert.InprojRefIdeal.nD Cert.InprojRefIdeal.τ).loc Cert.InprojRefIdeal.main_v100) = v4 c
          ∧ r.2.mem ((c.tc : Thread Cert.InprojRefIdeal.nD Cert.InprojRefIdeal.τ).loc Cert.InprojRefIdeal.main_v56) = v5 c
          ∧ r.2.mem ((c.tc : Thread Cert.InprojRefIdeal.nD Cert.InprojRefIdeal.τ).loc Cert.InprojRefIdeal.main_v101) = v6 c
          ∧ r.2.mem ((c.tc : Thread Cert.InprojRefIdeal.nD Cert.InprojRefIdeal.τ).loc Cert.InprojRefIdeal.main_v102) = v7 c
          ∧ r.2.mem ((c.tc : Thread Cert.InprojRefIdeal.nD Cert.InprojRefIdeal.τ).loc Cert.InprojRefIdeal.main_v103) = v8 c
          ∧ r.2.mem ((c.tc : Thread Cert.InprojRefIdeal.nD Cert.InprojRefIdeal.τ).loc Cert.InprojRefIdeal.main_v104) = v9 c
          ∧ r.2.mem ((c.tc : Thread Cert.InprojRefIdeal.nD Cert.InprojRefIdeal.τ).loc Cert.InprojRefIdeal.main_v108) = v10 c
          ∧ r.2.mem ((c.tc : Thread Cert.InprojRefIdeal.nD Cert.InprojRefIdeal.τ).loc Cert.InprojRefIdeal.main_v110) = v11 c
          ∧ r.2.mem ((c.tc : Thread Cert.InprojRefIdeal.nD Cert.InprojRefIdeal.τ).loc Cert.InprojRefIdeal.main_v112) = v12 c
          ∧ r.2.mem ((c.tc : Thread Cert.InprojRefIdeal.nD Cert.InprojRefIdeal.τ).loc Cert.InprojRefIdeal.main_v114) = v13 c
          ∧ r.2.mem ((c.tc : Thread Cert.InprojRefIdeal.nD Cert.InprojRefIdeal.τ).loc Cert.InprojRefIdeal.main_v115) = v14 c
          ∧ r.2.mem ((c.tc : Thread Cert.InprojRefIdeal.nD Cert.InprojRefIdeal.τ).loc Cert.InprojRefIdeal.main_v116) = v15 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8)
          ∧ r.2.mem ((c.tc : Thread Cert.InprojRefIdeal.nD Cert.InprojRefIdeal.τ).loc Cert.InprojRefIdeal.main_arg9) = m' ((c.tc : Thread Cert.InprojRefIdeal.nD Cert.InprojRefIdeal.τ).loc Cert.InprojRefIdeal.main_arg9)
          ∧ r.2.mem ((c.tc : Thread Cert.InprojRefIdeal.nD Cert.InprojRefIdeal.τ).loc Cert.InprojRefIdeal.main_arg10) = m' ((c.tc : Thread Cert.InprojRefIdeal.nD Cert.InprojRefIdeal.τ).loc Cert.InprojRefIdeal.main_arg10)
          ∧ r.2.mem ((c.tc : Thread Cert.InprojRefIdeal.nD Cert.InprojRefIdeal.τ).loc Cert.InprojRefIdeal.main_arg11) = m' ((c.tc : Thread Cert.InprojRefIdeal.nD Cert.InprojRefIdeal.τ).loc Cert.InprojRefIdeal.main_arg11)
          ∧ r.2.mem ((c.tc : Thread Cert.InprojRefIdeal.nD Cert.InprojRefIdeal.τ).loc Cert.InprojRefIdeal.main_arg12) = m' ((c.tc : Thread Cert.InprojRefIdeal.nD Cert.InprojRefIdeal.τ).loc Cert.InprojRefIdeal.main_arg12)
          ∧ r.2.mem ((c.tc : Thread Cert.InprojRefIdeal.nD Cert.InprojRefIdeal.τ).loc Cert.InprojRefIdeal.main_arg13) = m' ((c.tc : Thread Cert.InprojRefIdeal.nD Cert.InprojRefIdeal.τ).loc Cert.InprojRefIdeal.main_arg13))

def Claim : Prop :=
  ∃ (hSfive : Cert.Sfive.Facts) (hSfiveIdeal : Cert.SfiveIdeal.Facts) (hSfiveRefIdeal : Cert.SfiveRefIdeal.Facts) (hMerge : Cert.Merge.Facts) (hMergeIdeal : Cert.MergeIdeal.Facts) (hMergeRefIdeal : Cert.MergeRefIdeal.Facts) (hInproj : Cert.Inproj.Facts) (hInprojIdeal : Cert.InprojIdeal.Facts) (hInprojRefIdeal : Cert.InprojRefIdeal.Facts),
    quiescent_Sfive (hSfive := hSfive)
    ∧ quiescent_SfiveIdeal (hSfiveIdeal := hSfiveIdeal)
    ∧ quiescent_SfiveRefIdeal (hSfiveRefIdeal := hSfiveRefIdeal)
    ∧ quiescent_Merge (hMerge := hMerge)
    ∧ quiescent_MergeIdeal (hMergeIdeal := hMergeIdeal)
    ∧ quiescent_MergeRefIdeal (hMergeRefIdeal := hMergeRefIdeal)
    ∧ quiescent_Inproj (hInproj := hInproj)
    ∧ quiescent_InprojIdeal (hInprojIdeal := hInprojIdeal)
    ∧ quiescent_InprojRefIdeal (hInprojRefIdeal := hInprojRefIdeal)
    ∧ preserves_Sfive_SfiveIdeal
    ∧ algebraic_SfiveIdeal_SfiveRefIdeal (hSfiveIdeal := hSfiveIdeal) (hSfiveRefIdeal := hSfiveRefIdeal)
    ∧ preserves_Merge_MergeIdeal
    ∧ algebraic_MergeIdeal_MergeRefIdeal (hMergeIdeal := hMergeIdeal) (hMergeRefIdeal := hMergeRefIdeal)
    ∧ preserves_Inproj_InprojIdeal
    ∧ algebraic_InprojIdeal_InprojRefIdeal (hInprojIdeal := hInprojIdeal) (hInprojRefIdeal := hInprojRefIdeal)
-- ==== Sfive.lean ====
abbrev S8x4096x256 : Shape := ⟨3, ![8, 4096, 256]⟩
abbrev S256x2048 : Shape := ⟨2, ![256, 2048]⟩
abbrev S2x1024 : Shape := ⟨2, ![2, 1024]⟩
abbrev S2048x256 : Shape := ⟨2, ![2048, 256]⟩
abbrev S1x256 : Shape := ⟨2, ![1, 256]⟩
abbrev S256x512 : Shape := ⟨2, ![256, 512]⟩
abbrev S1x512 : Shape := ⟨2, ![1, 512]⟩
abbrev S8x128x256 : Shape := ⟨3, ![8, 128, 256]⟩
abbrev S16x1024x128 : Shape := ⟨3, ![16, 1024, 128]⟩
abbrev S8x2048 : Shape := ⟨2, ![8, 2048]⟩
abbrev S1x128x256 : Shape := ⟨3, ![1, 128, 256]⟩
abbrev S128x256 : Shape := ⟨2, ![128, 256]⟩
abbrev S128x2048 : Shape := ⟨2, ![128, 2048]⟩
abbrev S128x128 : Shape := ⟨2, ![128, 128]⟩
abbrev S1x128x128 : Shape := ⟨3, ![1, 128, 128]⟩
abbrev S1x1024 : Shape := ⟨2, ![1, 1024]⟩
abbrev S8x1024 : Shape := ⟨2, ![8, 1024]⟩
abbrev S1x8x128 : Shape := ⟨3, ![1, 8, 128]⟩
abbrev S8x128 : Shape := ⟨2, ![8, 128]⟩
abbrev S128x512 : Shape := ⟨2, ![128, 512]⟩

abbrev nBuf : Space → Nat
  | .hbm => 9
  | .vmem => 14
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S256x2048, .bf16⟩
  | .hbm, ⟨3, _⟩ => ⟨S2x1024, .f32⟩
  | .hbm, ⟨4, _⟩ => ⟨S2048x256, .bf16⟩
  | .hbm, ⟨5, _⟩ => ⟨S1x256, .f32⟩
  | .hbm, ⟨6, _⟩ => ⟨S256x512, .bf16⟩
  | .hbm, ⟨7, _⟩ => ⟨S1x512, .f32⟩
  | .hbm, ⟨8, _⟩ => ⟨S8x4096x256, .bf16⟩
  | .local _ .vmem, ⟨0, _⟩ => ⟨S8x128x256, .f32⟩
  | .local _ .vmem, ⟨1, _⟩ => ⟨S8x128x256, .f32⟩
  | .local _ .vmem, ⟨2, _⟩ => ⟨S8x128x256, .f32⟩
  | .local _ .vmem, ⟨3, _⟩ => ⟨S8x128x256, .f32⟩
  | .local _ .vmem, ⟨4, _⟩ => ⟨S256x2048, .bf16⟩
  | .local _ .vmem, ⟨5, _⟩ => ⟨S2x1024, .f32⟩
  | .local _ .vmem, ⟨6, _⟩ => ⟨S2048x256, .bf16⟩
  | .local _ .vmem, ⟨7, _⟩ => ⟨S1x256, .f32⟩
  | .local _ .vmem, ⟨8, _⟩ => ⟨S256x512, .bf16⟩
  | .local _ .vmem, ⟨9, _⟩ => ⟨S1x512, .f32⟩
  | .local _ .vmem, ⟨10, _⟩ => ⟨S8x128x256, .bf16⟩
  | .local _ .vmem, ⟨11, _⟩ => ⟨S8x128x256, .bf16⟩
  | .local _ .vmem, ⟨12, _⟩ => ⟨S16x1024x128, .f32⟩
  | .local _ .vmem, ⟨13, _⟩ => ⟨S8x2048, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_422 : BitVec 32 := 0#32
  let c128_i32 : BitVec 32 := 128#32
  let v564 : BitVec 32 := Scalar.addi c0_i32_422 c128_i32
  let c1_i32 : BitVec 32 := 1#32
  ⟨c0_i32_422, v564, c1_i32⟩
def k0_mult1 (k0_t1 : Fin k0_t1_loop.trips) : BitVec 32 :=
  let c0_i32_422 : BitVec 32 := 0#32
  let c1_i32 : BitVec 32 := 1#32
  let arg12 : BitVec 32 := Scf.iv c0_i32_422 c1_i32 k0_t1
  let c8_i32 : BitVec 32 := 8#32
  let v1090 : BitVec 32 := Scalar.muli arg12 c8_i32
  v1090
def k0_off1 (k0_t1 : Fin k0_t1_loop.trips) : Fin 3 → Nat :=
  let c0_986 : Index := 0#32
  let c0_i32_422 : BitVec 32 := 0#32
  let c1_i32 : BitVec 32 := 1#32
  let arg12 : BitVec 32 := Scf.iv c0_i32_422 c1_i32 k0_t1
  let c8_i32 : BitVec 32 := 8#32
  let v1090 : BitVec 32 := Scalar.muli arg12 c8_i32
  let v1091 : BitVec 32 := v1090
  let v1092 : Index := Scalar.indexCast v1091
  let c0_987 : Index := 0#32
  ![0, v1092.toNat, 0]
def k0_off2 (k0_t1 : Fin k0_t1_loop.trips) : Fin 3 → Nat :=
  let c1_988 : Index := 1#32
  let c0_i32_422 : BitVec 32 := 0#32
  let c1_i32 : BitVec 32 := 1#32
  let arg12 : BitVec 32 := Scf.iv c0_i32_422 c1_i32 k0_t1
  let c8_i32 : BitVec 32 := 8#32
  let v1090 : BitVec 32 := Scalar.muli arg12 c8_i32
  let v1091 : BitVec 32 := v1090
  let v1095 : Index := Scalar.indexCast v1091
  let c0_989 : Index := 0#32
  ![1, v1095.toNat, 0]
def k0_off3 (k0_t1 : Fin k0_t1_loop.trips) : Fin 3 → Nat :=
  let c2_990 : Index := 2#32
  let c0_i32_422 : BitVec 32 := 0#32
  let c1_i32 : BitVec 32 := 1#32
  let arg12 : BitVec 32 := Scf.iv c0_i32_422 c1_i32 k0_t1
  let c8_i32 : BitVec 32 := 8#32
  let v1090 : BitVec 32 := Scalar.muli arg12 c8_i32
  let v1091 : BitVec 32 := v1090
  let v1098 : Index := Scalar.indexCast v1091
  let c0_991 : Index := 0#32
  ![2, v1098.toNat, 0]
def k0_off4 (k0_t1 : Fin k0_t1_loop.trips) : Fin 3 → Nat :=
  let c3_992 : Index := 3#32
  let c0_i32_422 : BitVec 32 := 0#32
  let c1_i32 : BitVec 32 := 1#32
  let arg12 : BitVec 32 := Scf.iv c0_i32_422 c1_i32 k0_t1
  let c8_i32 : BitVec 32 := 8#32
  let v1090 : BitVec 32 := Scalar.muli arg12 c8_i32
  let v1091 : BitVec 32 := v1090
  let v1101 : Index := Scalar.indexCast v1091
  let c0_993 : Index := 0#32
  ![3, v1101.toNat, 0]
def k0_off5 (k0_t1 : Fin k0_t1_loop.trips) : Fin 3 → Nat :=
  let c4_994 : Index := 4#32
  let c0_i32_422 : BitVec 32 := 0#32
  let c1_i32 : BitVec 32 := 1#32
  let arg12 : BitVec 32 := Scf.iv c0_i32_422 c1_i32 k0_t1
  let c8_i32 : BitVec 32 := 8#32
  let v1090 : BitVec 32 := Scalar.muli arg12 c8_i32
  let v1091 : BitVec 32 := v1090
  let v1104 : Index := Scalar.indexCast v1091
  let c0_995 : Index := 0#32
  ![4, v1104.toNat, 0]
def k0_off6 (k0_t1 : Fin k0_t1_loop.trips) : Fin 3 → Nat :=
  let c5_996 : Index := 5#32
  let c0_i32_422 : BitVec 32 := 0#32
  let c1_i32 : BitVec 32 := 1#32
  let arg12 : BitVec 32 := Scf.iv c0_i32_422 c1_i32 k0_t1
  let c8_i32 : BitVec 32 := 8#32
  let v1090 : BitVec 32 := Scalar.muli arg12 c8_i32
  let v1091 : BitVec 32 := v1090
  let v1107 : Index := Scalar.indexCast v1091
  let c0_997 : Index := 0#32
  ![5, v1107.toNat, 0]
def k0_off7 (k0_t1 : Fin k0_t1_loop.trips) : Fin 3 → Nat :=
  let c6_998 : Index := 6#32
  let c0_i32_422 : BitVec 32 := 0#32
  let c1_i32 : BitVec 32 := 1#32
  let arg12 : BitVec 32 := Scf.iv c0_i32_422 c1_i32 k0_t1
  let c8_i32 : BitVec 32 := 8#32
  let v1090 : BitVec 32 := Scalar.muli arg12 c8_i32
  let v1091 : BitVec 32 := v1090
  let v1110 : Index := Scalar.indexCast v1091
  let c0_999 : Index := 0#32
  ![6, v1110.toNat, 0]
def k0_off8 (k0_t1 : Fin k0_t1_loop.trips) : Fin 3 → Nat :=
  let c7_1000 : Index := 7#32
  let c0_i32_422 : BitVec 32 := 0#32
  let c1_i32 : BitVec 32 := 1#32
  let arg12 : BitVec 32 := Scf.iv c0_i32_422 c1_i32 k0_t1
  let c8_i32 : BitVec 32 := 8#32
  let v1090 : BitVec 32 := Scalar.muli arg12 c8_i32
  let v1091 : BitVec 32 := v1090
  let v1113 : Index := Scalar.indexCast v1091
  let c0_1001 : Index := 0#32
  ![7, v1113.toNat, 0]
def k0_off9 (k0_t1 : Fin k0_t1_loop.trips) : Fin 3 → Nat :=
  let c8_1002 : Index := 8#32
  let c0_i32_422 : BitVec 32 := 0#32
  let c1_i32 : BitVec 32 := 1#32
  let arg12 : BitVec 32 := Scf.iv c0_i32_422 c1_i32 k0_t1
  let c8_i32 : BitVec 32 := 8#32
  let v1090 : BitVec 32 := Scalar.muli arg12 c8_i32
  let v1091 : BitVec 32 := v1090
  let v1116 : Index := Scalar.indexCast v1091
  let c0_1003 : Index := 0#32
  ![8, v1116.toNat, 0]
def k0_off10 (k0_t1 : Fin k0_t1_loop.trips) : Fin 3 → Nat :=
  let c9_1004 : Index := 9#32
  let c0_i32_422 : BitVec 32 := 0#32
  let c1_i32 : BitVec 32 := 1#32
  let arg12 : BitVec 32 := Scf.iv c0_i32_422 c1_i32 k0_t1
  let c8_i32 : BitVec 32 := 8#32
  let v1090 : BitVec 32 := Scalar.muli arg12 c8_i32
  let v1091 : BitVec 32 := v1090
  let v1119 : Index := Scalar.indexCast v1091
  let c0_1005 : Index := 0#32
  ![9, v1119.toNat, 0]
def k0_off11 (k0_t1 : Fin k0_t1_loop.trips) : Fin 3 → Nat :=
  let c10_1006 : Index := 10#32
  let c0_i32_422 : BitVec 32 := 0#32
  let c1_i32 : BitVec 32 := 1#32
  let arg12 : BitVec 32 := Scf.iv c0_i32_422 c1_i32 k0_t1
  let c8_i32 : BitVec 32 := 8#32
  let v1090 : BitVec 32 := Scalar.muli arg12 c8_i32
  let v1091 : BitVec 32 := v1090
  let v1122 : Index := Scalar.indexCast v1091
  let c0_1007 : Index := 0#32
  ![10, v1122.toNat, 0]
def k0_off12 (k0_t1 : Fin k0_t1_loop.trips) : Fin 3 → Nat :=
  let c11_1008 : Index := 11#32
  let c0_i32_422 : BitVec 32 := 0#32
  let c1_i32 : BitVec 32 := 1#32
  let arg12 : BitVec 32 := Scf.iv c0_i32_422 c1_i32 k0_t1
  let c8_i32 : BitVec 32 := 8#32
  let v1090 : BitVec 32 := Scalar.muli arg12 c8_i32
  let v1091 : BitVec 32 := v1090
  let v1125 : Index := Scalar.indexCast v1091
  let c0_1009 : Index := 0#32
  ![11, v1125.toNat, 0]
def k0_off13 (k0_t1 : Fin k0_t1_loop.trips) : Fin 3 → Nat :=
  let c12_1010 : Index := 12#32
  let c0_i32_422 : BitVec 32 := 0#32
  let c1_i32 : BitVec 32 := 1#32
  let arg12 : BitVec 32 := Scf.iv c0_i32_422 c1_i32 k0_t1
  let c8_i32 : BitVec 32 := 8#32
  let v1090 : BitVec 32 := Scalar.muli arg12 c8_i32
  let v1091 : BitVec 32 := v1090
  let v1128 : Index := Scalar.indexCast v1091
  let c0_1011 : Index := 0#32
  ![12, v1128.toNat, 0]
def k0_off14 (k0_t1 : Fin k0_t1_loop.trips) : Fin 3 → Nat :=
  let c13_1012 : Index := 13#32
  let c0_i32_422 : BitVec 32 := 0#32
  let c1_i32 : BitVec 32 := 1#32
  let arg12 : BitVec 32 := Scf.iv c0_i32_422 c1_i32 k0_t1
  let c8_i32 : BitVec 32 := 8#32
  let v1090 : BitVec 32 := Scalar.muli arg12 c8_i32
  let v1091 : BitVec 32 := v1090
  let v1131 : Index := Scalar.indexCast v1091
  let c0_1013 : Index := 0#32
  ![13, v1131.toNat, 0]
def k0_off15 (k0_t1 : Fin k0_t1_loop.trips) : Fin 3 → Nat :=
  let c14_1014 : Index := 14#32
  let c0_i32_422 : BitVec 32 := 0#32
  let c1_i32 : BitVec 32 := 1#32
  let arg12 : BitVec 32 := Scf.iv c0_i32_422 c1_i32 k0_t1
  let c8_i32 : BitVec 32 := 8#32
  let v1090 : BitVec 32 := Scalar.muli arg12 c8_i32
  let v1091 : BitVec 32 := v1090
  let v1134 : Index := Scalar.indexCast v1091
  let c0_1015 : Index := 0#32
  ![14, v1134.toNat, 0]
def k0_off16 (k0_t1 : Fin k0_t1_loop.trips) : Fin 3 → Nat :=
  let c15_1016 : Index := 15#32
  let c0_i32_422 : BitVec 32 := 0#32
  let c1_i32 : BitVec 32 := 1#32
  let arg12 : BitVec 32 := Scf.iv c0_i32_422 c1_i32 k0_t1
  let c8_i32 : BitVec 32 := 8#32
  let v1090 : BitVec 32 := Scalar.muli arg12 c8_i32
  let v1091 : BitVec 32 := v1090
  let v1137 : Index := Scalar.indexCast v1091
  let c0_1017 : Index := 0#32
  ![15, v1137.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SfiveRefIdeal.lean ====
abbrev S8x4096x256 : Shape := ⟨3, ![8, 4096, 256]⟩
abbrev S256x2048 : Shape := ⟨2, ![256, 2048]⟩
abbrev S2x1024 : Shape := ⟨2, ![2, 1024]⟩
abbrev S2048x256 : Shape := ⟨2, ![2048, 256]⟩
abbrev S1x256 : Shape := ⟨2, ![1, 256]⟩
abbrev S256x512 : Shape := ⟨2, ![256, 512]⟩
abbrev S1x512 : Shape := ⟨2, ![1, 512]⟩
abbrev S8x4096x2048 : Shape := ⟨3, ![8, 4096, 2048]⟩
abbrev S_ : Shape := ⟨0, ![]⟩
abbrev S8x1024 : Shape := ⟨2, ![8, 1024]⟩
abbrev S8x1x2048 : Shape := ⟨3, ![8, 1, 2048]⟩
abbrev S8x2048 : Shape := ⟨2, ![8, 2048]⟩
abbrev S1x1024 : Shape := ⟨2, ![1, 1024]⟩
abbrev S1024 : Shape := ⟨1, ![1024]⟩
abbrev S1x1x256 : Shape := ⟨3, ![1, 1, 256]⟩
abbrev S8x4096x512 : Shape := ⟨3, ![8, 4096, 512]⟩
abbrev S1x1x512 : Shape := ⟨3, ![1, 1, 512]⟩

abbrev nBuf : Space → Nat
  | .hbm => 97
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S256x2048, .bf16⟩
  | .hbm, ⟨3, _⟩ => ⟨S2x1024, .f32⟩
  | .hbm, ⟨4, _⟩ => ⟨S2048x256, .bf16⟩
  | .hbm, ⟨5, _⟩ => ⟨S1x256, .f32⟩
  | .hbm, ⟨6, _⟩ => ⟨S256x512, .bf16⟩
  | .hbm, ⟨7, _⟩ => ⟨S1x512, .f32⟩
  | .hbm, ⟨8, _⟩ => ⟨S256x2048, .f32⟩
  | .hbm, ⟨9, _⟩ => ⟨S8x4096x2048, .f32⟩
  | .hbm, ⟨10, _⟩ => ⟨S_, .f32⟩
  | .hbm, ⟨11, _⟩ => ⟨S8x1024, .f32⟩
  | .hbm, ⟨12, _⟩ => ⟨S_, .f32⟩
  | .hbm, ⟨13, _⟩ => ⟨S8x4096x2048, .f32⟩
  | .hbm, ⟨14, _⟩ => ⟨S_, .i32⟩
  | .hbm, ⟨15, _⟩ => ⟨S_, .i32⟩
  | .hbm, ⟨16, _⟩ => ⟨S8x4096x2048, .f32⟩
  | .hbm, ⟨17, _⟩ => ⟨S2x1024, .f32⟩
  | .hbm, ⟨18, _⟩ => ⟨S_, .i32⟩
  | .hbm, ⟨19, _⟩ => ⟨S_, .i32⟩
  | .hbm, ⟨20, _⟩ => ⟨S8x1024, .f32⟩
  | .hbm, ⟨21, _⟩ => ⟨S8x1024, .f32⟩
  | .hbm, ⟨22, _⟩ => ⟨S8x4096x2048, .f32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S8x1x2048, .f32⟩
  | .hbm, ⟨36, _⟩ => ⟨S8x2048, .f32⟩
  | .hbm, ⟨37, _⟩ => ⟨S1x1024, .f32⟩
  | .hbm, ⟨38, _⟩ => ⟨S1024, .f32⟩
  | .hbm, ⟨39, _⟩ => ⟨S1x1024, .f32⟩
  | .hbm, ⟨40, _⟩ => ⟨S8x1024, .f32⟩
  | .hbm, ⟨41, _⟩ => ⟨S8x1024, .f32⟩
  | .hbm, ⟨42, _⟩ => ⟨S1x1024, .f32⟩
  | .hbm, ⟨43, _⟩ => ⟨S1024, .f32⟩
  | .hbm, ⟨44, _⟩ => ⟨S1x1024, .f32⟩
  | .hbm, ⟨45, _⟩ => ⟨S8x1024, .f32⟩
  | .hbm, ⟨46, _⟩ => ⟨S8x1024, .f32⟩
  | .hbm, ⟨47, _⟩ => ⟨S8x1024, .f32⟩
  | .hbm, ⟨48, _⟩ => ⟨S8x1024, .f32⟩
  | .hbm, ⟨49, _⟩ => ⟨S8x1024, .f32⟩
  | .hbm, ⟨50, _⟩ => ⟨S1x1024, .f32⟩
  | .hbm, ⟨51, _⟩ => ⟨S1024, .f32⟩
  | .hbm, ⟨52, _⟩ => ⟨S1x1024, .f32⟩
  | .hbm, ⟨53, _⟩ => ⟨S8x1024, .f32⟩
  | .hbm, ⟨54, _⟩ => ⟨S8x1024, .f32⟩
  | .hbm, ⟨55, _⟩ => ⟨S1x1024, .f32⟩
  | .hbm, ⟨56, _⟩ => ⟨S1024, .f32⟩
  | .hbm, ⟨57, _⟩ => ⟨S1x1024, .f32⟩
  | .hbm, ⟨58, _⟩ => ⟨S8x1024, .f32⟩
  | .hbm, ⟨59, _⟩ => ⟨S8x1024, .f32⟩
  | .hbm, ⟨60, _⟩ => ⟨S8x1024, .f32⟩
  | .hbm, ⟨61, _⟩ => ⟨S8x1024, .f32⟩
  | .hbm, ⟨62, _⟩ => ⟨S8x1024, .f32⟩
  | .hbm, ⟨63, _⟩ => ⟨S8x2048, .f32⟩
  | .hbm, ⟨64, _⟩ => ⟨S8x4096x2048, .i32⟩
  | .hbm, ⟨65, _⟩ => ⟨S_, .i32⟩
  | .hbm, ⟨66, _⟩ => ⟨S8x4096x2048, .i32⟩
  | .hbm, ⟨67, _⟩ => ⟨S8x4096x2048, .i1⟩
  | .hbm, ⟨68, _⟩ => ⟨S8x1x2048, .f32⟩
  | .hbm, ⟨69, _⟩ => ⟨S8x4096x2048, .f32⟩
  | .hbm, ⟨70, _⟩ => ⟨S8x4096x2048, .f32⟩
  | .hbm, ⟨71, _⟩ => ⟨S_, .i32⟩
  | .hbm, ⟨72, _⟩ => ⟨S_, .i32⟩
  | .hbm, ⟨73, _⟩ => ⟨S2048x256, .f32⟩
  | .hbm, ⟨74, _⟩ => ⟨S8x4096x256, .f32⟩
  | .hbm, ⟨75, _⟩ => ⟨S1x1x256, .f32⟩
  | .hbm, ⟨76, _⟩ => ⟨S8x4096x256, .f32⟩
  | .hbm, ⟨77, _⟩ => ⟨S8x4096x256, .f32⟩
  | .hbm, ⟨78, _⟩ => ⟨S8x4096x256, .f32⟩
  | .hbm, ⟨79, _⟩ => ⟨S256x512, .f32⟩
  | .hbm, ⟨80, _⟩ => ⟨S8x4096x512, .f32⟩
  | .hbm, ⟨81, _⟩ => ⟨S1x1x512, .f32⟩
  | .hbm, ⟨82, _⟩ => ⟨S8x4096x512, .f32⟩
  | .hbm, ⟨83, _⟩ => ⟨S8x4096x512, .f32⟩
  | .hbm, ⟨84, _⟩ => ⟨S8x4096x256, .f32⟩
  | .hbm, ⟨85, _⟩ => ⟨S8x4096x256, .f32⟩
  | .hbm, ⟨86, _⟩ => ⟨S8x4096x256, .f32⟩
  | .hbm, ⟨87, _⟩ => ⟨S8x4096x256, .f32⟩
  | .hbm, ⟨88, _⟩ => ⟨S_, .f32⟩
  | .hbm, ⟨89, _⟩ => ⟨S8x4096x256, .f32⟩
  | .hbm, ⟨90, _⟩ => ⟨S8x4096x256, .f32⟩
  | .hbm, ⟨91, _⟩ => ⟨S_, .f32⟩
  | .hbm, ⟨92, _⟩ => ⟨S8x4096x256, .f32⟩
  | .hbm, ⟨93, _⟩ => ⟨S8x4096x256, .f32⟩
  | .hbm, ⟨94, _⟩ => ⟨S8x4096x256, .f32⟩
  | .hbm, ⟨95, _⟩ => ⟨S8x4096x256, .f32⟩
  | .hbm, ⟨96, _⟩ => ⟨S8x4096x256, .bf16⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_c : Ref sig .tc := ⟨.hbm, 14, rfl⟩
abbrev main_c_1 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v4_3 : Ref sig .tc := ⟨.hbm, 19, rfl⟩
abbrev main_v4_4 : Ref sig .tc := ⟨.hbm, 20, rfl⟩
abbrev main_v4_5 : Ref sig .tc := ⟨.hbm, 21, rfl⟩
abbrev main_v4_6 : Ref sig .tc := ⟨.hbm, 22, rfl⟩
abbrev main_while0c_c_10 : Ref sig .tc := ⟨.hbm, 23, rfl⟩
abbrev main_while0c_v27 : Ref sig .tc := ⟨.hbm, 24, rfl⟩
abbrev main_while0b_c_10 : Ref sig .tc := ⟨.hbm, 25, rfl⟩
abbrev main_while0b_v27 : Ref sig .tc := ⟨.hbm, 26, rfl⟩
abbrev main_while0b_c_11 : Ref sig .tc := ⟨.hbm, 27, rfl⟩
abbrev main_while0b_v28 : Ref sig .tc := ⟨.hbm, 28, rfl⟩
abbrev main_while0b_v29 : Ref sig .tc := ⟨.hbm, 29, rfl⟩
abbrev main_while0b_c_12 : Ref sig .tc := ⟨.hbm, 30, rfl⟩
abbrev main_while0b_v30 : Ref sig .tc := ⟨.hbm, 31, rfl⟩
abbrev main_while0b_v31 : Ref sig .tc := ⟨.hbm, 32, rfl⟩
abbrev main_while0b_c_13 : Ref sig .tc := ⟨.hbm, 33, rfl⟩
abbrev main_while0b_c_14 : Ref sig .tc := ⟨.hbm, 34, rfl⟩
abbrev main_while0b_v32 : Ref sig .tc := ⟨.hbm, 35, rfl⟩
abbrev main_while0b_v33 : Ref sig .tc := ⟨.hbm, 36, rfl⟩
abbrev main_while0b_v34 : Ref sig .tc := ⟨.hbm, 37, rfl⟩
abbrev main_while0b_v35 : Ref sig .tc := ⟨.hbm, 38, rfl⟩
abbrev main_while0b_v36 : Ref sig .tc := ⟨.hbm, 39, rfl⟩
abbrev main_while0b_v37 : Ref sig .tc := ⟨.hbm, 40, rfl⟩
abbrev main_while0b_v38 : Ref sig .tc := ⟨.hbm, 41, rfl⟩
abbrev main_while0b_v39 : Ref sig .tc := ⟨.hbm, 42, rfl⟩
abbrev main_while0b_v40 : Ref sig .tc := ⟨.hbm, 43, rfl⟩
abbrev main_while0b_v41 : Ref sig .tc := ⟨.hbm, 44, rfl⟩
abbrev main_while0b_v42 : Ref sig .tc := ⟨.hbm, 45, rfl⟩
abbrev main_while0b_v43 : Ref sig .tc := ⟨.hbm, 46, rfl⟩
abbrev main_while0b_v44 : Ref sig .tc := ⟨.hbm, 47, rfl⟩
abbrev main_while0b_v45 : Ref sig .tc := ⟨.hbm, 48, rfl⟩
abbrev main_while0b_v46 : Ref sig .tc := ⟨.hbm, 49, rfl⟩
abbrev main_while0b_v47 : Ref sig .tc := ⟨.hbm, 50, rfl⟩
abbrev main_while0b_v48 : Ref sig .tc := ⟨.hbm, 51, rfl⟩
abbrev main_while0b_v49 : Ref sig .tc := ⟨.hbm, 52, rfl⟩
abbrev main_while0b_v50 : Ref sig .tc := ⟨.hbm, 53, rfl⟩
abbrev main_while0b_v51 : Ref sig .tc := ⟨.hbm, 54, rfl⟩
abbrev main_while0b_v52 : Ref sig .tc := ⟨.hbm, 55, rfl⟩
abbrev main_while0b_v53 : Ref sig .tc := ⟨.hbm, 56, rfl⟩
abbrev main_while0b_v54 : Ref sig .tc := ⟨.hbm, 57, rfl⟩
abbrev main_while0b_v55 : Ref sig .tc := ⟨.hbm, 58, rfl⟩
abbrev main_while0b_v56 : Ref sig .tc := ⟨.hbm, 59, rfl⟩
abbrev main_while0b_v57 : Ref sig .tc := ⟨.hbm, 60, rfl⟩
abbrev main_while0b_v58 : Ref sig .tc := ⟨.hbm, 61, rfl⟩
abbrev main_while0b_v59 : Ref sig .tc := ⟨.hbm, 62, rfl⟩
abbrev main_while0b_v60 : Ref sig .tc := ⟨.hbm, 63, rfl⟩
abbrev main_while0b_v61 : Ref sig .tc := ⟨.hbm, 64, rfl⟩
abbrev main_while0b_v62 : Ref sig .tc := ⟨.hbm, 65, rfl⟩
abbrev main_while0b_v63 : Ref sig .tc := ⟨.hbm, 66, rfl⟩
abbrev main_while0b_v64 : Ref sig .tc := ⟨.hbm, 67, rfl⟩
abbrev main_while0b_v65 : Ref sig .tc := ⟨.hbm, 68, rfl⟩
abbrev main_while0b_call0_v0 : Ref sig .tc := ⟨.hbm, 69, rfl⟩
abbrev main_while0b_v66 : Ref sig .tc := ⟨.hbm, 70, rfl⟩
abbrev main_while0b_c_15 : Ref sig .tc := ⟨.hbm, 71, rfl⟩
abbrev main_while0b_v67 : Ref sig .tc := ⟨.hbm, 72, rfl⟩
abbrev main_v5 : Ref sig .tc := ⟨.hbm, 73, rfl⟩
abbrev main_v6 : Ref sig .tc := ⟨.hbm, 74, rfl⟩
abbrev main_v7 : Ref sig .tc := ⟨.hbm, 75, rfl⟩
abbrev main_v8 : Ref sig .tc := ⟨.hbm, 76, rfl⟩
abbrev main_v9 : Ref sig .tc := ⟨.hbm, 77, rfl⟩
abbrev main_v10 : Ref sig .tc := ⟨.hbm, 78, rfl⟩
abbrev main_v11 : Ref sig .tc := ⟨.hbm, 79, rfl⟩
abbrev main_v12 : Ref sig .tc := ⟨.hbm, 80, rfl⟩
abbrev main_v13 : Ref sig .tc := ⟨.hbm, 81, rfl⟩
abbrev main_v14 : Ref sig .tc := ⟨.hbm, 82, rfl⟩
abbrev main_v15 : Ref sig .tc := ⟨.hbm, 83, rfl⟩
abbrev main_v16 : Ref sig .tc := ⟨.hbm, 84, rfl⟩
abbrev main_v17 : Ref sig .tc := ⟨.hbm, 85, rfl⟩
abbrev main_v18 : Ref sig .tc := ⟨.hbm, 86, rfl⟩
abbrev main_v19 : Ref sig .tc := ⟨.hbm, 87, rfl⟩
abbrev main_cst_2 : Ref sig .tc := ⟨.hbm, 88, rfl⟩
abbrev main_v20 : Ref sig .tc := ⟨.hbm, 89, rfl⟩
abbrev main_v21 : Ref sig .tc := ⟨.hbm, 90, rfl⟩
abbrev main_cst_3 : Ref sig .tc := ⟨.hbm, 91, rfl⟩
abbrev main_v22 : Ref sig .tc := ⟨.hbm, 92, rfl⟩
abbrev main_v23 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩

abbrev nD : Nat := 1
abbrev τ : Topo := Topo.v7x

variable {F : FTy → Type} [FloatOps F]

abbrev main_while0_count : Scf.Loop 32 := ⟨0#32, 4096#32, 1#32⟩
-- ==== Merge.lean ====
abbrev S8x4096x1024 : Shape := ⟨3, ![8, 4096, 1024]⟩
abbrev S1024 : Shape := ⟨1, ![1024]⟩
abbrev S8x4096x256 : Shape := ⟨3, ![8, 4096, 256]⟩
abbrev S1024x4096 : Shape := ⟨2, ![1024, 4096]⟩
abbrev S4x256x1024 : Shape := ⟨3, ![4, 256, 1024]⟩
abbrev S1024x1024 : Shape := ⟨2, ![1024, 1024]⟩
abbrev S1x1024 : Shape := ⟨2, ![1, 1024]⟩
abbrev S32768x1024 : Shape := ⟨2, ![32768, 1024]⟩
abbrev S32768x256 : Shape := ⟨2, ![32768, 256]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x256x1024 : Shape := ⟨3, ![1, 256, 1024]⟩
abbrev S256x1024 : Shape := ⟨2, ![256, 1024]⟩

abbrev nBuf : Space → Nat
  | .hbm => 18
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x4096x256, .bf16⟩
  | .hbm, ⟨3, _⟩ => ⟨S8x4096x256, .bf16⟩
  | .hbm, ⟨4, _⟩ => ⟨S8x4096x256, .bf16⟩
  | .hbm, ⟨5, _⟩ => ⟨S8x4096x256, .bf16⟩
  | .hbm, ⟨6, _⟩ => ⟨S1024x4096, .bf16⟩
  | .hbm, ⟨7, _⟩ => ⟨S4x256x1024, .f32⟩
  | .hbm, ⟨8, _⟩ => ⟨S1024x1024, .f32⟩
  | .hbm, ⟨9, _⟩ => ⟨S1x1024, .f32⟩
  | .hbm, ⟨10, _⟩ => ⟨S32768x1024, .f32⟩
  | .hbm, ⟨11, _⟩ => ⟨S32768x256, .bf16⟩
  | .hbm, ⟨12, _⟩ => ⟨S32768x256, .bf16⟩
  | .hbm, ⟨13, _⟩ => ⟨S32768x256, .bf16⟩
  | .hbm, ⟨14, _⟩ => ⟨S32768x256, .bf16⟩
  | .hbm, ⟨15, _⟩ => ⟨S4x256x1024, .bf16⟩
  | .hbm, ⟨16, _⟩ => ⟨S1024x1024, .bf16⟩
  | .hbm, ⟨17, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S1024x4096, .bf16⟩
  | .local _ .vmem, ⟨12, _⟩ => ⟨S4x256x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S8x4096x1024 : Shape := ⟨3, ![8, 4096, 1024]⟩
abbrev S1024 : Shape := ⟨1, ![1024]⟩
abbrev S8x4096x256 : Shape := ⟨3, ![8, 4096, 256]⟩
abbrev S1024x4096 : Shape := ⟨2, ![1024, 4096]⟩
abbrev S4x256x1024 : Shape := ⟨3, ![4, 256, 1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S1x256x1024 : Shape := ⟨3, ![1, 256, 1024]⟩
abbrev S256x1024 : Shape := ⟨2, ![256, 1024]⟩
abbrev S32768x1024 : Shape := ⟨2, ![32768, 1024]⟩

abbrev nBuf : Space → Nat
  | .hbm => 65
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x4096x256, .bf16⟩
  | .hbm, ⟨3, _⟩ => ⟨S8x4096x256, .bf16⟩
  | .hbm, ⟨4, _⟩ => ⟨S8x4096x256, .bf16⟩
  | .hbm, ⟨5, _⟩ => ⟨S8x4096x256, .bf16⟩
  | .hbm, ⟨6, _⟩ => ⟨S1024x4096, .bf16⟩
  | .hbm, ⟨7, _⟩ => ⟨S4x256x1024, .f32⟩
  | .hbm, ⟨8, _⟩ => ⟨S1024x1024, .f32⟩
  | .hbm, ⟨9, _⟩ => ⟨S8x4096x1024, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S1x1x1024, .f32⟩
  | .hbm, ⟨23, _⟩ => ⟨S8x4096x1024, .f32⟩
  | .hbm, ⟨24, _⟩ => ⟨S8x4096x1024, .f32⟩
  | .hbm, ⟨25, _⟩ => ⟨S1024x4096, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S_, .f32⟩
  | .hbm, ⟨30, _⟩ => ⟨S8x4096x4096, .f32⟩
  | .hbm, ⟨31, _⟩ => ⟨S8x4096x4096, .f32⟩
  | .hbm, ⟨32, _⟩ => ⟨S_, .f32⟩
  | .hbm, ⟨33, _⟩ => ⟨S8x4096x4096, .f32⟩
  | .hbm, ⟨34, _⟩ => ⟨S8x4096x4096, .f32⟩
  | .hbm, ⟨35, _⟩ => ⟨S8x4096x256, .f32⟩
  | .hbm, ⟨36, _⟩ => ⟨S8x4096x256, .f32⟩
  | .hbm, ⟨37, _⟩ => ⟨S8x4096x256, .f32⟩
  | .hbm, ⟨38, _⟩ => ⟨S8x4096x256, .f32⟩
  | .hbm, ⟨39, _⟩ => ⟨S8x4096x1024, .f32⟩
  | .hbm, ⟨40, _⟩ => ⟨S1x256x1024, .f32⟩
  | .hbm, ⟨41, _⟩ => ⟨S256x1024, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S1x256x1024, .f32⟩
  | .hbm, ⟨46, _⟩ => ⟨S256x1024, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S8x4096x1024, .f32⟩
  | .hbm, ⟨51, _⟩ => ⟨S1x256x1024, .f32⟩
  | .hbm, ⟨52, _⟩ => ⟨S256x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S1x256x1024, .f32⟩
  | .hbm, ⟨58, _⟩ => ⟨S256x1024, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== Inproj.lean ====
abbrev S8x4096x1024 : Shape := ⟨3, ![8, 4096, 1024]⟩
abbrev S1x1024 : Shape := ⟨2, ![1, 1024]⟩
abbrev S1024x512 : Shape := ⟨2, ![1024, 512]⟩
abbrev S1024x256 : Shape := ⟨2, ![1024, 256]⟩
abbrev S1024x768 : Shape := ⟨2, ![1024, 768]⟩
abbrev S1024x1024 : Shape := ⟨2, ![1024, 1024]⟩
abbrev S1x512 : Shape := ⟨2, ![1, 512]⟩
abbrev S8x4096x128 : Shape := ⟨3, ![8, 4096, 128]⟩
abbrev S3x256 : Shape := ⟨2, ![3, 256]⟩
abbrev S8x4096x256 : Shape := ⟨3, ![8, 4096, 256]⟩
abbrev S8x4096x768 : Shape := ⟨3, ![8, 4096, 768]⟩
abbrev S1x512x1024 : Shape := ⟨3, ![1, 512, 1024]⟩
abbrev S1x512x128 : Shape := ⟨3, ![1, 512, 128]⟩
abbrev S1x512x256 : Shape := ⟨3, ![1, 512, 256]⟩
abbrev S1x512x768 : Shape := ⟨3, ![1, 512, 768]⟩
abbrev S528x256 : Shape := ⟨2, ![528, 256]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S512x256 : Shape := ⟨2, ![512, 256]⟩
abbrev S512x768 : Shape := ⟨2, ![512, 768]⟩
abbrev S8x256 : Shape := ⟨2, ![8, 256]⟩
abbrev S1x256 : Shape := ⟨2, ![1, 256]⟩

abbrev nBuf : Space → Nat
  | .hbm => 30
  | .vmem => 50
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1024x512, .bf16⟩
  | .hbm, ⟨3, _⟩ => ⟨S1024x256, .bf16⟩
  | .hbm, ⟨4, _⟩ => ⟨S1024x256, .bf16⟩
  | .hbm, ⟨5, _⟩ => ⟨S1024x768, .bf16⟩
  | .hbm, ⟨6, _⟩ => ⟨S1024x1024, .bf16⟩
  | .hbm, ⟨7, _⟩ => ⟨S1024x768, .bf16⟩
  | .hbm, ⟨8, _⟩ => ⟨S1024x768, .bf16⟩
  | .hbm, ⟨9, _⟩ => ⟨S1024x256, .bf16⟩
  | .hbm, ⟨10, _⟩ => ⟨S1x512, .f32⟩
  | .hbm, ⟨11, _⟩ => ⟨S8x4096x128, .f32⟩
  | .hbm, ⟨12, _⟩ => ⟨S8x4096x128, .f32⟩
  | .hbm, ⟨13, _⟩ => ⟨S3x256, .f32⟩
  | .hbm, ⟨14, _⟩ => ⟨S8x4096x256, .bf16⟩
  | .hbm, ⟨15, _⟩ => ⟨S8x4096x128, .bf16⟩
  | .hbm, ⟨16, _⟩ => ⟨S8x4096x128, .bf16⟩
  | .hbm, ⟨17, _⟩ => ⟨S8x4096x128, .bf16⟩
  | .hbm, ⟨18, _⟩ => ⟨S8x4096x128, .bf16⟩
  | .hbm, ⟨19, _⟩ => ⟨S8x4096x768, .f32⟩
  | .hbm, ⟨20, _⟩ => ⟨S8x4096x256, .f32⟩
  | .hbm, ⟨21, _⟩ => ⟨S8x4096x256, .f32⟩
  | .hbm, ⟨22, _⟩ => ⟨S8x4096x256, .f32⟩
  | .hbm, ⟨23, _⟩ => ⟨S8x4096x256, .bf16⟩
  | .hbm, ⟨24, _⟩ => ⟨S8x4096x256, .bf16⟩
  | .hbm, ⟨25, _⟩ => ⟨S8x4096x256, .bf16⟩
  | .hbm, ⟨26, _⟩ => ⟨S8x4096x256, .bf16⟩
  | .hbm, ⟨27, _⟩ => ⟨S8x4096x256, .f32⟩
  | .hbm, ⟨28, _⟩ => ⟨S8x4096x128, .f32⟩
  | .hbm, ⟨29, _⟩ => ⟨S8x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x512, .bf16⟩
  | .local _ .vmem, ⟨4, _⟩ => ⟨S1024x256, .bf16⟩
  | .local _ .vmem, ⟨5, _⟩ => ⟨S1024x256, .bf16⟩
  | .local _ .vmem, ⟨6, _⟩ => ⟨S1024x768, .bf16⟩
  | .local _ .vmem, ⟨7, _⟩ => ⟨S1024x1024, .bf16⟩
  | .local _ .vmem, ⟨8, _⟩ => ⟨S1024x768, .bf16⟩
  | .local _ .vmem, ⟨9, _⟩ => ⟨S1024x768, .bf16⟩
  | .local _ .vmem, ⟨10, _⟩ => ⟨S1024x256, .bf16⟩
  | .local _ .vmem, ⟨11, _⟩ => ⟨S1x512, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S3x256, .f32⟩
  | .local _ .vmem, ⟨17, _⟩ => ⟨S1x512x256, .bf16⟩
  | .local _ .vmem, ⟨18, _⟩ => ⟨S1x512x256, .bf16⟩
  | .local _ .vmem, ⟨19, _⟩ => ⟨S1x512x128, .bf16⟩
  | .local _ .vmem, ⟨20, _⟩ => ⟨S1x512x128, .bf16⟩
  | .local _ .vmem, ⟨21, _⟩ => ⟨S1x512x128, .bf16⟩
  | .local _ .vmem, ⟨22, _⟩ => ⟨S1x512x128, .bf16⟩
  | .local _ .vmem, ⟨23, _⟩ => ⟨S1x512x128, .bf16⟩
  | .local _ .vmem, ⟨24, _⟩ => ⟨S1x512x128, .bf16⟩
  | .local _ .vmem, ⟨25, _⟩ => ⟨S1x512x128, .bf16⟩
  | .local _ .vmem, ⟨26, _⟩ => ⟨S1x512x128, .bf16⟩
  | .local _ .vmem, ⟨27, _⟩ => ⟨S1x512x768, .f32⟩
  | .local _ .vmem, ⟨28, _⟩ => ⟨S1x512x768, .f32⟩
  | .local _ .vmem, ⟨29, _⟩ => ⟨S1x512x256, .f32⟩
  | .local _ .vmem, ⟨30, _⟩ => ⟨S1x512x256, .f32⟩
  | .local _ .vmem, ⟨31, _⟩ => ⟨S1x512x256, .f32⟩
  | .local _ .vmem, ⟨32, _⟩ => ⟨S1x512x256, .f32⟩
  | .local _ .vmem, ⟨33, _⟩ => ⟨S1x512x256, .f32⟩
  | .local _ .vmem, ⟨34, _⟩ => ⟨S1x512x256, .f32⟩
  | .local _ .vmem, ⟨35, _⟩ => ⟨S1x512x256, .bf16⟩
  | .local _ .vmem, ⟨36, _⟩ => ⟨S1x512x256, .bf16⟩
  | .local _ .vmem, ⟨37, _⟩ => ⟨S1x512x256, .bf16⟩
  | .local _ .vmem, ⟨38, _⟩ => ⟨S1x512x256, .bf16⟩
  | .local _ .vmem, ⟨39, _⟩ => ⟨S1x512x256, .bf16⟩
  | .local _ .vmem, ⟨40, _⟩ => ⟨S1x512x256, .bf16⟩
  | .local _ .vmem, ⟨41, _⟩ => ⟨S1x512x256, .bf16⟩
  | .local _ .vmem, ⟨42, _⟩ => ⟨S1x512x256, .bf16⟩
  | .local _ .vmem, ⟨43, _⟩ => ⟨S1x512x256, .f32⟩
  | .local _ .vmem, ⟨44, _⟩ => ⟨S1x512x256, .f32⟩
  | .local _ .vmem, ⟨45, _⟩ => ⟨S1x512x128, .f32⟩
  | .local _ .vmem, ⟨46, _⟩ => ⟨S1x512x128, .f32⟩
  | .local _ .vmem, ⟨47, _⟩ => ⟨S1x512x128, .f32⟩
  | .local _ .vmem, ⟨48, _⟩ => ⟨S1x512x128, .f32⟩
  | .local _ .vmem, ⟨49, _⟩ => ⟨S528x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev main_v0_6 : Ref sig .tc := ⟨.hbm, 20, rfl⟩
abbrev main_v0_7 : Ref sig .tc := ⟨.hbm, 21, rfl⟩
abbrev main_v0_8 : Ref sig .tc := ⟨.hbm, 22, rfl⟩
abbrev main_v0_9 : Ref sig .tc := ⟨.hbm, 23, rfl⟩
abbrev main_v0_10 : Ref sig .tc := ⟨.hbm, 24, rfl⟩
abbrev main_v0_11 : Ref sig .tc := ⟨.hbm, 25, rfl⟩
abbrev main_v0_12 : Ref sig .tc := ⟨.hbm, 26, rfl⟩
abbrev main_v0_13 : Ref sig .tc := ⟨.hbm, 27, rfl⟩
abbrev main_v0_14 : Ref sig .tc := ⟨.hbm, 28, rfl⟩
abbrev main_v0_15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_stg24_1 : Ref sig .tc := ⟨.vmem, 38, rfl⟩
abbrev cc0_stg25_0 : Ref sig .tc := ⟨.vmem, 39, rfl⟩
abbrev cc0_stg25_1 : Ref sig .tc := ⟨.vmem, 40, rfl⟩
abbrev cc0_stg26_0 : Ref sig .tc := ⟨.vmem, 41, rfl⟩
abbrev cc0_stg26_1 : Ref sig .tc := ⟨.vmem, 42, rfl⟩
abbrev cc0_stg27_0 : Ref sig .tc := ⟨.vmem, 43, rfl⟩
abbrev cc0_stg27_1 : Ref sig .tc := ⟨.vmem, 44, rfl⟩
abbrev cc0_stg28_0 : Ref sig .tc := ⟨.vmem, 45, rfl⟩
abbrev cc0_stg28_1 : Ref sig .tc := ⟨.vmem, 46, rfl⟩
abbrev cc0_stg29_0 : Ref sig .tc := ⟨.vmem, 47, rfl⟩
abbrev cc0_stg29_1 : Ref sig .tc := ⟨.vmem, 48, rfl⟩
abbrev cc0_scratch0 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36
abbrev cc0_sem24_0 : DmaSem sig := 37
abbrev cc0_sem24_1 : DmaSem sig := 38
abbrev cc0_sem25_0 : DmaSem sig := 39
abbrev cc0_sem25_1 : DmaSem sig := 40
abbrev cc0_sem26_0 : DmaSem sig := 41
abbrev cc0_sem26_1 : DmaSem sig := 42
abbrev cc0_sem27_0 : DmaSem sig := 43
abbrev cc0_sem27_1 : DmaSem sig := 44
abbrev cc0_sem28_0 : DmaSem sig := 45
abbrev cc0_sem28_1 : DmaSem sig := 46
abbrev cc0_sem29_0 : DmaSem sig := 47
abbrev cc0_sem29_1 : DmaSem sig := 48

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_27 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_28 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_29 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S3x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x768 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x256 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x512x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x512x256 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x512x256 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x512x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S1x512x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]
-- ==== InprojRefIdeal.lean ====
abbrev S8x4096x1024 : Shape := ⟨3, ![8, 4096, 1024]⟩
abbrev S1x1024 : Shape := ⟨2, ![1, 1024]⟩
abbrev S1024x512 : Shape := ⟨2, ![1024, 512]⟩
abbrev S1024x256 : Shape := ⟨2, ![1024, 256]⟩
abbrev S1024x768 : Shape := ⟨2, ![1024, 768]⟩
abbrev S1024x1024 : Shape := ⟨2, ![1024, 1024]⟩
abbrev S1x512 : Shape := ⟨2, ![1, 512]⟩
abbrev S8x4096x128 : Shape := ⟨3, ![8, 4096, 128]⟩
abbrev S3x256 : Shape := ⟨2, ![3, 256]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x512 : Shape := ⟨3, ![8, 4096, 512]⟩
abbrev S8x4096x8x64 : Shape := ⟨4, ![8, 4096, 8, 64]⟩
abbrev S8x4096x8 : Shape := ⟨3, ![8, 4096, 8]⟩
abbrev S8x4096x8x1 : Shape := ⟨4, ![8, 4096, 8, 1]⟩
abbrev S8x64 : Shape := ⟨2, ![8, 64]⟩
abbrev S1x1x8x64 : Shape := ⟨4, ![1, 1, 8, 64]⟩
abbrev S8x4096x8x32 : Shape := ⟨4, ![8, 4096, 8, 32]⟩
abbrev S8x4096x256 : Shape := ⟨3, ![8, 4096, 256]⟩
abbrev S8x4096x768 : Shape := ⟨3, ![8, 4096, 768]⟩
abbrev S1x256 : Shape := ⟨2, ![1, 256]⟩
abbrev S256 : Shape := ⟨1, ![256]⟩
abbrev S8x2x256 : Shape := ⟨3, ![8, 2, 256]⟩
abbrev S8x4094x256 : Shape := ⟨3, ![8, 4094, 256]⟩
abbrev S1x1x256 : Shape := ⟨3, ![1, 1, 256]⟩
abbrev S8x1x256 : Shape := ⟨3, ![8, 1, 256]⟩
abbrev S8x4095x256 : Shape := ⟨3, ![8, 4095, 256]⟩

abbrev nBuf : Space → Nat
  | .hbm => 151
  | .vmem => 0
  | .smem => 0
  | _ => 0

abbrev hbmTy0_0 (i : Nat) : BufTy := match i % 128 with
  | 0 => ⟨S8x4096x1024, .f32⟩
  | 1 => ⟨S1x1024, .f32⟩
  | 2 => ⟨S1024x512, .bf16⟩
  | 3 => ⟨S1024x256, .bf16⟩
  | 4 => ⟨S1024x256, .bf16⟩
  | 5 => ⟨S1024x768, .bf16⟩
  | 6 => ⟨S1024x1024, .bf16⟩
  | 7 => ⟨S1024x768, .bf16⟩
  | 8 => ⟨S1024x768, .bf16⟩
  | 9 => ⟨S1024x256, .bf16⟩
  | 10 => ⟨S1x512, .f32⟩
  | 11 => ⟨S8x4096x128, .f32⟩
  | 12 => ⟨S8x4096x128, .f32⟩
  | 13 => ⟨S3x256, .f32⟩
  | 14 => ⟨S8x4096x1024, .f32⟩
  | 15 => ⟨S_, .f32⟩
  | 16 => ⟨S8x4096, .f32⟩
  | 17 => ⟨S8x4096x1, .f32⟩
  | 18 => ⟨S_, .f32⟩
  | 19 => ⟨S8x4096x1, .f32⟩
  | 20 => ⟨S8x4096x1, .f32⟩
  | 21 => ⟨S_, .f32⟩
  | 22 => ⟨S8x4096x1, .f32⟩
  | 23 => ⟨S8x4096x1, .f32⟩
  | 24 => ⟨S8x4096x1, .f32⟩
  | 25 => ⟨S8x4096x1024, .f32⟩
  | 26 => ⟨S8x4096x1024, .f32⟩
  | 27 => ⟨S1x1x1024, .f32⟩
  | 28 => ⟨S8x4096x1024, .f32⟩
  | 29 => ⟨S8x4096x1024, .f32⟩
  | 30 => ⟨S1024x512, .f32⟩
  | 31 => ⟨S8x4096x512, .f32⟩
  | 32 => ⟨S8x4096x8x64, .f32⟩
  | 33 => ⟨S8x4096x8x64, .f32⟩
  | 34 => ⟨S_, .f32⟩
  | 35 => ⟨S8x4096x8, .f32⟩
  | 36 => ⟨S8x4096x8x1, .f32⟩
  | 37 => ⟨S_, .f32⟩
  | 38 => ⟨S8x4096x8x1, .f32⟩
  | 39 => ⟨S8x4096x8x1, .f32⟩
  | 40 => ⟨S_, .f32⟩
  | 41 => ⟨S8x4096x8x1, .f32⟩
  | 42 => ⟨S8x4096x8x1, .f32⟩
  | 43 => ⟨S8x4096x8x1, .f32⟩
  | 44 => ⟨S8x4096x8x64, .f32⟩
  | 45 => ⟨S8x4096x8x64, .f32⟩
  | 46 => ⟨S8x64, .f32⟩
  | 47 => ⟨S1x1x8x64, .f32⟩
  | 48 => ⟨S8x4096x8x64, .f32⟩
  | 49 => ⟨S8x4096x8x64, .f32⟩
  | 50 => ⟨S8x4096x8x32, .f32⟩
  | 51 => ⟨S8x4096x8x32, .f32⟩
  | 52 => ⟨S8x4096x8x64, .f32⟩
  | 53 => ⟨S8x4096x512, .f32⟩
  | 54 => ⟨S8x4096x512, .f32⟩
  | 55 => ⟨S8x4096x512, .f32⟩
  | 56 => ⟨S8x4096x512, .f32⟩
  | 57 => ⟨S8x4096x512, .f32⟩
  | 58 => ⟨S8x4096x512, .f32⟩
  | 59 => ⟨S8x4096x512, .f32⟩
  | 60 => ⟨S8x4096x256, .f32⟩
  | 61 => ⟨S_, .f32⟩
  | 62 => ⟨S8x4096x256, .f32⟩
  | 63 => ⟨S8x4096x256, .f32⟩
  | 64 => ⟨S8x4096x128, .f32⟩
  | 65 => ⟨S8x4096x128, .f32⟩
  | 66 => ⟨S1024x256, .f32⟩
  | 67 => ⟨S8x4096x256, .f32⟩
  | 68 => ⟨S1024x256, .f32⟩
  | 69 => ⟨S8x4096x256, .f32⟩
  | 70 => ⟨S1024x768, .f32⟩
  | 71 => ⟨S8x4096x768, .f32⟩
  | 72 => ⟨S8x4096x768, .f32⟩
  | 73 => ⟨S8x4096x768, .f32⟩
  | 74 => ⟨S_, .f32⟩
  | 75 => ⟨S8x4096x768, .f32⟩
  | 76 => ⟨S8x4096x768, .f32⟩
  | 77 => ⟨S_, .f32⟩
  | 78 => ⟨S8x4096x768, .f32⟩
  | 79 => ⟨S8x4096x768, .f32⟩
  | 80 => ⟨S1024x1024, .f32⟩
  | 81 => ⟨S8x4096x1024, .f32⟩
  | 82 => ⟨S8x4096x1024, .f32⟩
  | 83 => ⟨S8x4096x1024, .f32⟩
  | 84 => ⟨S_, .f32⟩
  | 85 => ⟨S8x4096x1024, .f32⟩
  | 86 => ⟨S8x4096x1024, .f32⟩
  | 87 => ⟨S_, .f32⟩
  | 88 => ⟨S8x4096x1024, .f32⟩
  | 89 => ⟨S8x4096x1024, .f32⟩
  | 90 => ⟨S8x4096x1024, .f32⟩
  | 91 => ⟨S1024x768, .f32⟩
  | 92 => ⟨S8x4096x768, .f32⟩
  | 93 => ⟨S8x4096x256, .f32⟩
  | 94 => ⟨S8x4096x256, .f32⟩
  | 95 => ⟨S8x4096x256, .f32⟩
  | 96 => ⟨S8x4096x256, .f32⟩
  | 97 => ⟨S1x256, .f32⟩
  | 98 => ⟨S256, .f32⟩
  | 99 => ⟨S_, .f32⟩
  | 100 => ⟨S8x2x256, .f32⟩
  | 101 => ⟨S8x4094x256, .f32⟩
  | 102 => ⟨S8x4096x256, .f32⟩
  | 103 => ⟨S1x1x256, .f32⟩
  | 104 => ⟨S8x4096x256, .f32⟩
  | 105 => ⟨S8x4096x256, .f32⟩
  | 106 => ⟨S1x256, .f32⟩
  | 107 => ⟨S256, .f32⟩
  | 108 => ⟨S_, .f32⟩
  | 109 => ⟨S8x1x256, .f32⟩
  | 110 => ⟨S8x4095x256, .f32⟩
  | 111 => ⟨S8x4096x256, .f32⟩
  | 112 => ⟨S1x1x256, .f32⟩
  | 113 => ⟨S8x4096x256, .f32⟩
  | 114 => ⟨S8x4096x256, .f32⟩
  | 115 => ⟨S8x4096x256, .f32⟩
  | 116 => ⟨S1x256, .f32⟩
  | 117 => ⟨S256, .f32⟩
  | 118 => ⟨S1x1x256, .f32⟩
  | 119 => ⟨S8x4096x256, .f32⟩
  | 120 => ⟨S8x4096x256, .f32⟩
  | 121 => ⟨S8x4096x256, .f32⟩
  | 122 => ⟨S8x4096x256, .f32⟩
  | 123 => ⟨S8x4096x256, .f32⟩
  | 124 => ⟨S8x4096x256, .f32⟩
  | 125 => ⟨S1024x768, .f32⟩
  | 126 => ⟨S8x4096x768, .f32⟩
  | 127 => ⟨S8x4096x256, .bf16⟩
  | _ => ⟨S8x4096x1024, .f32⟩

abbrev hbmTy0_1 (i : Nat) : BufTy := match i % 128 with
  | 0 => ⟨S8x4096x128, .bf16⟩
  | 1 => ⟨S8x4096x128, .bf16⟩
  | 2 => ⟨S8x4096x128, .f32⟩
  | 3 => ⟨S8x4096x128, .bf16⟩
  | 4 => ⟨S8x4096x128, .f32⟩
  | 5 => ⟨S8x4096x128, .bf16⟩
  | 6 => ⟨S8x4096x256, .f32⟩
  | 7 => ⟨S8x4096x256, .f32⟩
  | 8 => ⟨S8x4096x256, .f32⟩
  | 9 => ⟨S8x4096x256, .bf16⟩
  | 10 => ⟨S8x4096x256, .f32⟩
  | 11 => ⟨S_, .f32⟩
  | 12 => ⟨S8x4096x256, .f32⟩
  | 13 => ⟨S8x4096x256, .f32⟩
  | 14 => ⟨S8x4096x256, .bf16⟩
  | 15 => ⟨S8x4096x256, .f32⟩
  | 16 => ⟨S8x4096x256, .bf16⟩
  | 17 => ⟨S8x4096x256, .f32⟩
  | 18 => ⟨S8x4096x256, .bf16⟩
  | 19 => ⟨S1024x256, .f32⟩
  | 20 => ⟨S8x4096x256, .f32⟩
  | 21 => ⟨S8x4096x128, .f32⟩
  | 22 => ⟨S8x4096x128, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_6 : Ref sig .tc := ⟨.hbm, 74, rfl⟩
abbrev main_v53 : Ref sig .tc := ⟨.hbm, 75, rfl⟩
abbrev main_v54 : Ref sig .tc := ⟨.hbm, 76, rfl⟩
abbrev main_cst_7 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call0_v0 : Ref sig .tc := ⟨.hbm, 82, rfl⟩
abbrev main_call0_v1 : Ref sig .tc := ⟨.hbm, 83, rfl⟩
abbrev main_call0_cst : Ref sig .tc := ⟨.hbm, 84, rfl⟩
abbrev main_call0_v2 : Ref sig .tc := ⟨.hbm, 85, rfl⟩
abbrev main_call0_v3 : Ref sig .tc := ⟨.hbm, 86, rfl⟩
abbrev main_call0_cst_0 : Ref sig .tc := ⟨.hbm, 87, rfl⟩
abbrev main_call0_v4 : Ref sig .tc := ⟨.hbm, 88, rfl⟩
abbrev main_call0_v5 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_8 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_9 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_10 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩

abbrev nD : Nat := 1
abbrev τ : Topo := Topo.v7x

variable {F : FTy → Type} [FloatOps F]
-- ==== Proof.InprojRun.lean ====
module

public import proofs.«01_k».proof.Proof.Gen.InprojIdeal.Frame
public import proofs.«01_k».proof.Proof.Gen.InprojIdeal.Skeleton
public import Idealize.ShloMosaic.Lib.Exec
public import Idealize.ShloMosaic.Lib.Tactic
public import Idealize.ShloMosaic.Lib.Pipeline.ValueKit
public import Idealize.ShloMosaic.Lib.Pipeline.FrameBody
public import Idealize.ShloMosaic.Lib.VecWindow

/-! One pass of the input projection's body: what it leaves in its sixteen results, and in the eight rows of scratch that
    carry the end of a tile's convolution input to the next tile. -/

@[expose] public section

set_option maxRecDepth 16384

noncomputable section

namespace Cert.InprojIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InprojIdeal Cert.InprojIdeal.Gen

variable {F : FTy → Type} [FloatOps F]

local notation "𝕄" => MT nD τ sig Unit (Elt F) ℕ (UR sig nD τ) ℕ

/-- The normalised and rotated queries and keys of a tile, side by side. -/
def turned (x0 : Vec F S1x512x1024 .f32) (x1 : Vec F S1x1024 .f32) (x2 : Vec F S1024x512 .bf16) (x10 : Vec F S1x512 .f32) (x11 x12 : Vec F S1x512x128 .f32) : FVec F S512x512 .f32 :=
  k0_pay19 (k0_pay7 x0 x1 x2) x10 (k0_pay8 x11) (k0_pay9 x12) k0_pay10 (k0_pay14 k0_pay10 (k0_pay12 x0 x1 x2) (k0_pay13 x0 x1 x2)) (k0_pay15 (k0_pay7 x0 x1 x2) k0_pay10) (k0_pay16 (k0_pay7 x0 x1 x2) k0_pay10) (k0_pay17 (k0_pay7 x0 x1 x2)) (k0_pay18 (k0_pay7 x0 x1 x2) k0_pay10)

/-- What the pass leaves of the queries, -/
def outQ (x0 : Vec F S1x512x1024 .f32) (x1 : Vec F S1x1024 .f32) (x2 : Vec F S1024x512 .bf16) (x10 : Vec F S1x512 .f32) (x11 x12 : Vec F S1x512x128 .f32) : FVec F S1x512x256 .bf16 :=
  k0_pay20 (k0_pay7 x0 x1 x2) x10 (k0_pay8 x11) (k0_pay9 x12) k0_pay10 (k0_pay14 k0_pay10 (k0_pay12 x0 x1 x2) (k0_pay13 x0 x1 x2)) (k0_pay15 (k0_pay7 x0 x1 x2) k0_pay10) (k0_pay16 (k0_pay7 x0 x1 x2) k0_pay10) (k0_pay17 (k0_pay7 x0 x1 x2)) (k0_pay18 (k0_pay7 x0 x1 x2) k0_pay10)

/-- of the keys of the selected blocks, -/
def outKs (x0 : Vec F S1x512x1024 .f32) (x1 : Vec F S1x1024 .f32) (x2 : Vec F S1024x512 .bf16) (x10 : Vec F S1x512 .f32) (x11 x12 : Vec F S1x512x128 .f32) : FVec F S1x512x128 .bf16 :=
  k0_pay22 (k0_pay21 (k0_pay7 x0 x1 x2) x10 (k0_pay8 x11) (k0_pay9 x12) k0_pay10 (k0_pay14 k0_pay10 (k0_pay12 x0 x1 x2) (k0_pay13 x0 x1 x2)) (k0_pay15 (k0_pay7 x0 x1 x2) k0_pay10) (k0_pay16 (k0_pay7 x0 x1 x2) k0_pay10) (k0_pay17 (k0_pay7 x0 x1 x2)) (k0_pay18 (k0_pay7 x0 x1 x2) k0_pay10))

/-- and of the keys of the window. -/
def outKw (x0 : Vec F S1x512x1024 .f32) (x1 : Vec F S1x1024 .f32) (x2 : Vec F S1024x512 .bf16) (x10 : Vec F S1x512 .f32) (x11 x12 : Vec F S1x512x128 .f32) : FVec F S1x512x128 .bf16 :=
  k0_pay23 (turned x0 x1 x2 x10 x11 x12)

/-- The scratch with a tile's convolution input from its eighth row on. -/
abbrev stacked (X : Vec F S528x256 .f32) (u : Vec F S512x256 .f32) : Vec F S528x256 .f32 :=
  VecWindow.put X ![8, 0] S512x256.size u

/-- The convolution input `n` rows earlier: the last rows of `p`, then the tile's own rows. -/
def lag (n : ℕ) (p : Vec F S8x256 .f32) (u : Vec F S512x256 .f32) : Vec F S512x256 .f32 := fun y =>
  if h : (y 0).val < n then p (ValueIdx.ix2 (⟨(8 - n + (y 0).val) % 8, Nat.mod_lt _ (by decide)⟩ : Fin 8) (y 1))
  else u (ValueIdx.ix2 (⟨(y 0).val - n, by have := (y 0).isLt; change (y 0).val < 512 at this; omega⟩ : Fin 512) (y 1))

/-- The convolution input of a tile. -/
def convIn (x0 : Vec F S1x512x1024 .f32) (x1 : Vec F S1x1024 .f32) (x7 : Vec F S1024x768 .bf16) : FVec F S512x256 .f32 :=
  k0_pay39 (k0_pay6 x0 x1) x7

/-- Its last eight rows. -/
def tail (u : Vec F S512x256 .f32) : FVec F S8x256 .f32 := k0_pay40 fun y =>
  u (ValueIdx.ix2 (⟨504 + (y 0).val, by have := (y 0).isLt; change (y 0).val < 8 at this; omega⟩ : Fin 512) (y 1))

/-- What the pass leaves of the short convolution's branch. -/
def outSc (x0 : Vec F S1x512x1024 .f32) (x1 : Vec F S1x1024 .f32) (x6 : Vec F S1024x1024 .bf16) (x7 : Vec F S1024x768 .bf16) (x13 : Vec F S3x256 .f32) (p : Vec F S8x256 .f32) : FVec F S1x512x256 .bf16 :=
  k0_pay41 (k0_pay6 x0 x1) (k0_pay32 (k0_pay6 x0 x1) x6) x7 (lag 1 p (convIn x0 x1 x7)) (lag 2 p (convIn x0 x1 x7)) x13

/-- Read one row earlier, the scratch is the convolution input one row earlier, -/
theorem read_lag1 (X : Vec F S528x256 .f32) (u : Vec F S512x256 .f32) (p : Vec F S8x256 .f32)
    (hp : VecWindow.window X ![0, 0] S8x256.size inb_S528x256_S8x256_0_0 = p) :
    VecWindow.window (stacked X u) ![7, 0] S512x256.size inb_S528x256_S512x256_7_0 = lag 1 p u := by
  subst hp
  funext y
  have h0 := (y 0).isLt
  change (y 0).val < 512 at h0
  have h1 := (y 1).isLt
  change (y 1).val < 256 at h1
  unfold lag VecWindow.window stacked VecWindow.put
  by_cases h : (y 0).val < 1
  · rw [dif_pos h, dif_neg]
    · refine congrArg X (funext fun a => Fin.ext ?_)
      fin_cases a
      · show 7 + 1 * (y 0).val = 0 + 1 * ((8 - 1 + (y 0).val) % 8)
        omega
      · show 0 + 1 * (y 1).val = 0 + 1 * (y 1).val
        rfl
    · intro hh
      have := (hh 0).1
      change 8 ≤ 7 + 1 * (y 0).val at this
      omega
  · rw [dif_neg h, dif_pos]
    · refine congrArg u (funext fun a => Fin.ext ?_)
      fin_cases a
      · show 7 + 1 * (y 0).val - 8 = (y 0).val - 1
        omega
      · show 0 + 1 * (y 1).val - 0 = (y 1).val
        omega
    · intro a
      fin_cases a
      · show 8 ≤ 7 + 1 * (y 0).val ∧ 7 + 1 * (y 0).val < 8 + 512
        omega
      · show 0 ≤ 0 + 1 * (y 1).val ∧ 0 + 1 * (y 1).val < 0 + 256
        omega

/-- and two rows earlier. -/
theorem read_lag2 (X : Vec F S528x256 .f32) (u : Vec F S512x256 .f32) (p : Vec F S8x256 .f32)
    (hp : VecWindow.window X ![0, 0] S8x256.size inb_S528x256_S8x256_0_0 = p) :
    VecWindow.window (stacked X u) ![6, 0] S512x256.size inb_S528x256_S512x256_6_0 = lag 2 p u := by
  subst hp
  funext y
  have h0 := (y 0).isLt
  change (y 0).val < 512 at h0
  have h1 := (y 1).isLt
  change (y 1).val < 256 at h1
  unfold lag VecWindow.window stacked VecWindow.put
  by_cases h : (y 0).val < 2
  · rw [dif_pos h, dif_neg]
    · refine congrArg X (funext fun a => Fin.ext ?_)
      fin_cases a
      · show 6 + 1 * (y 0).val = 0 + 1 * ((8 - 2 + (y 0).val) % 8)
        omega
      · show 0 + 1 * (y 1).val = 0 + 1 * (y 1).val
        rfl
    · intro hh
      have := (hh 0).1
      change 8 ≤ 6 + 1 * (y 0).val at this
      omega
  · rw [dif_neg h, dif_pos]
    · refine congrArg u (funext fun a => Fin.ext ?_)
      fin_cases a
      · show 6 + 1 * (y 0).val - 8 = (y 0).val - 2
        omega
      · show 0 + 1 * (y 1).val - 0 = (y 1).val
        omega
    · intro a
      fin_cases a
      · show 8 ≤ 6 + 1 * (y 0).val ∧ 6 + 1 * (y 0).val < 8 + 512
        omega
      · show 0 ≤ 0 + 1 * (y 1).val ∧ 0 + 1 * (y 1).val < 0 + 256
        omega

/-- The scratch's last eight filled rows are the tile's last eight. -/
theorem read_tail (X : Vec F S528x256 .f32) (u : Vec F S512x256 .f32) :
    k0_pay40 (VecWindow.window (stacked X u) ![512, 0] S8x256.size inb_S528x256_S8x256_512_0) = tail u := by
  unfold tail
  refine congrArg k0_pay40 (funext fun y => ?_)
  have h0 := (y 0).isLt
  change (y 0).val < 8 at h0
  have h1 := (y 1).isLt
  change (y 1).val < 256 at h1
  unfold VecWindow.window stacked VecWindow.put
  rw [dif_pos]
  · refine congrArg u (funext fun a => Fin.ext ?_)
    fin_cases a
    · show 512 + 1 * (y 0).val - 8 = 504 + (y 0).val
      omega
    · show 0 + 1 * (y 1).val - 0 = (y 1).val
      omega
  · intro a
    fin_cases a
    · show 8 ≤ 512 + 1 * (y 0).val ∧ 512 + 1 * (y 0).val < 8 + 512
      omega
    · show 0 ≤ 0 + 1 * (y 1).val ∧ 0 + 1 * (y 1).val < 0 + 256
      omega

variable (i : grid0.Coords) (arg2 : Memref sig .tc .vmem S1x512x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x768 .bf16) (harg7 : arg7.IsWhole) (arg8 : Memref sig .tc .vmem S1024x1024 .bf16) (harg8 : arg8.IsWhole) (arg9 : Memref sig .tc .vmem S1024x768 .bf16) (harg9 : arg9.IsWhole) (arg10 : Memref sig .tc .vmem S1024x768 .bf16) (harg10 : arg10.IsWhole) (arg11 : Memref sig .tc .vmem S1024x256 .bf16) (harg11 : arg11.IsWhole) (arg12 : Memref sig .tc .vmem S1x512 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S3x256 .f32) (harg15 : arg15.IsWhole) (arg16 : Memref sig .tc .vmem S1x512x256 .bf16) (harg16 : arg16.IsWhole) (arg17 : Memref sig .tc .vmem S1x512x128 .bf16) (harg17 : arg17.IsWhole) (arg18 : Memref sig .tc .vmem S1x512x128 .bf16) (harg18 : arg18.IsWhole) (arg19 : Memref sig .tc .vmem S1x512x128 .bf16) (harg19 : arg19.IsWhole) (arg20 : Memref sig .tc .vmem S1x512x128 .bf16) (harg20 : arg20.IsWhole) (arg21 : Memref sig .tc .vmem S1x512x768 .f32) (harg21 : arg21.IsWhole) (arg22 : Memref sig .tc .vmem S1x512x256 .f32) (harg22 : arg22.IsWhole) (arg23 : Memref sig .tc .vmem S1x512x256 .f32) (harg23 : arg23.IsWhole) (arg24 : Memref sig .tc .vmem S1x512x256 .f32) (harg24 : arg24.IsWhole) (arg25 : Memref sig .tc .vmem S1x512x256 .bf16) (harg25 : arg25.IsWhole) (arg26 : Memref sig .tc .vmem S1x512x256 .bf16) (harg26 : arg26.IsWhole) (arg27 : Memref sig .tc .vmem S1x512x256 .bf16) (harg27 : arg27.IsWhole) (arg28 : Memref sig .tc .vmem S1x512x256 .bf16) (harg28 : arg28.IsWhole) (arg29 : Memref sig .tc .vmem S1x512x256 .f32) (harg29 : arg29.IsWhole) (arg30 : Memref sig .tc .vmem S1x512x128 .f32) (harg30 : arg30.IsWhole) (arg31 : Memref sig .tc .vmem S1x512x128 .f32) (harg31 : arg31.IsWhole) (arg32 : Memref sig .tc .vmem S528x256 .f32) (harg32 : arg32.IsWhole)

/-- The scratch of a tile, read one row earlier and two rows earlier. -/
theorem lag_read (f : BufTy.Contents (Elt F) arg32.view.ty) (L : List (View.Piece (Elt F) S528x256 .f32)) (u : Vec F S512x256 .f32) (p : Vec F S8x256 .f32)
    (hp : VecWindow.window (arg32.view.read (Elt F) (arg32.view.writes (Elt F) f L)) ![0, 0] S8x256.size inb_S528x256_S8x256_0_0 = p) :
    arg32.view.readAt (Elt F) (Rect.unit (s := S528x256) ![7, 0] S512x256.size inb_S528x256_S512x256_7_0).toLoadRect
        (arg32.view.writes (Elt F) f (⟨Rect.unit (s := S528x256) ![8, 0] S512x256.size inb_S528x256_S512x256_8_0, u⟩ :: L)) = lag 1 p u ∧
      arg32.view.readAt (Elt F) (Rect.unit (s := S528x256) ![6, 0] S512x256.size inb_S528x256_S512x256_6_0).toLoadRect
        (arg32.view.writes (Elt F) f (⟨Rect.unit (s := S528x256) ![8, 0] S512x256.size inb_S528x256_S512x256_8_0, u⟩ :: L)) = lag 2 p u := by
  rw [View.readAt_unit arg32.view _ inb_S528x256_S512x256_7_0 rfl inb_S528x256_S512x256_7_0,
    View.readAt_unit arg32.view _ inb_S528x256_S512x256_6_0 rfl inb_S528x256_S512x256_6_0,
    View.read_writes_cons_put arg32.view f inb_S528x256_S512x256_8_0 u L rfl]
  exact ⟨read_lag1 _ u p hp, read_lag2 _ u p hp⟩

/-- On a sequence's first tile the eight rows before it are zeros. -/
theorem zeros_read (f : BufTy.Contents (Elt F) arg32.view.ty) (z : Vec F S8x256 .f32) :
    VecWindow.window (arg32.view.read (Elt F) (arg32.view.writes (Elt F) f
      [⟨Rect.unit (s := S528x256) ![0, 0] S8x256.size inb_S528x256_S8x256_0_0, z⟩])) ![0, 0] S8x256.size inb_S528x256_S8x256_0_0 = z := by
  rw [View.read_writes_cons_put arg32.view f inb_S528x256_S8x256_0_0 z [] rfl]
  exact VecWindow.window_put_same _ _ _ _ _

/-- After a tile the first eight rows are the tile's last. -/
theorem tail_read (f : BufTy.Contents (Elt F) arg32.view.ty) (L L' : List (View.Piece (Elt F) S528x256 .f32)) (u : Vec F S512x256 .f32) :
    VecWindow.window (arg32.view.read (Elt F) (arg32.view.writes (Elt F) f
      (⟨Rect.unit (s := S528x256) ![0, 0] S8x256.size inb_S528x256_S8x256_0_0,
        k0_pay40 (arg32.view.readCov (Val := Elt F) (⟨Rect.unit (s := S528x256) ![8, 0] S512x256.size inb_S528x256_S512x256_8_0, u⟩ :: L)
          (Rect.unit (s := S528x256) ![512, 0] S8x256.size inb_S528x256_S8x256_512_0).toLoadRect)⟩ :: L')))
      ![0, 0] S8x256.size inb_S528x256_S8x256_0_0 = tail u := by
  rw [View.read_writes_cons_put arg32.view f inb_S528x256_S8x256_0_0 _ L' rfl]
  refine (VecWindow.window_put_same _ _ _ _ _).trans ?_
  unfold View.readCov
  rw [View.readAt_unit arg32.view _ inb_S528x256_S8x256_512_0 rfl inb_S528x256_S8x256_512_0,
    View.read_writes_cons_put arg32.view _ inb_S528x256_S512x256_8_0 u L rfl]
  exact read_tail _ u

/-- A load of a whole block is the block. -/
theorem readAll {κ : Kind} {sp : Space} {s : Shape} {e : EltTy} (v : View sig κ sp s e) (f : v.ty.Contents (Elt F)) {off : Fin s.rank → ℕ}
    (inb : ∀ a, off a + s.size a ≤ s.size a) : v.readAt (Elt F) (Rect.unit off s.size inb).toLoadRect f = v.read (Elt F) f :=
  View.readAt_full v f inb

set_option maxHeartbeats 4000000 in
/-- The body of a grid point: from a block of the arguments and the eight rows before the tile to a block of every result
    and the eight rows after it. -/
theorem body_run (c : Dev nD) (x0 : Vec F S1x512x1024 .f32) (x1 : Vec F S1x1024 .f32) (x2 : Vec F S1024x512 .bf16) (x3 : Vec F S1024x256 .bf16) (x4 : Vec F S1024x256 .bf16) (x5 : Vec F S1024x768 .bf16) (x6 : Vec F S1024x1024 .bf16) (x7 : Vec F S1024x768 .bf16) (x8 : Vec F S1024x768 .bf16) (x9 : Vec F S1024x256 .bf16) (x10 : Vec F S1x512 .f32) (x11 : Vec F S1x512x128 .f32) (x12 : Vec F S1x512x128 .f32) (x13 : Vec F S3x256 .f32) (p : Vec F S8x256 .f32)
    (hs : Scalar.cmpi .ne (Scalar.extui (Scalar.cmpi .eq (BitVec.ofNat 32 (i 1).val) 0#32)) (0#32 : BitVec 32) = 1#1 → p = k0_pay38) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f) ∗ (∃ f, arg22.view.loc (c : Thread nD τ) ↦[arg22.view.set]{fullShare} f) ∗ (∃ f, arg23.view.loc (c : Thread nD τ) ↦[arg23.view.set]{fullShare} f) ∗ (∃ f, arg24.view.loc (c : Thread nD τ) ↦[arg24.view.set]{fullShare} f) ∗ (∃ f, arg25.view.loc (c : Thread nD τ) ↦[arg25.view.set]{fullShare} f) ∗ (∃ f, arg26.view.loc (c : Thread nD τ) ↦[arg26.view.set]{fullShare} f) ∗ (∃ f, arg27.view.loc (c : Thread nD τ) ↦[arg27.view.set]{fullShare} f) ∗ (∃ f, arg28.view.loc (c : Thread nD τ) ↦[arg28.view.set]{fullShare} f) ∗ (∃ f, arg29.view.loc (c : Thread nD τ) ↦[arg29.view.set]{fullShare} f) ∗ (∃ f, arg30.view.loc (c : Thread nD τ) ↦[arg30.view.set]{fullShare} f) ∗ (∃ f, arg31.view.loc (c : Thread nD τ) ↦[arg31.view.set]{fullShare} f)
            ∗ (∃ f, ⌜¬ Scalar.cmpi .ne (Scalar.extui (Scalar.cmpi .eq (BitVec.ofNat 32 (i 1).val) 0#32)) (0#32 : BitVec 32) = 1#1 → VecWindow.window (arg32.view.read (Elt F) f) ![0, 0] S8x256.size inb_S528x256_S8x256_0_0 = p⌝ ∗ arg32.view.loc (c : Thread nD τ) ↦[arg32.view.set]{fullShare} f)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (outQ x0 x1 x2 x10 x11 x12) ∗ owns (c : Thread nD τ) arg17 fullShare (outKs x0 x1 x2 x10 x11 x12) ∗ owns (c : Thread nD τ) arg18 fullShare (outKw x0 x1 x2 x10 x11 x12) ∗ owns (c : Thread nD τ) arg19 fullShare (k0_pay25 (k0_pay6 x0 x1) x3) ∗ owns (c : Thread nD τ) arg20 fullShare (k0_pay26 (k0_pay6 x0 x1) x3) ∗ owns (c : Thread nD τ) arg21 fullShare (k0_pay31 (k0_pay30 (k0_pay6 x0 x1) x5)) ∗ owns (c : Thread nD τ) arg22 fullShare (k0_pay33 (k0_pay6 x0 x1) x6) ∗ owns (c : Thread nD τ) arg23 fullShare (k0_pay34 (k0_pay6 x0 x1) x6) ∗ owns (c : Thread nD τ) arg24 fullShare (k0_pay35 (k0_pay6 x0 x1) x6) ∗ owns (c : Thread nD τ) arg25 fullShare (outSc x0 x1 x6 x7 x13 p) ∗ owns (c : Thread nD τ) arg26 fullShare (k0_pay2 (k0_pay6 x0 x1) x8) ∗ owns (c : Thread nD τ) arg27 fullShare (k0_pay3 (k0_pay6 x0 x1) x8) ∗ owns (c : Thread nD τ) arg28 fullShare (k0_pay4 (k0_pay6 x0 x1) x8) ∗ owns (c : Thread nD τ) arg29 fullShare (k0_pay5 (k0_pay6 x0 x1) x9) ∗ owns (c : Thread nD τ) arg30 fullShare (k0_pay28 (k0_pay6 x0 x1) x4) ∗ owns (c : Thread nD τ) arg31 fullShare (k0_pay29 (k0_pay6 x0 x1) x4)
                ∗ (∃ f, ⌜VecWindow.window (arg32.view.read (Elt F) f) ![0, 0] S8x256.size inb_S528x256_S8x256_0_0 = tail (convIn x0 x1 x7)⌝ ∗ arg32.view.loc (c : Thread nD τ) ↦[arg32.view.set]{fullShare} f)) -∗ K ⟨⟩))
          ⊢ wp frame (wpE (defs₀ (F := F)) Variants.none (c : Thread nD τ) none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K := by
  simp only [cc0_inproj_eq_skeleton]; unfold cc0_inproj_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, %hf30, H30⟩, Hk⟩
  subst hf0 hf1 hf2 hf3 hf4 hf5 hf6 hf7 hf8 hf9 hf10 hf11 hf12 hf13
  have e0 := readAll (F := F) arg2.view f0 (off := ![0, 0, 0]) inb_S1x512x1024_S1x512x1024_0_0_0
  have e1 := readAll (F := F) arg3.view f1 (off := ![0, 0]) inb_S1x1024_S1x1024_0_0
  have e2 := readAll (F := F) arg4.view f2 (off := ![0, 0]) inb_S1024x512_S1024x512_0_0
  have e3 := readAll (F := F) arg5.view f3 (off := ![0, 0]) inb_S1024x256_S1024x256_0_0
  have e4 := readAll (F := F) arg6.view f4 (off := ![0, 0]) inb_S1024x256_S1024x256_0_0
  have e5 := readAll (F := F) arg7.view f5 (off := ![0, 0]) inb_S1024x768_S1024x768_0_0
  have e6 := readAll (F := F) arg8.view f6 (off := ![0, 0]) inb_S1024x1024_S1024x1024_0_0
  have e7 := readAll (F := F) arg9.view f7 (off := ![0, 0]) inb_S1024x768_S1024x768_0_0
  have e8 := readAll (F := F) arg10.view f8 (off := ![0, 0]) inb_S1024x768_S1024x768_0_0
  have e9 := readAll (F := F) arg11.view f9 (off := ![0, 0]) inb_S1024x256_S1024x256_0_0
  have e10 := readAll (F := F) arg12.view f10 (off := ![0, 0]) inb_S1x512_S1x512_0_0
  have e11 := readAll (F := F) arg13.view f11 (off := ![0, 0, 0]) inb_S1x512x128_S1x512x128_0_0_0
  have e12 := readAll (F := F) arg14.view f12 (off := ![0, 0, 0]) inb_S1x512x128_S1x512x128_0_0_0
  have e13 := readAll (F := F) arg15.view f13 (off := ![0, 0]) inb_S3x256_S3x256_0_0
  by_cases hc : Scalar.cmpi .ne (Scalar.extui (Scalar.cmpi .eq (BitVec.ofNat 32 (i 1).val) 0#32)) (0#32 : BitVec 32) = 1#1
  · sl_exec (disch := first | sl_exact hc)
    sl_step
    iapply Hk
    isplitl [H0]
    · iexists _
      isplitr
      swap
      · iexact H0
      · ipureintro; rfl
    isplitl [H1]
    · iexists _
      isplitr
      swap
      · iexact H1
      · ipureintro; rfl
    isplitl [H2]
    · iexists _
      isplitr
      swap
      · iexact H2
      · ipureintro; rfl
    isplitl [H3]
    · iexists _
      isplitr
      swap
      · iexact H3
      · ipureintro; rfl
    isplitl [H4]
    · iexists _
      isplitr
      swap
      · iexact H4
      · ipureintro; rfl
    isplitl [H5]
    · iexists _
      isplitr
      swap
      · iexact H5
      · ipureintro; rfl
    isplitl [H6]
    · iexists _
      isplitr
      swap
      · iexact H6
      · ipureintro; rfl
    isplitl [H7]
    · iexists _
      isplitr
      swap
      · iexact H7
      · ipureintro; rfl
    isplitl [H8]
    · iexists _
      isplitr
      swap
      · iexact H8
      · ipureintro; rfl
    isplitl [H9]
    · iexists _
      isplitr
      swap
      · iexact H9
      · ipureintro; rfl
    isplitl [H10]
    · iexists _
      isplitr
      swap
      · iexact H10
      · ipureintro; rfl
    isplitl [H11]
    · iexists _
      isplitr
      swap
      · iexact H11
      · ipureintro; rfl
    isplitl [H12]
    · iexists _
      isplitr
      swap
      · iexact H12
      · ipureintro; rfl
    isplitl [H13]
    · iexists _
      isplitr
      swap
      · iexact H13
      · ipureintro; rfl
    isplitl [H14]
    · iexists _
      isplitr
      swap
      · iexact H14
      · ipureintro
        refine (View.read_writes_full _ _ _ _ _).trans ?_
        delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 outQ outKs outKw turned
        rfl
    isplitl [H15]
    · iexists _
      isplitr
      swap
      · iexact H15
      · ipureintro
        refine (View.read_writes_full _ _ _ _ _).trans ?_
        delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 outQ outKs outKw turned
        rfl
    isplitl [H16]
    · iexists _
      isplitr
      swap
      · iexact H16
      · ipureintro
        refine (View.read_writes_full _ _ _ _ _).trans ?_
        delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 outQ outKs outKw turned
        rfl
    isplitl [H17]
    · iexists _
      isplitr
      swap
      · iexact H17
      · ipureintro
        refine (View.read_writes_full _ _ _ _ _).trans ?_
        delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 outQ outKs outKw turned
        rfl
    isplitl [H18]
    · iexists _
      isplitr
      swap
      · iexact H18
      · ipureintro
        refine (View.read_writes_full _ _ _ _ _).trans ?_
        delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 outQ outKs outKw turned
        rfl
    isplitl [H19]
    · iexists _
      isplitr
      swap
      · iexact H19
      · ipureintro
        refine (View.read_writes_full _ _ _ _ _).trans ?_
        delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 outQ outKs outKw turned
        rfl
    isplitl [H20]
    · iexists _
      isplitr
      swap
      · iexact H20
      · ipureintro
        refine (View.read_writes_full _ _ _ _ _).trans ?_
        delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 outQ outKs outKw turned
        rfl
    isplitl [H21]
    · iexists _
      isplitr
      swap
      · iexact H21
      · ipureintro
        refine (View.read_writes_full _ _ _ _ _).trans ?_
        delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 outQ outKs outKw turned
        rfl
    isplitl [H22]
    · iexists _
      isplitr
      swap
      · iexact H22
      · ipureintro
        refine (View.read_writes_full _ _ _ _ _).trans ?_
        delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 outQ outKs outKw turned
        rfl
    isplitl [H23]
    · iexists _
      isplitr
      swap
      · iexact H23
      · ipureintro
        refine (View.read_writes_full _ _ _ _ _).trans ?_
        delta body_run.sl.v198 body_run.sl.v199 body_run.sl.H30_2
        delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 outSc convIn
        exact congrArg₂ (fun a b => k0_pay41 _ _ _ a b _) (lag_read arg32 _ _ _ p ((zeros_read arg32 _ _).trans (hs hc).symm)).1 (lag_read arg32 _ _ _ p ((zeros_read arg32 _ _).trans (hs hc).symm)).2
    isplitl [H24]
    · iexists _
      isplitr
      swap
      · iexact H24
      · ipureintro
        refine (View.read_writes_full _ _ _ _ _).trans ?_
        delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 outQ outKs outKw turned
        rfl
    isplitl [H25]
    · iexists _
      isplitr
      swap
      · iexact H25
      · ipureintro
        refine (View.read_writes_full _ _ _ _ _).trans ?_
        delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 outQ outKs outKw turned
        rfl
    isplitl [H26]
    · iexists _
      isplitr
      swap
      · iexact H26
      · ipureintro
        refine (View.read_writes_full _ _ _ _ _).trans ?_
        delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 outQ outKs outKw turned
        rfl
    isplitl [H27]
    · iexists _
      isplitr
      swap
      · iexact H27
      · ipureintro
        refine (View.read_writes_full _ _ _ _ _).trans ?_
        delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 outQ outKs outKw turned
        rfl
    isplitl [H28]
    · iexists _
      isplitr
      swap
      · iexact H28
      · ipureintro
        refine (View.read_writes_full _ _ _ _ _).trans ?_
        delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 outQ outKs outKw turned
        rfl
    isplitl [H29]
    · iexists _
      isplitr
      swap
      · iexact H29
      · ipureintro
        refine (View.read_writes_full _ _ _ _ _).trans ?_
        delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 outQ outKs outKw turned
        rfl
    iexists _
    isplitr
    swap
    · iexact H30
    · ipureintro
      delta body_run.sl.v212 body_run.sl.H30_2
      delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 convIn
      exact tail_read arg32 _ _ _ _
  · sl_exec (disch := first | sl_exact hc)
    sl_step
    iapply Hk
    isplitl [H0]
    · iexists _
      isplitr
      swap
      · iexact H0
      · ipureintro; rfl
    isplitl [H1]
    · iexists _
      isplitr
      swap
      · iexact H1
      · ipureintro; rfl
    isplitl [H2]
    · iexists _
      isplitr
      swap
      · iexact H2
      · ipureintro; rfl
    isplitl [H3]
    · iexists _
      isplitr
      swap
      · iexact H3
      · ipureintro; rfl
    isplitl [H4]
    · iexists _
      isplitr
      swap
      · iexact H4
      · ipureintro; rfl
    isplitl [H5]
    · iexists _
      isplitr
      swap
      · iexact H5
      · ipureintro; rfl
    isplitl [H6]
    · iexists _
      isplitr
      swap
      · iexact H6
      · ipureintro; rfl
    isplitl [H7]
    · iexists _
      isplitr
      swap
      · iexact H7
      · ipureintro; rfl
    isplitl [H8]
    · iexists _
      isplitr
      swap
      · iexact H8
      · ipureintro; rfl
    isplitl [H9]
    · iexists _
      isplitr
      swap
      · iexact H9
      · ipureintro; rfl
    isplitl [H10]
    · iexists _
      isplitr
      swap
      · iexact H10
      · ipureintro; rfl
    isplitl [H11]
    · iexists _
      isplitr
      swap
      · iexact H11
      · ipureintro; rfl
    isplitl [H12]
    · iexists _
      isplitr
      swap
      · iexact H12
      · ipureintro; rfl
    isplitl [H13]
    · iexists _
      isplitr
      swap
      · iexact H13
      · ipureintro; rfl
    isplitl [H14]
    · iexists _
      isplitr
      swap
      · iexact H14
      · ipureintro
        refine (View.read_writes_full _ _ _ _ _).trans ?_
        delta body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 outQ outKs outKw turned
        rfl
    isplitl [H15]
    · iexists _
      isplitr
      swap
      · iexact H15
      · ipureintro
        refine (View.read_writes_full _ _ _ _ _).trans ?_
        delta body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 outQ outKs outKw turned
        rfl
    isplitl [H16]
    · iexists _
      isplitr
      swap
      · iexact H16
      · ipureintro
        refine (View.read_writes_full _ _ _ _ _).trans ?_
        delta body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 outQ outKs outKw turned
        rfl
    isplitl [H17]
    · iexists _
      isplitr
      swap
      · iexact H17
      · ipureintro
        refine (View.read_writes_full _ _ _ _ _).trans ?_
        delta body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 outQ outKs outKw turned
        rfl
    isplitl [H18]
    · iexists _
      isplitr
      swap
      · iexact H18
      · ipureintro
        refine (View.read_writes_full _ _ _ _ _).trans ?_
        delta body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 outQ outKs outKw turned
        rfl
    isplitl [H19]
    · iexists _
      isplitr
      swap
      · iexact H19
      · ipureintro
        refine (View.read_writes_full _ _ _ _ _).trans ?_
        delta body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 outQ outKs outKw turned
        rfl
    isplitl [H20]
    · iexists _
      isplitr
      swap
      · iexact H20
      · ipureintro
        refine (View.read_writes_full _ _ _ _ _).trans ?_
        delta body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 outQ outKs outKw turned
        rfl
    isplitl [H21]
    · iexists _
      isplitr
      swap
      · iexact H21
      · ipureintro
        refine (View.read_writes_full _ _ _ _ _).trans ?_
        delta body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 outQ outKs outKw turned
        rfl
    isplitl [H22]
    · iexists _
      isplitr
      swap
      · iexact H22
      · ipureintro
        refine (View.read_writes_full _ _ _ _ _).trans ?_
        delta body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 outQ outKs outKw turned
        rfl
    isplitl [H23]
    · iexists _
      isplitr
      swap
      · iexact H23
      · ipureintro
        refine (View.read_writes_full _ _ _ _ _).trans ?_
        delta body_run.sl.H30_1
        delta body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 outSc convIn
        exact congrArg₂ (fun a b => k0_pay41 _ _ _ a b _) (lag_read arg32 f30 [] _ p ((hf30 hc))).1 (lag_read arg32 f30 [] _ p ((hf30 hc))).2
    isplitl [H24]
    · iexists _
      isplitr
      swap
      · iexact H24
      · ipureintro
        refine (View.read_writes_full _ _ _ _ _).trans ?_
        delta body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 outQ outKs outKw turned
        rfl
    isplitl [H25]
    · iexists _
      isplitr
      swap
      · iexact H25
      · ipureintro
        refine (View.read_writes_full _ _ _ _ _).trans ?_
        delta body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 outQ outKs outKw turned
        rfl
    isplitl [H26]
    · iexists _
      isplitr
      swap
      · iexact H26
      · ipureintro
        refine (View.read_writes_full _ _ _ _ _).trans ?_
        delta body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 outQ outKs outKw turned
        rfl
    isplitl [H27]
    · iexists _
      isplitr
      swap
      · iexact H27
      · ipureintro
        refine (View.read_writes_full _ _ _ _ _).trans ?_
        delta body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 outQ outKs outKw turned
        rfl
    isplitl [H28]
    · iexists _
      isplitr
      swap
      · iexact H28
      · ipureintro
        refine (View.read_writes_full _ _ _ _ _).trans ?_
        delta body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 outQ outKs outKw turned
        rfl
    isplitl [H29]
    · iexists _
      isplitr
      swap
      · iexact H29
      · ipureintro
        refine (View.read_writes_full _ _ _ _ _).trans ?_
        delta body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 outQ outKs outKw turned
        rfl
    iexists _
    isplitr
    swap
    · iexact H30
    · ipureintro
      delta body_run.sl.v212_1 body_run.sl.H30_1
      delta body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 convIn
      exact tail_read arg32 _ _ _ _

end Cert.InprojIdeal.Hand

end
-- ==== Proof.InprojFrame.lean ====
module

public import proofs.«01_k».proof.Proof.Gen.InprojIdeal.Frame
public import proofs.«01_k».proof.Proof.Gen.InprojIdeal.Skeleton
public import Idealize.ShloMosaic.Lib.Exec
public import Idealize.ShloMosaic.Lib.Tactic
public import Idealize.ShloMosaic.Lib.Pipeline.ValueKit
public import Idealize.ShloMosaic.Lib.Pipeline.FrameBody
public import Idealize.ShloMosaic.Lib.VecWindow
public import proofs.«01_k».proof.Proof.InprojRun

/-! The input projection's frame: its pass, run at every point of the grid. -/

@[expose] public section

set_option maxRecDepth 16384

noncomputable section

namespace Cert.InprojIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InprojIdeal Cert.InprojIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last eight rows of the convolution input of point `t`. -/
def endOf (c : Dev nD) (t : ℕ) : Vec F S8x256 .f32 :=
  if h : t < cfg0.N then tail (convIn (iblk m c 0 ⟨t, h⟩) (iblk m c 1 ⟨t, h⟩) (iblk m c 7 ⟨t, h⟩)) else k0_pay38

/-- The eight rows before point `t`'s tile: zeros before a sequence's first. -/
def prev (c : Dev nD) (t : ℕ) : Vec F S8x256 .f32 := if t % 8 = 0 then k0_pay38 else endOf m c (t - 1)

theorem prev_succ (c : Dev nD) (t : Fin cfg0.N) (h : (t.val + 1) % 8 ≠ 0) :
    prev m c (t.val + 1) = tail (convIn (iblk m c 0 t) (iblk m c 1 t) (iblk m c 7 t)) := by
  rw [prev, if_neg h, Nat.add_sub_cancel, endOf, dif_pos t.isLt]

/-- The scratch's first eight rows. -/
def top (c : Dev nD) (f : Buf (Elt F) ((c : Thread nD τ).loc cc0_scratch0)) : Vec F S8x256 .f32 :=
  VecWindow.window ((Memref.whole cc0_scratch0).view.read (Elt F) f) ![0, 0] S8x256.size inb_S528x256_S8x256_0_0

/-- What the points hand on: the scratch with the rows before the point's tile on top, the generator's register. -/
def carried (c : Dev nD) (t : ℕ) : sProp 𝕄 :=
  iprop((∃ f : Buf (Elt F) ((c : Thread nD τ).loc cc0_scratch0), ⌜t % 8 ≠ 0 → top c f = prev m c t⌝ ∗ ((c : Thread nD τ).loc cc0_scratch0) ↦{fullShare} f)
    ∗ (∃ r, prngReg c r))

/-- What a point leaves in result 0's block. -/
def out14At (c : Dev nD) (t : Fin cfg0.N) : Vec F S1x512x256 .bf16 :=
  outQ (iblk m c 0 t) (iblk m c 1 t) (iblk m c 2 t) (iblk m c 10 t) (iblk m c 11 t) (iblk m c 12 t)
/-- What a point leaves in result 1's block. -/
def out15At (c : Dev nD) (t : Fin cfg0.N) : Vec F S1x512x128 .bf16 :=
  outKs (iblk m c 0 t) (iblk m c 1 t) (iblk m c 2 t) (iblk m c 10 t) (iblk m c 11 t) (iblk m c 12 t)
/-- What a point leaves in result 2's block. -/
def out16At (c : Dev nD) (t : Fin cfg0.N) : Vec F S1x512x128 .bf16 :=
  outKw (iblk m c 0 t) (iblk m c 1 t) (iblk m c 2 t) (iblk m c 10 t) (iblk m c 11 t) (iblk m c 12 t)
/-- What a point leaves in result 3's block. -/
def out17At (c : Dev nD) (t : Fin cfg0.N) : Vec F S1x512x128 .bf16 :=
  k0_pay25 (k0_pay6 (iblk m c 0 t) (iblk m c 1 t)) (iblk m c 3 t)
/-- What a point leaves in result 4's block. -/
def out18At (c : Dev nD) (t : Fin cfg0.N) : Vec F S1x512x128 .bf16 :=
  k0_pay26 (k0_pay6 (iblk m c 0 t) (iblk m c 1 t)) (iblk m c 3 t)
/-- What a point leaves in result 5's block. -/
def out19At (c : Dev nD) (t : Fin cfg0.N) : Vec F S1x512x768 .f32 :=
  k0_pay31 (k0_pay30 (k0_pay6 (iblk m c 0 t) (iblk m c 1 t)) (iblk m c 5 t))
/-- What a point leaves in result 6's block. -/
def out20At (c : Dev nD) (t : Fin cfg0.N) : Vec F S1x512x256 .f32 :=
  k0_pay33 (k0_pay6 (iblk m c 0 t) (iblk m c 1 t)) (iblk m c 6 t)
/-- What a point leaves in result 7's block. -/
def out21At (c : Dev nD) (t : Fin cfg0.N) : Vec F S1x512x256 .f32 :=
  k0_pay34 (k0_pay6 (iblk m c 0 t) (iblk m c 1 t)) (iblk m c 6 t)
/-- What a point leaves in result 8's block. -/
def out22At (c : Dev nD) (t : Fin cfg0.N) : Vec F S1x512x256 .f32 :=
  k0_pay35 (k0_pay6 (iblk m c 0 t) (iblk m c 1 t)) (iblk m c 6 t)
/-- What a point leaves in result 9's block. -/
def out23At (c : Dev nD) (t : Fin cfg0.N) : Vec F S1x512x256 .bf16 :=
  outSc (iblk m c 0 t) (iblk m c 1 t) (iblk m c 6 t) (iblk m c 7 t) (iblk m c 13 t) (prev m c t.val)
/-- What a point leaves in result 10's block. -/
def out24At (c : Dev nD) (t : Fin cfg0.N) : Vec F S1x512x256 .bf16 :=
  k0_pay2 (k0_pay6 (iblk m c 0 t) (iblk m c 1 t)) (iblk m c 8 t)
/-- What a point leaves in result 11's block. -/
def out25At (c : Dev nD) (t : Fin cfg0.N) : Vec F S1x512x256 .bf16 :=
  k0_pay3 (k0_pay6 (iblk m c 0 t) (iblk m c 1 t)) (iblk m c 8 t)
/-- What a point leaves in result 12's block. -/
def out26At (c : Dev nD) (t : Fin cfg0.N) : Vec F S1x512x256 .bf16 :=
  k0_pay4 (k0_pay6 (iblk m c 0 t) (iblk m c 1 t)) (iblk m c 8 t)
/-- What a point leaves in result 13's block. -/
def out27At (c : Dev nD) (t : Fin cfg0.N) : Vec F S1x512x256 .f32 :=
  k0_pay5 (k0_pay6 (iblk m c 0 t) (iblk m c 1 t)) (iblk m c 9 t)
/-- What a point leaves in result 14's block. -/
def out28At (c : Dev nD) (t : Fin cfg0.N) : Vec F S1x512x128 .f32 :=
  k0_pay28 (k0_pay6 (iblk m c 0 t) (iblk m c 1 t)) (iblk m c 4 t)
/-- What a point leaves in result 15's block. -/
def out29At (c : Dev nD) (t : Fin cfg0.N) : Vec F S1x512x128 .f32 :=
  k0_pay29 (k0_pay6 (iblk m c 0 t) (iblk m c 1 t)) (iblk m c 4 t)

/-- The proof data of the launch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out14At m c t
    | ⟨15, _⟩ => out15At m c t
    | ⟨16, _⟩ => out16At m c t
    | ⟨17, _⟩ => out17At m c t
    | ⟨18, _⟩ => out18At m c t
    | ⟨19, _⟩ => out19At m c t
    | ⟨20, _⟩ => out20At m c t
    | ⟨21, _⟩ => out21At m c t
    | ⟨22, _⟩ => out22At m c t
    | ⟨23, _⟩ => out23At m c t
    | ⟨24, _⟩ => out24At m c t
    | ⟨25, _⟩ => out25At m c t
    | ⟨26, _⟩ => out26At m c t
    | ⟨27, _⟩ => out27At m c t
    | ⟨28, _⟩ => out28At m c t
    | ⟨29, _⟩ => out29At m c t
    | ⟨_ + 30, h⟩ => absurd h (Nat.not_lt.2 (Nat.le_add_left _ _))
  Φ t := carried m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = out14At m c t := by dsimp only [dats]
theorem after0_15 (c : Dev nD) (t : Fin cfg0.N) : (dats m 0 c).after 15 t = out15At m c t := by dsimp only [dats]
theorem after0_16 (c : Dev nD) (t : Fin cfg0.N) : (dats m 0 c).after 16 t = out16At m c t := by dsimp only [dats]
theorem after0_17 (c : Dev nD) (t : Fin cfg0.N) : (dats m 0 c).after 17 t = out17At m c t := by dsimp only [dats]
theorem after0_18 (c : Dev nD) (t : Fin cfg0.N) : (dats m 0 c).after 18 t = out18At m c t := by dsimp only [dats]
theorem after0_19 (c : Dev nD) (t : Fin cfg0.N) : (dats m 0 c).after 19 t = out19At m c t := by dsimp only [dats]
theorem after0_20 (c : Dev nD) (t : Fin cfg0.N) : (dats m 0 c).after 20 t = out20At m c t := by dsimp only [dats]
theorem after0_21 (c : Dev nD) (t : Fin cfg0.N) : (dats m 0 c).after 21 t = out21At m c t := by dsimp only [dats]
theorem after0_22 (c : Dev nD) (t : Fin cfg0.N) : (dats m 0 c).after 22 t = out22At m c t := by dsimp only [dats]
theorem after0_23 (c : Dev nD) (t : Fin cfg0.N) : (dats m 0 c).after 23 t = out23At m c t := by dsimp only [dats]
theorem after0_24 (c : Dev nD) (t : Fin cfg0.N) : (dats m 0 c).after 24 t = out24At m c t := by dsimp only [dats]
theorem after0_25 (c : Dev nD) (t : Fin cfg0.N) : (dats m 0 c).after 25 t = out25At m c t := by dsimp only [dats]
theorem after0_26 (c : Dev nD) (t : Fin cfg0.N) : (dats m 0 c).after 26 t = out26At m c t := by dsimp only [dats]
theorem after0_27 (c : Dev nD) (t : Fin cfg0.N) : (dats m 0 c).after 27 t = out27At m c t := by dsimp only [dats]
theorem after0_28 (c : Dev nD) (t : Fin cfg0.N) : (dats m 0 c).after 28 t = out28At m c t := by dsimp only [dats]
theorem after0_29 (c : Dev nD) (t : Fin cfg0.N) : (dats m 0 c).after 29 t = out29At m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-- What the body starts from at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d)))

/-- and what it ends with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t))

/-- A sequence's first tile is the one whose coordinate the body finds zero. -/
theorem first_iff : ∀ t : Fin cfg0.N, (Scalar.cmpi .ne (Scalar.extui (Scalar.cmpi .eq (BitVec.ofNat 32 ((grid0.coords t) 1).val) 0#32)) (0#32 : BitVec 32) = 1#1) ↔ t.val % 8 = 0 := by
  decide +kernel

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rewrite [show (dats m 0 c).Φ t.succ = carried m c (t.val + 1) from rfl, show (dats m 0 c).Φ t.castSucc = carried m c t.val from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29]
  unfold carried
  iintro ⟨⟨⟨%s, %hs, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply (body_run (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ c (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (prev m c t.val) ?_ Set.univ _)
  rotate_left
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns
    icases H14 with ⟨%f14, -, H14⟩
    iexists f14
    iexact H14
  isplitl [H15]
  · unfold owns
    icases H15 with ⟨%f15, -, H15⟩
    iexists f15
    iexact H15
  isplitl [H16]
  · unfold owns
    icases H16 with ⟨%f16, -, H16⟩
    iexists f16
    iexact H16
  isplitl [H17]
  · unfold owns
    icases H17 with ⟨%f17, -, H17⟩
    iexists f17
    iexact H17
  isplitl [H18]
  · unfold owns
    icases H18 with ⟨%f18, -, H18⟩
    iexists f18
    iexact H18
  isplitl [H19]
  · unfold owns
    icases H19 with ⟨%f19, -, H19⟩
    iexists f19
    iexact H19
  isplitl [H20]
  · unfold owns
    icases H20 with ⟨%f20, -, H20⟩
    iexists f20
    iexact H20
  isplitl [H21]
  · unfold owns
    icases H21 with ⟨%f21, -, H21⟩
    iexists f21
    iexact H21
  isplitl [H22]
  · unfold owns
    icases H22 with ⟨%f22, -, H22⟩
    iexists f22
    iexact H22
  isplitl [H23]
  · unfold owns
    icases H23 with ⟨%f23, -, H23⟩
    iexists f23
    iexact H23
  isplitl [H24]
  · unfold owns
    icases H24 with ⟨%f24, -, H24⟩
    iexists f24
    iexact H24
  isplitl [H25]
  · unfold owns
    icases H25 with ⟨%f25, -, H25⟩
    iexists f25
    iexact H25
  isplitl [H26]
  · unfold owns
    icases H26 with ⟨%f26, -, H26⟩
    iexists f26
    iexact H26
  isplitl [H27]
  · unfold owns
    icases H27 with ⟨%f27, -, H27⟩
    iexists f27
    iexact H27
  isplitl [H28]
  · unfold owns
    icases H28 with ⟨%f28, -, H28⟩
    iexists f28
    iexact H28
  isplitl [H29]
  · unfold owns
    icases H29 with ⟨%f29, -, H29⟩
    iexists f29
    iexact H29
  isplitl [HS0]
  · iexists s
    isplitr
    swap
    · simp only [Memref.view_whole, View.set_whole]
      iexact HS0
    · ipureintro
      intro h
      exact hs fun h' => h ((first_iff t).2 h')
  · iintro ⟨H0, H1, H2, H3, H4, H5, H6, H7, H8, H9, H10, H11, H12, H13, H14, H15, H16, H17, H18, H19, H20, H21, H22, H23, H24, H25, H26, H27, H28, H29, ⟨%g, %hg, HS0⟩⟩
    isplitl [HS0 Hg]
    · isplitl [HS0]
      · iexists g
        isplitr
        swap
        · simp only [Memref.view_whole, View.set_whole]
          iexact HS0
        · ipureintro
          intro h
          rw [prev_succ m c t h]
          exact hg
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    iexact H29
  · intro h
    rw [prev, if_pos ((first_iff t).1 h)]

/-- The body table's row at a point is the body at that point's buffers. -/
theorem row (t : Fin cfg0.N) : defs₀ (F := F) .tc cfg0.body (cfg0.bodyArgs t (cfg0.slots t)) = bodyAt0 t := by
  unfold defs₀
  rw [Defs.onTc_tc]

set_option maxHeartbeats 4000000 in
theorem obligation (c : Dev nD) : BodyObligation (dats (F := F) m 0 c) (defs₀ (F := F)) Variants.none () Set.univ := fun t => by
  rw [bigSep_W0, bigSep_W0, row]
  exact triple_restated (sound_body m c t) rfl .rfl fun _ => .rfl

/-- Before the first point the scratch holds anything, -/
theorem carried_in (c : Dev nD) : Pipeline.ΦA spec0 c ⊢ carried m c 0 := by
  unfold Pipeline.ΦA carried
  rw [scopedRest0_eq]
  iintro ⟨⟨%f, H⟩, Hg⟩
  isplitl [H]
  · iexists f
    isplitr
    swap
    · iexact H
    · ipureintro
      exact fun h => absurd rfl h
  iexact Hg

/-- and after the last what it holds is forgotten. -/
theorem carried_out (c : Dev nD) (t : ℕ) : carried m c t ⊢ Pipeline.ΦA spec0 c := by
  unfold Pipeline.ΦA carried
  rw [scopedRest0_eq]
  iintro ⟨⟨%f, -, H⟩, Hg⟩
  isplitl [H]
  · iexists f
    iexact H
  iexact Hg

set_option backward.isDefEq.respectTransparency.types false in
/-- The launch: every array at what the points left in it, and every counter at zero. -/
theorem launch_run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun c => carried_in m c) (hout := fun c => carried_out m c _)

theorem run_main : θ_run defs (onTc (τ := τ) (main (F := F))) (s₀ m ρ) (Pipeline.FramePost cfgs (dats m) 0 (V m)) :=
  (θ_run defs _ _).mono (fun _ h => h.1) (launch_run m ρ)

/-- The frame: the arguments end as they started and every counter is zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m) (A_eq m) (run_main m ρ)) ((θ_run defs _ _).mono (fun _ h => h.2) (launch_run m ρ))

end Cert.InprojIdeal.Hand

end
-- ==== Proof.InprojBits.lean ====
module

public import proofs.«01_k».proof.Proof.InprojFrame
public import proofs.«01_k».proof.Proof.Gen.Inproj.Frame
public import proofs.«01_k».proof.Defs

/-! The input projection on words: its program is the idealized one's text, so that one's frame, which holds at any values, is its
    frame. -/

@[expose] public section

set_option maxRecDepth 16384
set_option maxHeartbeats 10000000
set_option backward.isDefEq.respectTransparency.types false

noncomputable section

namespace Cert.InprojProof

open Idealize.ShloMosaic Idealize.SL.Sem

theorem body_same : @Cert.Inproj.defs₀ Bits _ _ = @Cert.InprojIdeal.defs₀ Bits _ _ := by
  unfold Cert.Inproj.defs₀ Cert.InprojIdeal.defs₀
  refine congrArg Defs.onTc (funext fun l => funext fun a => ?_)
  obtain ⟨v, hv⟩ := l
  cases v with
  | zero => rfl
  | succ n => exact absurd hv (Nat.not_lt.2 (Nat.le_add_left _ _))

theorem defs_same : @Cert.Inproj.defs Bits _ _ = @Cert.InprojIdeal.defs Bits _ _ := by
  unfold Cert.Inproj.defs Cert.InprojIdeal.defs
  exact congrArg (Pipeline.defs Cert.InprojIdeal.pcfgs) body_same

theorem main_same : @Cert.Inproj.main Bits _ = @Cert.InprojIdeal.main Bits _ := rfl

/-- The frame on words. -/
theorem frame_bits : Cert.quiescent_Inproj := by
  intro m g _
  rw [defs_same, main_same]
  exact Cert.InprojIdeal.Hand.quiet m g

end Cert.InprojProof

end
-- ==== Proof.InprojValue.lean ====
module

public import proofs.«01_k».proof.Proof.InprojFrame
public import proofs.«01_k».proof.Proof.Gen.InprojRefIdeal
public import Idealize.ShloMosaic.Lib.Pipeline.ValueKit

/-! The value of the input projection, up to its two longer branches: every grid point owns 512 rows of one sequence; on
    them the kernel computes what the reference computes on the whole array, row by row. -/

@[expose] public section

set_option maxRecDepth 16384

noncomputable section

open Idealize.ShloMosaic Idealize.ShloMosaic.TcCoe Idealize.SL.Sem
open Idealize.ShloMosaic.Pipeline (Dat)

namespace Cert.InprojProof

section Reference
open Cert.InprojRefIdeal Cert.InprojRefIdeal.Gen

/-- The reference's normalised tokens. -/
def hid (X : FVec Ideal S8x4096x1024 .f32) (NG : FVec Ideal S1x1024 .f32) : FVec Ideal S8x4096x1024 .f32 :=
  mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![1, 2] bcast_S1x1024_S1x1x1024_1_2 NG))

/-- A projection of them to 256 lanes. -/
def proj256 (X : FVec Ideal S8x4096x1024 .f32) (NG : FVec Ideal S1x1024 .f32) (M : FVec Ideal S1024x256 .bf16) : FVec Ideal S8x4096x256 .f32 :=
  Host.dotGeneral dot_S8x4096x1024_S1024x256_S8x4096x256_2_0_01_1_n_n none (hid X NG) (extf .f32 M bitsLt_bf16_f32)

/-- A projection of them to 512 lanes. -/
def proj512 (X : FVec Ideal S8x4096x1024 .f32) (NG : FVec Ideal S1x1024 .f32) (M : FVec Ideal S1024x512 .bf16) : FVec Ideal S8x4096x512 .f32 :=
  Host.dotGeneral dot_S8x4096x1024_S1024x512_S8x4096x512_2_0_01_1_n_n none (hid X NG) (extf .f32 M bitsLt_bf16_f32)

/-- A projection of them to 768 lanes. -/
def proj768 (X : FVec Ideal S8x4096x1024 .f32) (NG : FVec Ideal S1x1024 .f32) (M : FVec Ideal S1024x768 .bf16) : FVec Ideal S8x4096x768 .f32 :=
  Host.dotGeneral dot_S8x4096x1024_S1024x768_S8x4096x768_2_0_01_1_n_n none (hid X NG) (extf .f32 M bitsLt_bf16_f32)

/-- A projection of them to 1024 lanes. -/
def proj1024 (X : FVec Ideal S8x4096x1024 .f32) (NG : FVec Ideal S1x1024 .f32) (M : FVec Ideal S1024x1024 .bf16) : FVec Ideal S8x4096x1024 .f32 :=
  Host.dotGeneral dot_S8x4096x1024_S1024x1024_S8x4096x1024_2_0_01_1_n_n none (hid X NG) (extf .f32 M bitsLt_bf16_f32)

/-- The sigmoid of a projection. -/
def gateRef (X : FVec Ideal S8x4096x1024 .f32) (NG : FVec Ideal S1x1024 .f32) (M : FVec Ideal S1024x768 .bf16) : FVec Ideal S8x4096x768 .f32 :=
  Host.divf (broadcastInDim S8x4096x768 ![] bcast_S_S8x4096x768 (constant S_ .f32 0x3F800000#32)) (addf (broadcastInDim S8x4096x768 ![] bcast_S_S8x4096x768 (constant S_ .f32 0x3F800000#32)) (Host.exp (Host.negf (proj768 X NG M))))

/-- A projection times its sigmoid. -/
def siluRef (X : FVec Ideal S8x4096x1024 .f32) (NG : FVec Ideal S1x1024 .f32) (M : FVec Ideal S1024x1024 .bf16) : FVec Ideal S8x4096x1024 .f32 :=
  mulf (proj1024 X NG M) (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (proj1024 X NG M)))))

/-- The reference's result 3: the values of the selected blocks. -/
def ref3 (X : FVec Ideal S8x4096x1024 .f32) (NG : FVec Ideal S1x1024 .f32) (M : FVec Ideal S1024x256 .bf16) : FVec Ideal S8x4096x128 .bf16 :=
  truncf .bf16 (extractStridedSlice S8x4096x128 ![0, 0, 0] (proj256 X NG M) slices_S8x4096x256_S8x4096x128_0_0_0) bitsLt_bf16_f32

/-- The reference's result 4: the values of the window. -/
def ref4 (X : FVec Ideal S8x4096x1024 .f32) (NG : FVec Ideal S1x1024 .f32) (M : FVec Ideal S1024x256 .bf16) : FVec Ideal S8x4096x128 .bf16 :=
  truncf .bf16 (extractStridedSlice S8x4096x128 ![0, 0, 128] (proj256 X NG M) slices_S8x4096x256_S8x4096x128_0_0_128) bitsLt_bf16_f32

/-- The reference's result 5: the gates. -/
def ref5 (X : FVec Ideal S8x4096x1024 .f32) (NG : FVec Ideal S1x1024 .f32) (M : FVec Ideal S1024x768 .bf16) : FVec Ideal S8x4096x768 .f32 :=
  gateRef X NG M

/-- The reference's result 6: the first gated lanes. -/
def ref6 (X : FVec Ideal S8x4096x1024 .f32) (NG : FVec Ideal S1x1024 .f32) (M : FVec Ideal S1024x1024 .bf16) : FVec Ideal S8x4096x256 .f32 :=
  extractStridedSlice S8x4096x256 ![0, 0, 0] (siluRef X NG M) slices_S8x4096x1024_S8x4096x256_0_0_0

/-- The reference's result 7: the third gated lanes. -/
def ref7 (X : FVec Ideal S8x4096x1024 .f32) (NG : FVec Ideal S1x1024 .f32) (M : FVec Ideal S1024x1024 .bf16) : FVec Ideal S8x4096x256 .f32 :=
  extractStridedSlice S8x4096x256 ![0, 0, 512] (siluRef X NG M) slices_S8x4096x1024_S8x4096x256_0_0_512

/-- The reference's result 8: the fourth gated lanes. -/
def ref8 (X : FVec Ideal S8x4096x1024 .f32) (NG : FVec Ideal S1x1024 .f32) (M : FVec Ideal S1024x1024 .bf16) : FVec Ideal S8x4096x256 .f32 :=
  extractStridedSlice S8x4096x256 ![0, 0, 768] (siluRef X NG M) slices_S8x4096x1024_S8x4096x256_0_0_768

/-- The reference's result 10: the scaled queries. -/
def ref10 (X : FVec Ideal S8x4096x1024 .f32) (NG : FVec Ideal S1x1024 .f32) (M : FVec Ideal S1024x768 .bf16) : FVec Ideal S8x4096x256 .bf16 :=
  truncf .bf16 (mulf (extractStridedSlice S8x4096x256 ![0, 0, 0] (proj768 X NG M) slices_S8x4096x768_S8x4096x256_0_0_0) (broadcastInDim S8x4096x256 ![] bcast_S_S8x4096x256 (constant S_ .f32 0x3E000000#32))) bitsLt_bf16_f32

/-- The reference's result 11: the keys. -/
def ref11 (X : FVec Ideal S8x4096x1024 .f32) (NG : FVec Ideal S1x1024 .f32) (M : FVec Ideal S1024x768 .bf16) : FVec Ideal S8x4096x256 .bf16 :=
  truncf .bf16 (extractStridedSlice S8x4096x256 ![0, 0, 256] (proj768 X NG M) slices_S8x4096x768_S8x4096x256_0_0_256) bitsLt_bf16_f32

/-- The reference's result 12: the values. -/
def ref12 (X : FVec Ideal S8x4096x1024 .f32) (NG : FVec Ideal S1x1024 .f32) (M : FVec Ideal S1024x768 .bf16) : FVec Ideal S8x4096x256 .bf16 :=
  truncf .bf16 (extractStridedSlice S8x4096x256 ![0, 0, 512] (proj768 X NG M) slices_S8x4096x768_S8x4096x256_0_0_512) bitsLt_bf16_f32

/-- The reference's result 13: the recurrence's input. -/
def ref13 (X : FVec Ideal S8x4096x1024 .f32) (NG : FVec Ideal S1x1024 .f32) (M : FVec Ideal S1024x256 .bf16) : FVec Ideal S8x4096x256 .f32 :=
  proj256 X NG M

/-- The reference's result 14: the compressed keys. -/
def ref14 (X : FVec Ideal S8x4096x1024 .f32) (NG : FVec Ideal S1x1024 .f32) (M : FVec Ideal S1024x256 .bf16) : FVec Ideal S8x4096x128 .f32 :=
  extractStridedSlice S8x4096x128 ![0, 0, 0] (proj256 X NG M) slices_S8x4096x256_S8x4096x128_0_0_0

/-- The reference's result 15: the compressed values. -/
def ref15 (X : FVec Ideal S8x4096x1024 .f32) (NG : FVec Ideal S1x1024 .f32) (M : FVec Ideal S1024x256 .bf16) : FVec Ideal S8x4096x128 .f32 :=
  extractStridedSlice S8x4096x128 ![0, 0, 128] (proj256 X NG M) slices_S8x4096x256_S8x4096x128_0_0_128

end Reference

open Cert.InprojIdeal Cert.InprojIdeal.Gen Cert.InprojIdeal.Hand

variable (m : (ℓ : Loc nD τ sig) → Buf (Elt Ideal) ℓ)

/-- Where the moving blocks lie at a grid point. -/
theorem idx : ∀ t : Fin cfg0.N, win0_0.index t = ![t.val / 8, t.val % 8, 0] ∧ win0_1.index t = ![0, 0]
    ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0]
    ∧ win0_11.index t = ![t.val / 8, t.val % 8, 0] ∧ win0_12.index t = ![t.val / 8, t.val % 8, 0] ∧ win0_13.index t = ![0, 0] :=
  (by decide +kernel : ∀ t : Fin grid0.N, _)

/-- Where the results' blocks lie at a grid point. -/
theorem idx_out : ∀ t : Fin cfg0.N, win0_14.index t = ![t.val / 8, t.val % 8, 0] ∧ win0_15.index t = ![t.val / 8, t.val % 8, 0] ∧ win0_16.index t = ![t.val / 8, t.val % 8, 0] ∧ win0_17.index t = ![t.val / 8, t.val % 8, 0] ∧ win0_18.index t = ![t.val / 8, t.val % 8, 0] ∧ win0_19.index t = ![t.val / 8, t.val % 8, 0] ∧ win0_20.index t = ![t.val / 8, t.val % 8, 0] ∧ win0_21.index t = ![t.val / 8, t.val % 8, 0] ∧ win0_22.index t = ![t.val / 8, t.val % 8, 0] ∧ win0_23.index t = ![t.val / 8, t.val % 8, 0] ∧ win0_24.index t = ![t.val / 8, t.val % 8, 0] ∧ win0_25.index t = ![t.val / 8, t.val % 8, 0] ∧ win0_26.index t = ![t.val / 8, t.val % 8, 0] ∧ win0_27.index t = ![t.val / 8, t.val % 8, 0] ∧ win0_28.index t = ![t.val / 8, t.val % 8, 0] ∧ win0_29.index t = ![t.val / 8, t.val % 8, 0] :=
  (by decide +kernel : ∀ t : Fin grid0.N, _)

/-- The sequence of grid point `t`, -/
def bat (t : Fin cfg0.N) : Fin 8 := ⟨t.val / 8, by have h : cfg0.N = 64 := N_0; have := t.isLt; omega⟩

/-- and where row `r` of its tile lies in it. -/
def pos (t : Fin cfg0.N) (r : Fin 512) : Fin 4096 := ⟨t.val % 8 * 512 + r.val, by have := r.isLt; omega⟩

/-- A block of tokens, read at an index. -/
theorem block_x (c : Dev nD) (t : Fin cfg0.N) (r : Fin 512) (k : Fin 1024) :
    iblk m c 0 t (ix3 (0 : Fin 1) r k) = m ((c : Thread nD τ).loc main_arg0) (ix3 (bat t) (pos t r) k) := by
  unfold bat pos
  blk_point [iblk, V, idx t]

/-- The normalisation weights, read at an index. -/
theorem block_ng (c : Dev nD) (t : Fin cfg0.N) (k : Fin 1024) :
    iblk m c 1 t (ix2 (0 : Fin 1) k) = m ((c : Thread nD τ).loc main_arg1) (ix2 (0 : Fin 1) k) := by
  blk_point [iblk, V, idx t]

/-- Argument 2, read at an index. -/
theorem block_w2 (c : Dev nD) (t : Fin cfg0.N) (k : Fin 1024) (j : Fin 512) :
    iblk m c 2 t (ix2 k j) = m ((c : Thread nD τ).loc main_arg2) (ix2 k j) := by
  blk_point [iblk, V, idx t]

/-- Argument 3, read at an index. -/
theorem block_w3 (c : Dev nD) (t : Fin cfg0.N) (k : Fin 1024) (j : Fin 256) :
    iblk m c 3 t (ix2 k j) = m ((c : Thread nD τ).loc main_arg3) (ix2 k j) := by
  blk_point [iblk, V, idx t]

/-- Argument 4, read at an index. -/
theorem block_w4 (c : Dev nD) (t : Fin cfg0.N) (k : Fin 1024) (j : Fin 256) :
    iblk m c 4 t (ix2 k j) = m ((c : Thread nD τ).loc main_arg4) (ix2 k j) := by
  blk_point [iblk, V, idx t]

/-- Argument 5, read at an index. -/
theorem block_w5 (c : Dev nD) (t : Fin cfg0.N) (k : Fin 1024) (j : Fin 768) :
    iblk m c 5 t (ix2 k j) = m ((c : Thread nD τ).loc main_arg5) (ix2 k j) := by
  blk_point [iblk, V, idx t]

/-- Argument 6, read at an index. -/
theorem block_w6 (c : Dev nD) (t : Fin cfg0.N) (k : Fin 1024) (j : Fin 1024) :
    iblk m c 6 t (ix2 k j) = m ((c : Thread nD τ).loc main_arg6) (ix2 k j) := by
  blk_point [iblk, V, idx t]

/-- Argument 7, read at an index. -/
theorem block_w7 (c : Dev nD) (t : Fin cfg0.N) (k : Fin 1024) (j : Fin 768) :
    iblk m c 7 t (ix2 k j) = m ((c : Thread nD τ).loc main_arg7) (ix2 k j) := by
  blk_point [iblk, V, idx t]

/-- Argument 8, read at an index. -/
theorem block_w8 (c : Dev nD) (t : Fin cfg0.N) (k : Fin 1024) (j : Fin 768) :
    iblk m c 8 t (ix2 k j) = m ((c : Thread nD τ).loc main_arg8) (ix2 k j) := by
  blk_point [iblk, V, idx t]

/-- Argument 9, read at an index. -/
theorem block_w9 (c : Dev nD) (t : Fin cfg0.N) (k : Fin 1024) (j : Fin 256) :
    iblk m c 9 t (ix2 k j) = m ((c : Thread nD τ).loc main_arg9) (ix2 k j) := by
  blk_point [iblk, V, idx t]

/-- Argument 10, read at an index. -/
theorem block_w10 (c : Dev nD) (t : Fin cfg0.N) (j : Fin 512) :
    iblk m c 10 t (ix2 (0 : Fin 1) j) = m ((c : Thread nD τ).loc main_arg10) (ix2 (0 : Fin 1) j) := by
  blk_point [iblk, V, idx t]

/-- Argument 13, read at an index. -/
theorem block_w13 (c : Dev nD) (t : Fin cfg0.N) (k : Fin 3) (j : Fin 256) :
    iblk m c 13 t (ix2 k j) = m ((c : Thread nD τ).loc main_arg13) (ix2 k j) := by
  blk_point [iblk, V, idx t]

/-- A block of the cosines, read at an index. -/
theorem block_w11 (c : Dev nD) (t : Fin cfg0.N) (r : Fin 512) (j : Fin 128) :
    iblk m c 11 t (ix3 (0 : Fin 1) r j) = m ((c : Thread nD τ).loc main_arg11) (ix3 (bat t) (pos t r) j) := by
  unfold bat pos
  blk_point [iblk, V, idx t]

/-- A block of the sines, read at an index. -/
theorem block_w12 (c : Dev nD) (t : Fin cfg0.N) (r : Fin 512) (j : Fin 128) :
    iblk m c 12 t (ix3 (0 : Fin 1) r j) = m ((c : Thread nD τ).loc main_arg12) (ix3 (bat t) (pos t r) j) := by
  unfold bat pos
  blk_point [iblk, V, idx t]

/-- Where a block index of result 0 lies in it. -/
theorem emb14 (t : Fin cfg0.N) (a : Fin 1) (r : Fin 512) (j : Fin 256) :
    ((cfg0.win 14).blk t).view.emb (ix3 a r j) = (ix3 (bat t) (pos t r) j : S8x4096x256.Idx) := by
  unfold bat pos
  blk_ext [idx_out t]

/-- Where a block index of result 1 lies in it. -/
theorem emb15 (t : Fin cfg0.N) (a : Fin 1) (r : Fin 512) (j : Fin 128) :
    ((cfg0.win 15).blk t).view.emb (ix3 a r j) = (ix3 (bat t) (pos t r) j : S8x4096x128.Idx) := by
  unfold bat pos
  blk_ext [idx_out t]

/-- Where a block index of result 2 lies in it. -/
theorem emb16 (t : Fin cfg0.N) (a : Fin 1) (r : Fin 512) (j : Fin 128) :
    ((cfg0.win 16).blk t).view.emb (ix3 a r j) = (ix3 (bat t) (pos t r) j : S8x4096x128.Idx) := by
  unfold bat pos
  blk_ext [idx_out t]

/-- Where a block index of result 3 lies in it. -/
theorem emb17 (t : Fin cfg0.N) (a : Fin 1) (r : Fin 512) (j : Fin 128) :
    ((cfg0.win 17).blk t).view.emb (ix3 a r j) = (ix3 (bat t) (pos t r) j : S8x4096x128.Idx) := by
  unfold bat pos
  blk_ext [idx_out t]

/-- Where a block index of result 4 lies in it. -/
theorem emb18 (t : Fin cfg0.N) (a : Fin 1) (r : Fin 512) (j : Fin 128) :
    ((cfg0.win 18).blk t).view.emb (ix3 a r j) = (ix3 (bat t) (pos t r) j : S8x4096x128.Idx) := by
  unfold bat pos
  blk_ext [idx_out t]

/-- Where a block index of result 5 lies in it. -/
theorem emb19 (t : Fin cfg0.N) (a : Fin 1) (r : Fin 512) (j : Fin 768) :
    ((cfg0.win 19).blk t).view.emb (ix3 a r j) = (ix3 (bat t) (pos t r) j : S8x4096x768.Idx) := by
  unfold bat pos
  blk_ext [idx_out t]

/-- Where a block index of result 6 lies in it. -/
theorem emb20 (t : Fin cfg0.N) (a : Fin 1) (r : Fin 512) (j : Fin 256) :
    ((cfg0.win 20).blk t).view.emb (ix3 a r j) = (ix3 (bat t) (pos t r) j : S8x4096x256.Idx) := by
  unfold bat pos
  blk_ext [idx_out t]

/-- Where a block index of result 7 lies in it. -/
theorem emb21 (t : Fin cfg0.N) (a : Fin 1) (r : Fin 512) (j : Fin 256) :
    ((cfg0.win 21).blk t).view.emb (ix3 a r j) = (ix3 (bat t) (pos t r) j : S8x4096x256.Idx) := by
  unfold bat pos
  blk_ext [idx_out t]

/-- Where a block index of result 8 lies in it. -/
theorem emb22 (t : Fin cfg0.N) (a : Fin 1) (r : Fin 512) (j : Fin 256) :
    ((cfg0.win 22).blk t).view.emb (ix3 a r j) = (ix3 (bat t) (pos t r) j : S8x4096x256.Idx) := by
  unfold bat pos
  blk_ext [idx_out t]

/-- Where a block index of result 9 lies in it. -/
theorem emb23 (t : Fin cfg0.N) (a : Fin 1) (r : Fin 512) (j : Fin 256) :
    ((cfg0.win 23).blk t).view.emb (ix3 a r j) = (ix3 (bat t) (pos t r) j : S8x4096x256.Idx) := by
  unfold bat pos
  blk_ext [idx_out t]

/-- Where a block index of result 10 lies in it. -/
theorem emb24 (t : Fin cfg0.N) (a : Fin 1) (r : Fin 512) (j : Fin 256) :
    ((cfg0.win 24).blk t).view.emb (ix3 a r j) = (ix3 (bat t) (pos t r) j : S8x4096x256.Idx) := by
  unfold bat pos
  blk_ext [idx_out t]

/-- Where a block index of result 11 lies in it. -/
theorem emb25 (t : Fin cfg0.N) (a : Fin 1) (r : Fin 512) (j : Fin 256) :
    ((cfg0.win 25).blk t).view.emb (ix3 a r j) = (ix3 (bat t) (pos t r) j : S8x4096x256.Idx) := by
  unfold bat pos
  blk_ext [idx_out t]

/-- Where a block index of result 12 lies in it. -/
theorem emb26 (t : Fin cfg0.N) (a : Fin 1) (r : Fin 512) (j : Fin 256) :
    ((cfg0.win 26).blk t).view.emb (ix3 a r j) = (ix3 (bat t) (pos t r) j : S8x4096x256.Idx) := by
  unfold bat pos
  blk_ext [idx_out t]

/-- Where a block index of result 13 lies in it. -/
theorem emb27 (t : Fin cfg0.N) (a : Fin 1) (r : Fin 512) (j : Fin 256) :
    ((cfg0.win 27).blk t).view.emb (ix3 a r j) = (ix3 (bat t) (pos t r) j : S8x4096x256.Idx) := by
  unfold bat pos
  blk_ext [idx_out t]

/-- Where a block index of result 14 lies in it. -/
theorem emb28 (t : Fin cfg0.N) (a : Fin 1) (r : Fin 512) (j : Fin 128) :
    ((cfg0.win 28).blk t).view.emb (ix3 a r j) = (ix3 (bat t) (pos t r) j : S8x4096x128.Idx) := by
  unfold bat pos
  blk_ext [idx_out t]

/-- Where a block index of result 15 lies in it. -/
theorem emb29 (t : Fin cfg0.N) (a : Fin 1) (r : Fin 512) (j : Fin 128) :
    ((cfg0.win 29).blk t).view.emb (ix3 a r j) = (ix3 (bat t) (pos t r) j : S8x4096x128.Idx) := by
  unfold bat pos
  blk_ext [idx_out t]

/-- Taking from zero is negation. -/
theorem zero_sub_ideal (x : EReal) : (0 : EReal) - x = -x := by rw [sub_eq_add_neg, zero_add]

/-- A tile of the queries' and keys' projection, -/
theorem proj_qk (c : Dev nD) (t : Fin cfg0.N) (r : Fin 512) (j : Fin 512) :
    k0_pay7 (iblk m c 0 t) (iblk m c 1 t) (iblk m c 2 t) (ix2 r j) = proj512 (m ((c : Thread nD τ).loc main_arg0)) (m ((c : Thread nD τ).loc main_arg1)) (m ((c : Thread nD τ).loc main_arg2)) (ix3 (bat t) (pos t r) j) := by
  pointwise [k0_pay7, k0_pay6, proj512, hid, block_x, block_ng, block_w2]

/-- of the values', -/
theorem proj_v (c : Dev nD) (t : Fin cfg0.N) (r : Fin 512) (j : Fin 256) :
    k0_pay24 (k0_pay6 (iblk m c 0 t) (iblk m c 1 t)) (iblk m c 3 t) (ix2 r j) = proj256 (m ((c : Thread nD τ).loc main_arg0)) (m ((c : Thread nD τ).loc main_arg1)) (m ((c : Thread nD τ).loc main_arg3)) (ix3 (bat t) (pos t r) j) := by
  pointwise [k0_pay24, k0_pay6, proj256, hid, block_x, block_ng, block_w3]

/-- of the compressed keys' and values', -/
theorem proj_c (c : Dev nD) (t : Fin cfg0.N) (r : Fin 512) (j : Fin 256) :
    k0_pay27 (k0_pay6 (iblk m c 0 t) (iblk m c 1 t)) (iblk m c 4 t) (ix2 r j) = proj256 (m ((c : Thread nD τ).loc main_arg0)) (m ((c : Thread nD τ).loc main_arg1)) (m ((c : Thread nD τ).loc main_arg4)) (ix3 (bat t) (pos t r) j) := by
  pointwise [k0_pay27, k0_pay6, proj256, hid, block_x, block_ng, block_w4]

/-- of the gates', -/
theorem proj_g (c : Dev nD) (t : Fin cfg0.N) (r : Fin 512) (j : Fin 768) :
    k0_pay30 (k0_pay6 (iblk m c 0 t) (iblk m c 1 t)) (iblk m c 5 t) (ix2 r j) = proj768 (m ((c : Thread nD τ).loc main_arg0)) (m ((c : Thread nD τ).loc main_arg1)) (m ((c : Thread nD τ).loc main_arg5)) (ix3 (bat t) (pos t r) j) := by
  pointwise [k0_pay30, k0_pay6, proj768, hid, block_x, block_ng, block_w5]

/-- of the short convolution's, -/
theorem proj_sc (c : Dev nD) (t : Fin cfg0.N) (r : Fin 512) (j : Fin 768) :
    k0_pay36 (k0_pay6 (iblk m c 0 t) (iblk m c 1 t)) (iblk m c 7 t) (ix2 r j) = proj768 (m ((c : Thread nD τ).loc main_arg0)) (m ((c : Thread nD τ).loc main_arg1)) (m ((c : Thread nD τ).loc main_arg7)) (ix3 (bat t) (pos t r) j) := by
  pointwise [k0_pay36, k0_pay6, proj768, hid, block_x, block_ng, block_w7]

/-- and of the stick-breaking attention's. -/
theorem proj_sb (c : Dev nD) (t : Fin cfg0.N) (r : Fin 512) (j : Fin 768) :
    k0_pay1 (k0_pay6 (iblk m c 0 t) (iblk m c 1 t)) (iblk m c 8 t) (ix2 r j) = proj768 (m ((c : Thread nD τ).loc main_arg0)) (m ((c : Thread nD τ).loc main_arg1)) (m ((c : Thread nD τ).loc main_arg8)) (ix3 (bat t) (pos t r) j) := by
  pointwise [k0_pay1, k0_pay6, proj768, hid, block_x, block_ng, block_w8]

/-- A tile of the gated lanes. -/
theorem silu_z (c : Dev nD) (t : Fin cfg0.N) (r : Fin 512) (j : Fin 1024) :
    k0_pay32 (k0_pay6 (iblk m c 0 t) (iblk m c 1 t)) (iblk m c 6 t) (ix2 r j) = siluRef (m ((c : Thread nD τ).loc main_arg0)) (m ((c : Thread nD τ).loc main_arg1)) (m ((c : Thread nD τ).loc main_arg6)) (ix3 (bat t) (pos t r) j) := by
  pointwise [k0_pay32, k0_pay6, siluRef, proj1024, hid, block_x, block_ng, block_w6]
  simp only [zero_sub_ideal]

/-- Result 3 after the run. -/
theorem final3 (c : Dev nD) : (dats m 0 c).arrAt 17 (cfgs 0).N = ref3 (m ((c : Thread nD τ).loc main_arg0)) (m ((c : Thread nD τ).loc main_arg1)) (m ((c : Thread nD τ).loc main_arg3)) := by
  refine (dats m 0 c).arrAt_eq_of_covers 17 _ (by decide +kernel) fun t _ y => ?_
  idx_vars y
  rw [emb17]
  blk_simp
  rw [after0_17]
  unfold out17At
  pointwise [k0_pay25, proj_v, ref3]

/-- Result 4 after the run. -/
theorem final4 (c : Dev nD) : (dats m 0 c).arrAt 18 (cfgs 0).N = ref4 (m ((c : Thread nD τ).loc main_arg0)) (m ((c : Thread nD τ).loc main_arg1)) (m ((c : Thread nD τ).loc main_arg3)) := by
  refine (dats m 0 c).arrAt_eq_of_covers 18 _ (by decide +kernel) fun t _ y => ?_
  idx_vars y
  rw [emb18]
  blk_simp
  rw [after0_18]
  unfold out18At
  pointwise [k0_pay26, proj_v, ref4]

/-- Result 5 after the run. -/
theorem final5 (c : Dev nD) : (dats m 0 c).arrAt 19 (cfgs 0).N = ref5 (m ((c : Thread nD τ).loc main_arg0)) (m ((c : Thread nD τ).loc main_arg1)) (m ((c : Thread nD τ).loc main_arg5)) := by
  refine (dats m 0 c).arrAt_eq_of_covers 19 _ (by decide +kernel) fun t _ y => ?_
  idx_vars y
  rw [emb19]
  blk_simp
  rw [after0_19]
  unfold out19At
  pointwise [k0_pay31, proj_g, gateRef, ref5]
  simp only [zero_sub_ideal]

/-- Result 6 after the run. -/
theorem final6 (c : Dev nD) : (dats m 0 c).arrAt 20 (cfgs 0).N = ref6 (m ((c : Thread nD τ).loc main_arg0)) (m ((c : Thread nD τ).loc main_arg1)) (m ((c : Thread nD τ).loc main_arg6)) := by
  refine (dats m 0 c).arrAt_eq_of_covers 20 _ (by decide +kernel) fun t _ y => ?_
  idx_vars y
  rw [emb20]
  blk_simp
  rw [after0_20]
  unfold out20At
  pointwise [k0_pay33, silu_z, ref6]

/-- Result 7 after the run. -/
theorem final7 (c : Dev nD) : (dats m 0 c).arrAt 21 (cfgs 0).N = ref7 (m ((c : Thread nD τ).loc main_arg0)) (m ((c : Thread nD τ).loc main_arg1)) (m ((c : Thread nD τ).loc main_arg6)) := by
  refine (dats m 0 c).arrAt_eq_of_covers 21 _ (by decide +kernel) fun t _ y => ?_
  idx_vars y
  rw [emb21]
  blk_simp
  rw [after0_21]
  unfold out21At
  pointwise [k0_pay34, silu_z, ref7]

/-- Result 8 after the run. -/
theorem final8 (c : Dev nD) : (dats m 0 c).arrAt 22 (cfgs 0).N = ref8 (m ((c : Thread nD τ).loc main_arg0)) (m ((c : Thread nD τ).loc main_arg1)) (m ((c : Thread nD τ).loc main_arg6)) := by
  refine (dats m 0 c).arrAt_eq_of_covers 22 _ (by decide +kernel) fun t _ y => ?_
  idx_vars y
  rw [emb22]
  blk_simp
  rw [after0_22]
  unfold out22At
  pointwise [k0_pay35, silu_z, ref8]

/-- Result 10 after the run. -/
theorem final10 (c : Dev nD) : (dats m 0 c).arrAt 24 (cfgs 0).N = ref10 (m ((c : Thread nD τ).loc main_arg0)) (m ((c : Thread nD τ).loc main_arg1)) (m ((c : Thread nD τ).loc main_arg8)) := by
  refine (dats m 0 c).arrAt_eq_of_covers 24 _ (by decide +kernel) fun t _ y => ?_
  idx_vars y
  rw [emb24]
  blk_simp
  rw [after0_24]
  unfold out24At
  pointwise [k0_pay2, proj_sb, ref10]

/-- Result 11 after the run. -/
theorem final11 (c : Dev nD) : (dats m 0 c).arrAt 25 (cfgs 0).N = ref11 (m ((c : Thread nD τ).loc main_arg0)) (m ((c : Thread nD τ).loc main_arg1)) (m ((c : Thread nD τ).loc main_arg8)) := by
  refine (dats m 0 c).arrAt_eq_of_covers 25 _ (by decide +kernel) fun t _ y => ?_
  idx_vars y
  rw [emb25]
  blk_simp
  rw [after0_25]
  unfold out25At
  pointwise [k0_pay3, proj_sb, ref11]

/-- Result 12 after the run. -/
theorem final12 (c : Dev nD) : (dats m 0 c).arrAt 26 (cfgs 0).N = ref12 (m ((c : Thread nD τ).loc main_arg0)) (m ((c : Thread nD τ).loc main_arg1)) (m ((c : Thread nD τ).loc main_arg8)) := by
  refine (dats m 0 c).arrAt_eq_of_covers 26 _ (by decide +kernel) fun t _ y => ?_
  idx_vars y
  rw [emb26]
  blk_simp
  rw [after0_26]
  unfold out26At
  pointwise [k0_pay4, proj_sb, ref12]

/-- Result 13 after the run. -/
theorem final13 (c : Dev nD) : (dats m 0 c).arrAt 27 (cfgs 0).N = ref13 (m ((c : Thread nD τ).loc main_arg0)) (m ((c : Thread nD τ).loc main_arg1)) (m ((c : Thread nD τ).loc main_arg9)) := by
  refine (dats m 0 c).arrAt_eq_of_covers 27 _ (by decide +kernel) fun t _ y => ?_
  idx_vars y
  rw [emb27]
  blk_simp
  rw [after0_27]
  unfold out27At
  pointwise [k0_pay5, k0_pay6, proj256, hid, block_x, block_ng, block_w9, ref13]

/-- Result 14 after the run. -/
theorem final14 (c : Dev nD) : (dats m 0 c).arrAt 28 (cfgs 0).N = ref14 (m ((c : Thread nD τ).loc main_arg0)) (m ((c : Thread nD τ).loc main_arg1)) (m ((c : Thread nD τ).loc main_arg4)) := by
  refine (dats m 0 c).arrAt_eq_of_covers 28 _ (by decide +kernel) fun t _ y => ?_
  idx_vars y
  rw [emb28]
  blk_simp
  rw [after0_28]
  unfold out28At
  pointwise [k0_pay28, proj_c, ref14]

/-- Result 15 after the run. -/
theorem final15 (c : Dev nD) : (dats m 0 c).arrAt 29 (cfgs 0).N = ref15 (m ((c : Thread nD τ).loc main_arg0)) (m ((c : Thread nD τ).loc main_arg1)) (m ((c : Thread nD τ).loc main_arg4)) := by
  refine (dats m 0 c).arrAt_eq_of_covers 29 _ (by decide +kernel) fun t _ y => ?_
  idx_vars y
  rw [emb29]
  blk_simp
  rw [after0_29]
  unfold out29At
  pointwise [k0_pay29, proj_c, ref15]

end Cert.InprojProof

end
-- ==== Proof.InprojConv.lean ====
module

public import proofs.«01_k».proof.Proof.InprojValue
public import proofs.«01_k».proof.Proof.Gen.InprojRefIdeal
public import Idealize.ShloMosaic.Lib.Pipeline.ValueKit

/-! The value of the input projection's short convolution: the rows a tile keeps in scratch are the reference's rows before
    the tile. -/

@[expose] public section

set_option maxRecDepth 16384

noncomputable section

open Idealize.ShloMosaic Idealize.ShloMosaic.TcCoe Idealize.SL.Sem
open Idealize.ShloMosaic.Pipeline (Dat)

namespace Cert.InprojProof

section Reference
open Cert.InprojRefIdeal Cert.InprojRefIdeal.Gen

/-- The convolution's input. -/
def convRef (X : FVec Ideal S8x4096x1024 .f32) (NG : FVec Ideal S1x1024 .f32) (M : FVec Ideal S1024x768 .bf16) : FVec Ideal S8x4096x256 .f32 :=
  mulf (extractStridedSlice S8x4096x256 ![0, 0, 256] (proj768 X NG M) slices_S8x4096x768_S8x4096x256_0_0_256) (extractStridedSlice S8x4096x256 ![0, 0, 512] (proj768 X NG M) slices_S8x4096x768_S8x4096x256_0_0_512)

/-- An array one row later, -/
def before1 (U : FVec Ideal S8x4096x256 .f32) : FVec Ideal S8x4096x256 .f32 :=
  concatenate S8x4096x256 1 [⟨S8x1x256, (broadcastInDim S8x1x256 ![] bcast_S_S8x1x256 (constant S_ .f32 0x00000000#32))⟩, ⟨S8x4095x256, (extractStridedSlice S8x4095x256 ![0, 0, 0] U slices_S8x4096x256_S8x4095x256_0_0_0)⟩] concatenates_S8x1x256_S8x4095x256_S8x4096x256_d1

/-- and two rows later. -/
def before2 (U : FVec Ideal S8x4096x256 .f32) : FVec Ideal S8x4096x256 .f32 :=
  concatenate S8x4096x256 1 [⟨S8x2x256, (broadcastInDim S8x2x256 ![] bcast_S_S8x2x256 (constant S_ .f32 0x00000000#32))⟩, ⟨S8x4094x256, (extractStridedSlice S8x4094x256 ![0, 0, 0] U slices_S8x4096x256_S8x4094x256_0_0_0)⟩] concatenates_S8x2x256_S8x4094x256_S8x4096x256_d1

/-- The reference's result 9: the short convolution's branch. -/
def ref9 (X : FVec Ideal S8x4096x1024 .f32) (NG : FVec Ideal S1x1024 .f32) (MZ : FVec Ideal S1024x1024 .bf16) (M : FVec Ideal S1024x768 .bf16)
    (CW : FVec Ideal S3x256 .f32) : FVec Ideal S8x4096x256 .bf16 :=
  truncf .bf16 (mulf (mulf (extractStridedSlice S8x4096x256 ![0, 0, 0] (proj768 X NG M) slices_S8x4096x768_S8x4096x256_0_0_0) (addf (addf (mulf (broadcastInDim S8x4096x256 ![0, 1, 2] bcast_S1x1x256_S8x4096x256_0_1_2 (broadcastInDim S1x1x256 ![2] bcast_S256_S1x1x256_2 (shapeCast _ (extractStridedSlice S1x256 ![0, 0] CW slices_S3x256_S1x256_0_0) shapeCasts_S1x256_S256))) (before2 (convRef X NG M))) (mulf (broadcastInDim S8x4096x256 ![0, 1, 2] bcast_S1x1x256_S8x4096x256_0_1_2 (broadcastInDim S1x1x256 ![2] bcast_S256_S1x1x256_2 (shapeCast _ (extractStridedSlice S1x256 ![1, 0] CW slices_S3x256_S1x256_1_0) shapeCasts_S1x256_S256))) (before1 (convRef X NG M)))) (mulf (broadcastInDim S8x4096x256 ![0, 1, 2] bcast_S1x1x256_S8x4096x256_0_1_2 (broadcastInDim S1x1x256 ![2] bcast_S256_S1x1x256_2 (shapeCast _ (extractStridedSlice S1x256 ![2, 0] CW slices_S3x256_S1x256_2_0) shapeCasts_S1x256_S256))) (convRef X NG M)))) (extractStridedSlice S8x4096x256 ![0, 0, 256] (siluRef X NG MZ) slices_S8x4096x1024_S8x4096x256_0_0_256)) bitsLt_bf16_f32

/-- The array one row later, read at an index, -/
theorem before1_apply (U : FVec Ideal S8x4096x256 .f32) (b : Fin 8) (s : Fin 4096) (j : Fin 256) :
    before1 U (ix3 b s j) = if h : s.val < 1 then 0 else U (ix3 b (⟨s.val - 1, by omega⟩ : Fin 4096) j) := by
  pointwise [before1]

/-- and two rows later. -/
theorem before2_apply (U : FVec Ideal S8x4096x256 .f32) (b : Fin 8) (s : Fin 4096) (j : Fin 256) :
    before2 U (ix3 b s j) = if h : s.val < 2 then 0 else U (ix3 b (⟨s.val - 2, by omega⟩ : Fin 4096) j) := by
  pointwise [before2]

end Reference

open Cert.InprojIdeal Cert.InprojIdeal.Gen Cert.InprojIdeal.Hand

variable (m : (ℓ : Loc nD τ sig) → Buf (Elt Ideal) ℓ)

/-- A tile's convolution input. -/
theorem conv_in (c : Dev nD) (t : Fin cfg0.N) (r : Fin 512) (j : Fin 256) :
    convIn (iblk m c 0 t) (iblk m c 1 t) (iblk m c 7 t) (ix2 r j)
      = convRef (m ((c : Thread nD τ).loc main_arg0)) (m ((c : Thread nD τ).loc main_arg1)) (m ((c : Thread nD τ).loc main_arg7)) (ix3 (bat t) (pos t r) j) := by
  pointwise [convIn, k0_pay39, k0_pay37, proj_sc, convRef]

/-- The rows before a sequence's first tile are zeros. -/
theorem prev_first (c : Dev nD) (t : Fin cfg0.N) (h : t.val % 8 = 0) (q : Fin 8) (j : Fin 256) : prev m c t.val (ix2 q j) = 0 := by
  rw [prev, if_pos h]
  pointwise [k0_pay38]

/-- The rows before a later tile are the last of the tile before it. -/
theorem prev_later (c : Dev nD) (t : Fin cfg0.N) (h : t.val % 8 ≠ 0) (q : Fin 8) (j : Fin 256) (s : Fin 4096) (hs : s.val + 8 = t.val % 8 * 512 + q.val) :
    prev m c t.val (ix2 q j)
      = convRef (m ((c : Thread nD τ).loc main_arg0)) (m ((c : Thread nD τ).loc main_arg1)) (m ((c : Thread nD τ).loc main_arg7)) (ix3 (bat t) s j) := by
  have hN := t.isLt
  have hq := q.isLt
  rw [prev, if_neg h, endOf, dif_pos (by omega)]
  have e : ∀ U : Vec Ideal S512x256 .f32, tail U (ix2 q j) = U (ix2 (⟨504 + q.val, by omega⟩ : Fin 512) j) := by
    intro U
    unfold tail
    pointwise [k0_pay40]
    rfl
  rw [e, conv_in]
  refine congrArg _ (congrArg₂ (fun a b => ix3 a b j) (Fin.ext ?_) (Fin.ext ?_))
  · show (t.val - 1) / 8 = t.val / 8
    omega
  · show (t.val - 1) % 8 * 512 + (504 + q.val) = s.val
    omega

/-- A tile's convolution input `n` rows earlier is the reference's. -/
theorem lag_at (c : Dev nD) (t : Fin cfg0.N) (n : ℕ) (h0 : 0 < n) (h8 : n ≤ 8) (r : Fin 512) (j : Fin 256) :
    lag n (prev m c t.val) (convIn (iblk m c 0 t) (iblk m c 1 t) (iblk m c 7 t)) (ix2 r j)
      = if h : (pos t r).val < n then 0 else convRef (m ((c : Thread nD τ).loc main_arg0)) (m ((c : Thread nD τ).loc main_arg1))
          (m ((c : Thread nD τ).loc main_arg7)) (ix3 (bat t) (⟨(pos t r).val - n, by omega⟩ : Fin 4096) j) := by
  have hr := r.isLt
  have hp : (pos t r).val = t.val % 8 * 512 + r.val := rfl
  show (if h : r.val < n then prev m c t.val (ix2 (⟨(8 - n + r.val) % 8, _⟩ : Fin 8) j) else convIn (iblk m c 0 t) (iblk m c 1 t) (iblk m c 7 t) (ix2 (⟨r.val - n, _⟩ : Fin 512) j)) = _
  by_cases h : r.val < n
  · rw [dif_pos h]
    by_cases ht : t.val % 8 = 0
    · rw [prev_first m c t ht, dif_pos (by omega)]
    · rw [dif_neg (by omega)]
      refine prev_later m c t ht _ j _ ?_
      show (pos t r).val - n + 8 = t.val % 8 * 512 + (8 - n + r.val) % 8
      omega
  · rw [dif_neg h, dif_neg (by omega), conv_in]
    refine congrArg _ (congrArg (fun b => ix3 _ b j) (Fin.ext ?_))
    show t.val % 8 * 512 + (r.val - n) = (pos t r).val - n
    omega

/-- Three summands in the other order. -/
theorem add_turn (a b c : EReal) : a + b + c = c + b + a := by
  rw [add_comm, add_comm a b, add_assoc]

/-- Result 9 after the run. -/
theorem final9 (c : Dev nD) : (dats m 0 c).arrAt 23 (cfgs 0).N = ref9 (m ((c : Thread nD τ).loc main_arg0)) (m ((c : Thread nD τ).loc main_arg1))
    (m ((c : Thread nD τ).loc main_arg6)) (m ((c : Thread nD τ).loc main_arg7)) (m ((c : Thread nD τ).loc main_arg13)) := by
  refine (dats m 0 c).arrAt_eq_of_covers 23 _ (by decide +kernel) fun t _ y => ?_
  idx_vars y
  rw [emb23]
  blk_simp
  rw [after0_23]
  unfold out23At outSc
  have e1 := lag_at m c t 1 (by omega) (by omega)
  have e2 := lag_at m c t 2 (by omega) (by omega)
  generalize lag 1 (prev m c t.val) _ = L1 at e1 ⊢
  generalize lag 2 (prev m c t.val) _ = L2 at e2 ⊢
  pointwise [k0_pay41, k0_pay37, proj_sc, silu_z, ref9, e1, e2, before1_apply, before2_apply, convRef, block_w13]
  exact congrArg (fun z => _ * z * _) (add_turn _ _ _)

end Cert.InprojProof

end
-- ==== Proof.InprojHeads.lean ====
module

public import proofs.«01_k».proof.Proof.InprojValue
public import proofs.«01_k».proof.Proof.Gen.InprojRefIdeal
public import Idealize.ShloMosaic.Lib.Pipeline.ValueKit

/-! The values of the input projection's queries and keys: the heads' norm and the turn by position. -/

@[expose] public section

set_option maxRecDepth 16384

noncomputable section

open Idealize.ShloMosaic Idealize.ShloMosaic.TcCoe Idealize.SL.Sem
open Idealize.ShloMosaic.Pipeline (Dat)

namespace Cert.InprojProof

section Reference
open Cert.InprojRefIdeal Cert.InprojRefIdeal.Gen

/-- The reference's normalised heads of a projection `Q`. -/
def headsRef (Q : FVec Ideal S8x4096x512 .f32) (QK : FVec Ideal S1x512 .f32) : FVec Ideal S8x4096x8x64 .f32 :=
  mulf (mulf (shapeCast _ Q shapeCasts_S8x4096x512_S8x4096x8x64) (broadcastInDim S8x4096x8x64 ![0, 1, 2, 3] bcast_S8x4096x8x1_S8x4096x8x64_0_1_2_3 (Host.rsqrt (addf (Host.divf (broadcastInDim S8x4096x8x1 ![0, 1, 2] bcast_S8x4096x8_S8x4096x8x1_0_1_2 (Host.reduceAdd (mulf (shapeCast _ Q shapeCasts_S8x4096x512_S8x4096x8x64) (shapeCast _ Q shapeCasts_S8x4096x512_S8x4096x8x64)) (constant S_ .f32 0x00000000#32) reducesTo_S8x4096x8x64_S8x4096x8_d3 h_S_)) (broadcastInDim S8x4096x8x1 ![] bcast_S_S8x4096x8x1 (constant S_ .f32 0x42800000#32))) (broadcastInDim S8x4096x8x1 ![] bcast_S_S8x4096x8x1 (constant S_ .f32 0x358637BD#32)))))) (broadcastInDim S8x4096x8x64 ![0, 1, 2, 3] bcast_S1x1x8x64_S8x4096x8x64_0_1_2_3 (broadcastInDim S1x1x8x64 ![2, 3] bcast_S8x64_S1x1x8x64_2_3 (shapeCast _ QK shapeCasts_S1x512_S8x64)))

/-- Each head with its halves exchanged. -/
def swapRef (N : FVec Ideal S8x4096x8x64 .f32) : FVec Ideal S8x4096x8x64 .f32 :=
  concatenate S8x4096x8x64 3 [⟨S8x4096x8x32, extractStridedSlice S8x4096x8x32 ![0, 0, 0, 32] N slices_S8x4096x8x64_S8x4096x8x32_0_0_0_32⟩, ⟨S8x4096x8x32, extractStridedSlice S8x4096x8x32 ![0, 0, 0, 0] N slices_S8x4096x8x64_S8x4096x8x32_0_0_0_0⟩] concatenates_S8x4096x8x32_S8x4096x8x32_S8x4096x8x64_d3

/-- The heads side by side. -/
def flatRef (N : FVec Ideal S8x4096x8x64 .f32) : FVec Ideal S8x4096x512 .f32 :=
  shapeCast _ N shapeCasts_S8x4096x8x64_S8x4096x512

/-- A table of 128 lanes, four times side by side. -/
def tableRef (C : FVec Ideal S8x4096x128 .f32) : FVec Ideal S8x4096x512 .f32 :=
  concatenate S8x4096x512 2 [⟨S8x4096x128, C⟩, ⟨S8x4096x128, C⟩, ⟨S8x4096x128, C⟩, ⟨S8x4096x128, C⟩] concatenates_S8x4096x128_S8x4096x128_S8x4096x128_S8x4096x128_S8x4096x512_d2

/-- The heads turned by position. -/
def turnRef (Q : FVec Ideal S8x4096x512 .f32) (QK : FVec Ideal S1x512 .f32) (C S : FVec Ideal S8x4096x128 .f32) : FVec Ideal S8x4096x512 .f32 :=
  addf (mulf (flatRef (headsRef Q QK)) (tableRef C)) (mulf (flatRef (swapRef (headsRef Q QK))) (tableRef S))

/-- The mean of the squares of lane `l`'s head, -/
def meanAt (f : Fin 512 → EReal) (l : Fin 512) : EReal :=
  Ideal.div (∑ d : Fin 64, f ⟨l.val / 64 * 64 + d.val, by omega⟩ * f ⟨l.val / 64 * 64 + d.val, by omega⟩) (Ideal.ofBits .f32 0x42800000#32)

/-- the normalised lane, -/
def normAt (f w : Fin 512 → EReal) (l : Fin 512) : EReal :=
  f l * Ideal.rsqrt (meanAt f l + Ideal.ofBits .f32 0x358637BD#32) * w l

/-- and a lane turned by the tables `c` and `s`. -/
def turnAt (g : Fin 512 → EReal) (c s : Fin 128 → EReal) (l : Fin 512) : EReal :=
  g l * c ⟨l.val % 128, by omega⟩ + (if l.val % 64 < 32 then g ⟨(l.val + 32) % 512, by omega⟩ else g ⟨l.val - 32, by omega⟩) * s ⟨l.val % 128, by omega⟩

/-- The reference's normalised heads, read at an index. -/
theorem heads_apply (Q : FVec Ideal S8x4096x512 .f32) (QK : FVec Ideal S1x512 .f32) (b : Fin 8) (s : Fin 4096) (h : Fin 8) (d : Fin 64) :
    headsRef Q QK (ix4 b s h d) = normAt (fun k => Q (ix3 b s k)) (fun k => QK (ix2 (0 : Fin 1) k)) ⟨h.val * 64 + d.val, by omega⟩ := by
  have hd := d.isLt
  have e : (h.val * 64 + d.val) / 64 = h.val := by omega
  pointwise [headsRef]
  unfold normAt meanAt
  simp only [e]

/-- A table four times side by side, read at an index. -/
theorem table_apply (C : FVec Ideal S8x4096x128 .f32) (b : Fin 8) (s : Fin 4096) (l : Fin 512) :
    tableRef C (ix3 b s l) = C (ix3 b s (⟨l.val % 128, by omega⟩ : Fin 128)) := by
  have hl := l.isLt
  pointwise [tableRef]
  split_ifs <;> exact congrArg (fun k => C (ix3 b s k)) (Fin.ext (by dsimp only; omega))

/-- The reference's turned heads, read at an index. -/
theorem turn_apply (Q : FVec Ideal S8x4096x512 .f32) (QK : FVec Ideal S1x512 .f32) (C S : FVec Ideal S8x4096x128 .f32) (b : Fin 8) (s : Fin 4096) (l : Fin 512) :
    turnRef Q QK C S (ix3 b s l) = turnAt (normAt (fun k => Q (ix3 b s k)) (fun k => QK (ix2 (0 : Fin 1) k))) (fun k => C (ix3 b s k)) (fun k => S (ix3 b s k)) l := by
  have hl := l.isLt
  pointwise [turnRef, flatRef, swapRef, heads_apply, table_apply]
  unfold turnAt
  refine congrArg₂ (· + ·) (congrArg (· * _) (congrArg (normAt _ _) (Fin.ext ?_))) (congrArg (· * _) ?_)
  · show l.val / 64 * 64 + l.val % 64 = l.val
    omega
  · split_ifs <;> exact congrArg (normAt _ _) (Fin.ext (by dsimp only; omega))

/-- The reference's result 0: the queries, -/
def ref0 (X : FVec Ideal S8x4096x1024 .f32) (NG : FVec Ideal S1x1024 .f32) (M : FVec Ideal S1024x512 .bf16) (QK : FVec Ideal S1x512 .f32) (C S : FVec Ideal S8x4096x128 .f32) : FVec Ideal S8x4096x256 .bf16 :=
  truncf .bf16 (mulf (extractStridedSlice S8x4096x256 ![0, 0, 0] (turnRef (proj512 X NG M) QK C S) slices_S8x4096x512_S8x4096x256_0_0_0) (broadcastInDim S8x4096x256 ![] bcast_S_S8x4096x256 (constant S_ .f32 0x3E000000#32))) bitsLt_bf16_f32

/-- result 1: the keys of the selected blocks, -/
def ref1 (X : FVec Ideal S8x4096x1024 .f32) (NG : FVec Ideal S1x1024 .f32) (M : FVec Ideal S1024x512 .bf16) (QK : FVec Ideal S1x512 .f32) (C S : FVec Ideal S8x4096x128 .f32) : FVec Ideal S8x4096x128 .bf16 :=
  truncf .bf16 (extractStridedSlice S8x4096x128 ![0, 0, 256] (turnRef (proj512 X NG M) QK C S) slices_S8x4096x512_S8x4096x128_0_0_256) bitsLt_bf16_f32

/-- and result 2: the keys of the window. -/
def ref2 (X : FVec Ideal S8x4096x1024 .f32) (NG : FVec Ideal S1x1024 .f32) (M : FVec Ideal S1024x512 .bf16) (QK : FVec Ideal S1x512 .f32) (C S : FVec Ideal S8x4096x128 .f32) : FVec Ideal S8x4096x128 .bf16 :=
  truncf .bf16 (extractStridedSlice S8x4096x128 ![0, 0, 384] (turnRef (proj512 X NG M) QK C S) slices_S8x4096x512_S8x4096x128_0_0_384) bitsLt_bf16_f32

end Reference

open Cert.InprojIdeal Cert.InprojIdeal.Gen Cert.InprojIdeal.Hand

/-- Times a sixty-fourth is over sixty-four. -/
theorem over64 (x : EReal) : x * Ideal.ofBits .f32 0x3C800000#32 = Ideal.div x (Ideal.ofBits .f32 0x42800000#32) := by
  have h1 : Ideal.ofBits .f32 0x3C800000#32 = (((64 : ℝ)⁻¹ : ℝ) : EReal) := by
    simp [Ideal.ofBits, Ideal.ieee, -EReal.coe_mul]; norm_num
  have h2 : Ideal.ofBits .f32 0x42800000#32 = ((64 : ℝ) : EReal) := by
    simp [Ideal.ofBits, Ideal.ieee, -EReal.coe_mul]; norm_num
  have h3 : ((64 : ℝ) : EReal) ≠ 0 := by
    exact_mod_cast (show (64 : ℝ) ≠ 0 by norm_num)
  rw [h1, h2, Ideal.div, if_neg h3, EReal.coe_inv]

/-- The test on a lane of 128 asks for the first half. -/
theorem first_half (l : Fin 128) : (IntOp.cmpi CmpIPredicate.slt (BitVec.ofNat 32 l.val) 64#32 = 1) ↔ l.val < 64 := by
  revert l
  decide +kernel

/-- The test on a lane of 512 asks for the first half of a head. -/
theorem first_part (l : Fin 512) : (IntOp.cmpi CmpIPredicate.eq (IntOp.andi (BitVec.ofNat 32 l.val) 32#32) 0#32 = 1) ↔ l.val % 64 < 32 := by
  revert l
  decide +kernel

/-- The sum over a half of 128 lanes, written with masks, is the sum over the lane's own 64. -/
theorem half_sum (g : Fin 128 → EReal) (l : Fin 128) :
    Scalar.select (IntOp.cmpi CmpIPredicate.slt (BitVec.ofNat 32 l.val) 64#32)
        (∑ x : Fin 128, Scalar.select (IntOp.cmpi CmpIPredicate.slt (BitVec.ofNat 32 x.val) 64#32) (g x) 0)
        (∑ x : Fin 128, Scalar.select (IntOp.cmpi CmpIPredicate.slt (BitVec.ofNat 32 x.val) 64#32) 0 (g x))
      = ∑ d : Fin 64, g ⟨l.val / 64 * 64 + d.val, by omega⟩ := by
  have hl := l.isLt
  simp only [Scalar.select, first_half]
  have e : ∀ f : Fin 128 → EReal, ∑ x, f x = (∑ d : Fin 64, f (Fin.castAdd 64 d)) + ∑ d : Fin 64, f (Fin.natAdd 64 d) :=
    fun f => Fin.sum_univ_add (a := 64) (b := 64) f
  rw [e, e]
  split_ifs with h
  · have h0 : l.val / 64 = 0 := by omega
    rw [Finset.sum_congr (g := fun d : Fin 64 => g ⟨l.val / 64 * 64 + d.val, by omega⟩) rfl, Finset.sum_eq_zero (f := fun d : Fin 64 => if (Fin.natAdd 64 d).val < 64 then _ else _), add_zero]
    · intro d _
      exact if_neg (by show ¬ 64 + d.val < 64; omega)
    · intro d _
      rw [if_pos (by show d.val < 64; exact d.isLt)]
      exact congrArg g (Fin.ext (by show d.val = l.val / 64 * 64 + d.val; omega))
  · have h0 : l.val / 64 = 1 := by omega
    rw [Finset.sum_eq_zero (f := fun d : Fin 64 => if (Fin.castAdd 64 d).val < 64 then _ else _), zero_add]
    · refine Finset.sum_congr rfl fun d _ => ?_
      rw [if_neg (by show ¬ 64 + d.val < 64; omega)]
      exact congrArg g (Fin.ext (by show 64 + d.val = l.val / 64 * 64 + d.val; omega))
    · intro d _
      exact if_pos (by show d.val < 64; exact d.isLt)

/-- So the mean of squares over 128 lanes from `off` on is the mean of the lane's head. -/
theorem mean_of (f : Fin 512 → EReal) (k : ℕ) (l : Fin 128) (g : Fin 128 → EReal) (L : Fin 512) (hL : L.val = k * 128 + l.val)
    (hg : ∀ (x : Fin 128) (X : Fin 512), X.val = k * 128 + x.val → g x = f X * f X) :
    Scalar.select (IntOp.cmpi CmpIPredicate.slt (BitVec.ofNat 32 l.val) 64#32)
        (∑ x : Fin 128, Scalar.select (IntOp.cmpi CmpIPredicate.slt (BitVec.ofNat 32 x.val) 64#32) (g x) 0)
        (∑ x : Fin 128, Scalar.select (IntOp.cmpi CmpIPredicate.slt (BitVec.ofNat 32 x.val) 64#32) 0 (g x)) * Ideal.ofBits .f32 0x3C800000#32
      = meanAt f L := by
  rw [half_sum, over64]
  unfold meanAt
  refine congrArg (Ideal.div · _) (Finset.sum_congr rfl fun d _ => hg _ _ ?_)
  show L.val / 64 * 64 + d.val = k * 128 + (l.val / 64 * 64 + d.val)
  omega

/-- The mean squares of the last 128 lanes. -/
def lastMean (A B : FVec Ideal S512x128 .f32) : FVec Ideal S512x128 .f32 :=
  mulf (select k0_pay10
    (broadcastTo S512x128 (shapeCast S512x1 (shapeCast S512x1 (multiReduction .add [1] S512 B 0x00000000#32 reduces_S512x128_S512 (.inl rfl) rfl) shapeCasts_S512_S512x1) shapeCasts_S512x1_S512x1) broadcasts_S512x1_S512x128)
    (broadcastTo S512x128 (shapeCast S512x1 (shapeCast S512x1 (multiReduction .add [1] S512 (select k0_pay10 (broadcast S512x128 (Scalar.ofBits .f32 0x00000000#32)) A) 0x00000000#32 reduces_S512x128_S512 (.inl rfl) rfl) shapeCasts_S512_S512x1) shapeCasts_S512x1_S512x1) broadcasts_S512x1_S512x128))
    (broadcast S512x128 (Scalar.ofBits .f32 0x3C800000#32))

/-- The kernel's normalised lanes. -/
def normK (H : FVec Ideal S512x512 .f32) (W : FVec Ideal S1x512 .f32) (g0 g1 g2 g3 : FVec Ideal S512x128 .f32) : FVec Ideal S512x512 .f32 :=
  mulf (mulf H (rsqrt (addf (concatenate S512x512 1 [⟨S512x128, g0⟩, ⟨S512x128, g1⟩, ⟨S512x128, g2⟩, ⟨S512x128, g3⟩] concatenates_S512x128_S512x128_S512x128_S512x128_S512x512_d1) (broadcast S512x512 (Scalar.ofBits .f32 0x358637BD#32))))) (broadcastTo S512x512 W broadcasts_S1x512_S512x512)

/-- A table four times side by side. -/
def tableK (C : FVec Ideal S512x128 .f32) : FVec Ideal S512x512 .f32 :=
  concatenate S512x512 1 [⟨S512x128, C⟩, ⟨S512x128, C⟩, ⟨S512x128, C⟩, ⟨S512x128, C⟩] concatenates_S512x128_S512x128_S512x128_S512x128_S512x512_d1

/-- The kernel's turned lanes. -/
def turnK (N : FVec Ideal S512x512 .f32) (C S : FVec Ideal S512x128 .f32) : FVec Ideal S512x512 .f32 :=
  addf (mulf N (tableK C)) (mulf (select (cmpi .eq (andi (iota .tc S512x512 32 [1] iota_S512x512_d1_w32) (broadcast S512x512 32#32)) (broadcast S512x512 0#32)) (dynamicRotate 1 480#32 none N rotates_S512x512_d1) (dynamicRotate 1 32#32 none N rotates_S512x512_d1)) (tableK S))

/-- The kernel's table, read at an index. -/
theorem tableK_apply (C : FVec Ideal S512x128 .f32) (r l : Fin 512) : tableK C (ix2 r l) = C (ix2 r (⟨l.val % 128, by omega⟩ : Fin 128)) := by
  have hl := l.isLt
  pointwise [tableK]
  split_ifs <;> exact congrArg (fun k => C (ix2 r k)) (Fin.ext (by dsimp only; omega))

/-- The kernel's turned lanes, read at an index. -/
theorem turnK_apply (N : FVec Ideal S512x512 .f32) (C S : FVec Ideal S512x128 .f32) (r l : Fin 512) :
    turnK N C S (ix2 r l) = turnAt (fun k => N (ix2 r k)) (fun k => C (ix2 r k)) (fun k => S (ix2 r k)) l := by
  have hl := l.isLt
  pointwise [turnK, tableK_apply]
  unfold turnAt
  refine congrArg (_ + ·) (congrArg (· * _) ?_)
  unfold Scalar.select
  by_cases h : l.val % 64 < 32
  · rw [if_pos ((first_part l).2 h), if_pos h]
    exact congrArg (fun k => N (ix2 r k)) (Fin.ext (by show (l.val + 512 - 480) % 512 = (l.val + 32) % 512; omega))
  · rw [if_neg (fun h' => h ((first_part l).1 h')), if_neg h]
    exact congrArg (fun k => N (ix2 r k)) (Fin.ext (by show (l.val + 512 - 32) % 512 = l.val - 32; omega))

/-- The kernel's normalised lanes, read at an index. -/
theorem normK_apply (H : FVec Ideal S512x512 .f32) (W : FVec Ideal S1x512 .f32) (g0 g1 g2 g3 : FVec Ideal S512x128 .f32) (r l : Fin 512)
    (h0 : ∀ l : Fin 128, g0 (ix2 r l) = meanAt (fun k => H (ix2 r k)) ⟨l.val, by omega⟩)
    (h1 : ∀ l : Fin 128, g1 (ix2 r l) = meanAt (fun k => H (ix2 r k)) ⟨128 + l.val, by omega⟩)
    (h2 : ∀ l : Fin 128, g2 (ix2 r l) = meanAt (fun k => H (ix2 r k)) ⟨256 + l.val, by omega⟩)
    (h3 : ∀ l : Fin 128, g3 (ix2 r l) = meanAt (fun k => H (ix2 r k)) ⟨384 + l.val, by omega⟩) :
    normK H W g0 g1 g2 g3 (ix2 r l) = normAt (fun k => H (ix2 r k)) (fun k => W (ix2 (0 : Fin 1) k)) l := by
  have hl := l.isLt
  pointwise [normK, h0, h1, h2, h3]
  unfold normAt
  refine congrArg (· * _) (congrArg (_ * ·) (congrArg Ideal.rsqrt (congrArg (· + _) ?_)))
  split_ifs <;> exact congrArg (meanAt _) (Fin.ext (by first | (dsimp only; done) | (dsimp only; omega)))

variable (m : (ℓ : Loc nD τ sig) → Buf (Elt Ideal) ℓ)

/-- The kernel's mean squares of the first 128 lanes, -/
theorem mean0 (x0 : Vec Ideal S1x512x1024 .f32) (x1 : Vec Ideal S1x1024 .f32) (x2 : Vec Ideal S1024x512 .bf16) (r : Fin 512) (l : Fin 128) :
    k0_pay14 k0_pay10 (k0_pay12 x0 x1 x2) (k0_pay13 x0 x1 x2) (ix2 r l) = meanAt (fun k => k0_pay7 x0 x1 x2 (ix2 r k)) ⟨l.val, by omega⟩ := by
  generalize hh : k0_pay7 x0 x1 x2 = H
  pointwise [k0_pay14, k0_pay10, k0_pay12, k0_pay13, k0_pay11, hh]
  refine mean_of (fun k => H (ix2 r k)) 0 l _ _ (by first | (dsimp only; done) | (dsimp only; omega)) fun x X h => ?_
  exact congrArg (fun k => H (ix2 r k) * H (ix2 r k)) (Fin.ext (by dsimp only; omega))

/-- of the second 128, -/
theorem mean1 (H : FVec Ideal S512x512 .f32) (r : Fin 512) (l : Fin 128) :
    k0_pay15 H k0_pay10 (ix2 r l) = meanAt (fun k => H (ix2 r k)) ⟨128 + l.val, by omega⟩ := by
  pointwise [k0_pay15, k0_pay10]
  refine mean_of (fun k => H (ix2 r k)) 1 l _ _ (by first | (dsimp only; done) | (dsimp only; omega)) fun x X h => ?_
  exact congrArg (fun k => H (ix2 r k) * H (ix2 r k)) (Fin.ext (by dsimp only; omega))

/-- of the third -/
theorem mean2 (H : FVec Ideal S512x512 .f32) (r : Fin 512) (l : Fin 128) :
    k0_pay16 H k0_pay10 (ix2 r l) = meanAt (fun k => H (ix2 r k)) ⟨256 + l.val, by omega⟩ := by
  pointwise [k0_pay16, k0_pay10]
  refine mean_of (fun k => H (ix2 r k)) 2 l _ _ (by first | (dsimp only; done) | (dsimp only; omega)) fun x X h => ?_
  exact congrArg (fun k => H (ix2 r k) * H (ix2 r k)) (Fin.ext (by dsimp only; omega))

/-- and of the last. -/
theorem mean3 (H : FVec Ideal S512x512 .f32) (r : Fin 512) (l : Fin 128) :
    lastMean (k0_pay17 H) (k0_pay18 H k0_pay10) (ix2 r l) = meanAt (fun k => H (ix2 r k)) ⟨384 + l.val, by omega⟩ := by
  pointwise [lastMean, k0_pay17, k0_pay18, k0_pay10]
  refine mean_of (fun k => H (ix2 r k)) 3 l _ _ (by first | (dsimp only; done) | (dsimp only; omega)) fun x X h => ?_
  exact congrArg (fun k => H (ix2 r k) * H (ix2 r k)) (Fin.ext (by dsimp only; omega))

/-- The kernel's turned lanes are the reference's. -/
theorem turned_at (c : Dev nD) (t : Fin cfg0.N) (r l : Fin 512) :
    k0_pay19 (k0_pay7 (iblk m c 0 t) (iblk m c 1 t) (iblk m c 2 t)) (iblk m c 10 t) (k0_pay8 (iblk m c 11 t)) (k0_pay9 (iblk m c 12 t)) k0_pay10 (k0_pay14 k0_pay10 (k0_pay12 (iblk m c 0 t) (iblk m c 1 t) (iblk m c 2 t)) (k0_pay13 (iblk m c 0 t) (iblk m c 1 t) (iblk m c 2 t))) (k0_pay15 (k0_pay7 (iblk m c 0 t) (iblk m c 1 t) (iblk m c 2 t)) k0_pay10) (k0_pay16 (k0_pay7 (iblk m c 0 t) (iblk m c 1 t) (iblk m c 2 t)) k0_pay10) (k0_pay17 (k0_pay7 (iblk m c 0 t) (iblk m c 1 t) (iblk m c 2 t))) (k0_pay18 (k0_pay7 (iblk m c 0 t) (iblk m c 1 t) (iblk m c 2 t)) k0_pay10) (ix2 r l)
      = turnRef (proj512 (m ((c : Thread nD τ).loc main_arg0)) (m ((c : Thread nD τ).loc main_arg1)) (m ((c : Thread nD τ).loc main_arg2)))
          (m ((c : Thread nD τ).loc main_arg10)) (m ((c : Thread nD τ).loc main_arg11)) (m ((c : Thread nD τ).loc main_arg12)) (ix3 (bat t) (pos t r) l) := by
  show turnK (normK (k0_pay7 (iblk m c 0 t) (iblk m c 1 t) (iblk m c 2 t)) (iblk m c 10 t)
    (k0_pay14 k0_pay10 (k0_pay12 (iblk m c 0 t) (iblk m c 1 t) (iblk m c 2 t)) (k0_pay13 (iblk m c 0 t) (iblk m c 1 t) (iblk m c 2 t)))
    (k0_pay15 (k0_pay7 (iblk m c 0 t) (iblk m c 1 t) (iblk m c 2 t)) k0_pay10) (k0_pay16 (k0_pay7 (iblk m c 0 t) (iblk m c 1 t) (iblk m c 2 t)) k0_pay10)
    (lastMean (k0_pay17 (k0_pay7 (iblk m c 0 t) (iblk m c 1 t) (iblk m c 2 t))) (k0_pay18 (k0_pay7 (iblk m c 0 t) (iblk m c 1 t) (iblk m c 2 t)) k0_pay10)))
    (k0_pay8 (iblk m c 11 t)) (k0_pay9 (iblk m c 12 t)) (ix2 r l) = _
  rw [turnK_apply, turn_apply]
  have e8 : (fun k : Fin 128 => k0_pay8 (iblk m c 11 t) (ix2 r k)) = fun k => m ((c : Thread nD τ).loc main_arg11) (ix3 (bat t) (pos t r) k) := funext fun k => by
    pointwise [k0_pay8, block_w11]
  have e9 : (fun k : Fin 128 => k0_pay9 (iblk m c 12 t) (ix2 r k)) = fun k => m ((c : Thread nD τ).loc main_arg12) (ix3 (bat t) (pos t r) k) := funext fun k => by
    pointwise [k0_pay9, block_w12]
  rw [e8, e9]
  refine congrArg (fun g => turnAt g _ _ l) (funext fun k => ?_)
  rw [normK_apply _ _ _ _ _ _ r k (mean0 _ _ _ r) (mean1 _ r) (mean2 _ r) (mean3 _ r)]
  simp only [proj_qk, block_w10]

/-- Result 0 after the run. -/
theorem final0 (c : Dev nD) : (dats m 0 c).arrAt 14 (cfgs 0).N = ref0 (m ((c : Thread nD τ).loc main_arg0)) (m ((c : Thread nD τ).loc main_arg1)) (m ((c : Thread nD τ).loc main_arg2)) (m ((c : Thread nD τ).loc main_arg10)) (m ((c : Thread nD τ).loc main_arg11)) (m ((c : Thread nD τ).loc main_arg12)) := by
  refine (dats m 0 c).arrAt_eq_of_covers 14 _ (by decide +kernel) fun t _ y => ?_
  idx_vars y
  rw [emb14]
  blk_simp
  rw [after0_14]
  unfold out14At outQ
  pointwise [k0_pay20, turned_at, ref0]

/-- Result 1 after the run. -/
theorem final1 (c : Dev nD) : (dats m 0 c).arrAt 15 (cfgs 0).N = ref1 (m ((c : Thread nD τ).loc main_arg0)) (m ((c : Thread nD τ).loc main_arg1)) (m ((c : Thread nD τ).loc main_arg2)) (m ((c : Thread nD τ).loc main_arg10)) (m ((c : Thread nD τ).loc main_arg11)) (m ((c : Thread nD τ).loc main_arg12)) := by
  refine (dats m 0 c).arrAt_eq_of_covers 15 _ (by decide +kernel) fun t _ y => ?_
  idx_vars y
  rw [emb15]
  blk_simp
  rw [after0_15]
  unfold out15At outKs
  pointwise [k0_pay21, k0_pay22, turned_at, ref1]

/-- Result 2 after the run. -/
theorem final2 (c : Dev nD) : (dats m 0 c).arrAt 16 (cfgs 0).N = ref2 (m ((c : Thread nD τ).loc main_arg0)) (m ((c : Thread nD τ).loc main_arg1)) (m ((c : Thread nD τ).loc main_arg2)) (m ((c : Thread nD τ).loc main_arg10)) (m ((c : Thread nD τ).loc main_arg11)) (m ((c : Thread nD τ).loc main_arg12)) := by
  refine (dats m 0 c).arrAt_eq_of_covers 16 _ (by decide +kernel) fun t _ y => ?_
  idx_vars y
  rw [emb16]
  blk_simp
  rw [after0_16]
  unfold out16At outKw
  pointwise [k0_pay23, turned, turned_at, ref2]

end Cert.InprojProof

end
-- ==== Proof.InprojRefRun.lean ====
module

public import proofs.«01_k».proof.Proof.InprojConv
public import proofs.«01_k».proof.Proof.InprojHeads
public import proofs.«01_k».proof.Proof.Gen.InprojRefIdeal.Run

/-! The run of the input projection's reference, its results by the names that the kernel's values are proved against. -/

@[expose] public section

set_option maxRecDepth 16384

noncomputable section

open Idealize.ShloMosaic Idealize.ShloMosaic.TcCoe Idealize.SL.Sem

namespace Cert.InprojProof

open Cert.InprojRefIdeal Cert.InprojRefIdeal.Gen

/-- What the reference ends with. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v94) = ref0 (m ((c.tc : Thread nD τ).loc main_arg0)) (m ((c.tc : Thread nD τ).loc main_arg1)) (m ((c.tc : Thread nD τ).loc main_arg2)) (m ((c.tc : Thread nD τ).loc main_arg10)) (m ((c.tc : Thread nD τ).loc main_arg11)) (m ((c.tc : Thread nD τ).loc main_arg12))
      ∧ r.2.mem ((c.tc : Thread nD τ).loc main_v95) = ref1 (m ((c.tc : Thread nD τ).loc main_arg0)) (m ((c.tc : Thread nD τ).loc main_arg1)) (m ((c.tc : Thread nD τ).loc main_arg2)) (m ((c.tc : Thread nD τ).loc main_arg10)) (m ((c.tc : Thread nD τ).loc main_arg11)) (m ((c.tc : Thread nD τ).loc main_arg12))
      ∧ r.2.mem ((c.tc : Thread nD τ).loc main_v96) = ref2 (m ((c.tc : Thread nD τ).loc main_arg0)) (m ((c.tc : Thread nD τ).loc main_arg1)) (m ((c.tc : Thread nD τ).loc main_arg2)) (m ((c.tc : Thread nD τ).loc main_arg10)) (m ((c.tc : Thread nD τ).loc main_arg11)) (m ((c.tc : Thread nD τ).loc main_arg12))
      ∧ r.2.mem ((c.tc : Thread nD τ).loc main_v98) = ref3 (m ((c.tc : Thread nD τ).loc main_arg0)) (m ((c.tc : Thread nD τ).loc main_arg1)) (m ((c.tc : Thread nD τ).loc main_arg3))
      ∧ r.2.mem ((c.tc : Thread nD τ).loc main_v100) = ref4 (m ((c.tc : Thread nD τ).loc main_arg0)) (m ((c.tc : Thread nD τ).loc main_arg1)) (m ((c.tc : Thread nD τ).loc main_arg3))
      ∧ r.2.mem ((c.tc : Thread nD τ).loc main_v56) = ref5 (m ((c.tc : Thread nD τ).loc main_arg0)) (m ((c.tc : Thread nD τ).loc main_arg1)) (m ((c.tc : Thread nD τ).loc main_arg5))
      ∧ r.2.mem ((c.tc : Thread nD τ).loc main_v101) = ref6 (m ((c.tc : Thread nD τ).loc main_arg0)) (m ((c.tc : Thread nD τ).loc main_arg1)) (m ((c.tc : Thread nD τ).loc main_arg6))
      ∧ r.2.mem ((c.tc : Thread nD τ).loc main_v102) = ref7 (m ((c.tc : Thread nD τ).loc main_arg0)) (m ((c.tc : Thread nD τ).loc main_arg1)) (m ((c.tc : Thread nD τ).loc main_arg6))
      ∧ r.2.mem ((c.tc : Thread nD τ).loc main_v103) = ref8 (m ((c.tc : Thread nD τ).loc main_arg0)) (m ((c.tc : Thread nD τ).loc main_arg1)) (m ((c.tc : Thread nD τ).loc main_arg6))
      ∧ r.2.mem ((c.tc : Thread nD τ).loc main_v104) = ref9 (m ((c.tc : Thread nD τ).loc main_arg0)) (m ((c.tc : Thread nD τ).loc main_arg1)) (m ((c.tc : Thread nD τ).loc main_arg6)) (m ((c.tc : Thread nD τ).loc main_arg7)) (m ((c.tc : Thread nD τ).loc main_arg13))
      ∧ r.2.mem ((c.tc : Thread nD τ).loc main_v108) = ref10 (m ((c.tc : Thread nD τ).loc main_arg0)) (m ((c.tc : Thread nD τ).loc main_arg1)) (m ((c.tc : Thread nD τ).loc main_arg8))
      ∧ r.2.mem ((c.tc : Thread nD τ).loc main_v110) = ref11 (m ((c.tc : Thread nD τ).loc main_arg0)) (m ((c.tc : Thread nD τ).loc main_arg1)) (m ((c.tc : Thread nD τ).loc main_arg8))
      ∧ r.2.mem ((c.tc : Thread nD τ).loc main_v112) = ref12 (m ((c.tc : Thread nD τ).loc main_arg0)) (m ((c.tc : Thread nD τ).loc main_arg1)) (m ((c.tc : Thread nD τ).loc main_arg8))
      ∧ r.2.mem ((c.tc : Thread nD τ).loc main_v114) = ref13 (m ((c.tc : Thread nD τ).loc main_arg0)) (m ((c.tc : Thread nD τ).loc main_arg1)) (m ((c.tc : Thread nD τ).loc main_arg9))
      ∧ r.2.mem ((c.tc : Thread nD τ).loc main_v115) = ref14 (m ((c.tc : Thread nD τ).loc main_arg0)) (m ((c.tc : Thread nD τ).loc main_arg1)) (m ((c.tc : Thread nD τ).loc main_arg4))
      ∧ r.2.mem ((c.tc : Thread nD τ).loc main_v116) = ref15 (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h => h) (Cert.InprojRefIdeal.Value.run (F := Ideal) m ρ)

end Cert.InprojProof

end
-- ==== Proof.MergeValue.lean ====
module

public import proofs.«01_k».proof.Proof.Gen.MergeIdeal.Value
public import proofs.«01_k».proof.Proof.Gen.MergeRefIdeal
public import Idealize.ShloMosaic.Lib.Pipeline.ValueKit

/-! The value of the merge call: the array the kernel leaves behind is the reference's own term. Every grid point
    owns 512 rows; on them the kernel computes what the reference computes on the whole array, row by row. -/

@[expose] public section

set_option maxRecDepth 16384

noncomputable section

open Idealize.ShloMosaic Idealize.ShloMosaic.TcCoe Idealize.SL.Sem
open Idealize.ShloMosaic.Pipeline (Dat)

namespace Cert.MergeProof

section Reference
open Cert.MergeRefIdeal Cert.MergeRefIdeal.Gen

/-- The reference's gates: the sigmoid of the normalised tokens times the gate matrix, all four branches side by side. -/
def gates (X : FVec Ideal S8x4096x1024 .f32) (NG : FVec Ideal S1024 .f32) (WM : FVec Ideal S1024x4096 .bf16) :
    FVec Ideal S8x4096x4096 .f32 :=
  Host.divf (broadcastInDim S8x4096x4096 ![] bcast_S_S8x4096x4096 (constant S_ .f32 0x3F800000#32)) (addf (broadcastInDim S8x4096x4096 ![] bcast_S_S8x4096x4096 (constant S_ .f32 0x3F800000#32)) (Host.exp (Host.negf (Host.dotGeneral dot_S8x4096x1024_S1024x4096_S8x4096x4096_2_0_01_1_n_n none (mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 NG))) (extf .f32 WM bitsLt_bf16_f32)))))

/-- The reference's result: the gated branches mixed, projected out and added to the tokens. -/
def mergeRef (X : FVec Ideal S8x4096x1024 .f32) (NG : FVec Ideal S1024 .f32) (O0 O1 O2 O3 : FVec Ideal S8x4096x256 .bf16)
    (WM : FVec Ideal S1024x4096 .bf16) (WB : FVec Ideal S4x256x1024 .f32) (WO : FVec Ideal S1024x1024 .f32) :
    FVec Ideal S32768x1024 .f32 :=
  shapeCast _ (addf X (Host.dotGeneral dot_S8x4096x1024_S1024x1024_S8x4096x1024_2_0_01_1_n_n none (addf (addf (addf (mulf (extractStridedSlice S8x4096x1024 ![0, 0, 0] (gates X NG WM) slices_S8x4096x4096_S8x4096x1024_0_0_0) (Host.dotGeneral dot_S8x4096x256_S256x1024_S8x4096x1024_2_0_01_1_n_n none (extf .f32 O0 bitsLt_bf16_f32) (shapeCast _ (extractStridedSlice S1x256x1024 ![0, 0, 0] WB slices_S4x256x1024_S1x256x1024_0_0_0) shapeCasts_S1x256x1024_S256x1024))) (mulf (extractStridedSlice S8x4096x1024 ![0, 0, 1024] (gates X NG WM) slices_S8x4096x4096_S8x4096x1024_0_0_1024) (Host.dotGeneral dot_S8x4096x256_S256x1024_S8x4096x1024_2_0_01_1_n_n none (extf .f32 O1 bitsLt_bf16_f32) (shapeCast _ (extractStridedSlice S1x256x1024 ![1, 0, 0] WB slices_S4x256x1024_S1x256x1024_1_0_0) shapeCasts_S1x256x1024_S256x1024)))) (mulf (extractStridedSlice S8x4096x1024 ![0, 0, 2048] (gates X NG WM) slices_S8x4096x4096_S8x4096x1024_0_0_2048) (Host.dotGeneral dot_S8x4096x256_S256x1024_S8x4096x1024_2_0_01_1_n_n none (extf .f32 O2 bitsLt_bf16_f32) (shapeCast _ (extractStridedSlice S1x256x1024 ![2, 0, 0] WB slices_S4x256x1024_S1x256x1024_2_0_0) shapeCasts_S1x256x1024_S256x1024)))) (mulf (extractStridedSlice S8x4096x1024 ![0, 0, 3072] (gates X NG WM) slices_S8x4096x4096_S8x4096x1024_0_0_3072) (Host.dotGeneral dot_S8x4096x256_S256x1024_S8x4096x1024_2_0_01_1_n_n none (extf .f32 O3 bitsLt_bf16_f32) (shapeCast _ (extractStridedSlice S1x256x1024 ![3, 0, 0] WB slices_S4x256x1024_S1x256x1024_3_0_0) shapeCasts_S1x256x1024_S256x1024)))) WO)) shapeCasts_S8x4096x1024_S32768x1024

end Reference

open Cert.MergeIdeal Cert.MergeIdeal.Gen

variable (m : (ℓ : Loc nD τ sig) → Buf (Elt Ideal) ℓ)

/-- Where each window's block lies at a grid point: the token windows move with the point, the weights stay. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0]
    ∧ win0_6.index t = ![0, 0] ∧ win0_7.index t = ![0, 0, 0] ∧ win0_8.index t = ![0, 0] ∧ win0_9.index t = ![t.val, 0] :=
  (by decide +kernel : ∀ t : Fin grid0.N, _)

/-- The array row that row `r` of grid point `t` is. -/
def row (t : Fin cfg0.N) (r : Fin 512) : Fin 32768 :=
  ⟨t.val * 512 + r.val, by have h : cfg0.N = 64 := N_0; have := t.isLt; have := r.isLt; omega⟩

/-- A block of tokens at a grid point, read at an index. -/
theorem block_x (c : Dev nD) (t : Fin cfg0.N) (r : Fin 512) (k : Fin 1024) :
    iblk m c 0 t (ix2 r k) = m ((c : Thread nD τ).loc main_arg0)
      (ix3 (⟨(row t r).val / 4096, by have := (row t r).isLt; omega⟩ : Fin 8) (⟨(row t r).val % 4096, by omega⟩ : Fin 4096) k) := by
  unfold row
  blk_point [iblk, V, idx t]

/-- The normalisation weights, read at an index. -/
theorem block_ng (c : Dev nD) (t : Fin cfg0.N) (k : Fin 1024) :
    iblk m c 1 t (ix2 (0 : Fin 1) k) = m ((c : Thread nD τ).loc main_arg1) (ix1 k) := by
  blk_point [iblk, V, idx t]

/-- A block of the first branch at a grid point, read at an index. -/
theorem block_o0 (c : Dev nD) (t : Fin cfg0.N) (r : Fin 512) (k : Fin 256) :
    iblk m c 2 t (ix2 r k) = m ((c : Thread nD τ).loc main_arg2)
      (ix3 (⟨(row t r).val / 4096, by have := (row t r).isLt; omega⟩ : Fin 8) (⟨(row t r).val % 4096, by omega⟩ : Fin 4096) k) := by
  unfold row
  blk_point [iblk, V, idx t]

/-- A block of the second branch at a grid point, read at an index. -/
theorem block_o1 (c : Dev nD) (t : Fin cfg0.N) (r : Fin 512) (k : Fin 256) :
    iblk m c 3 t (ix2 r k) = m ((c : Thread nD τ).loc main_arg3)
      (ix3 (⟨(row t r).val / 4096, by have := (row t r).isLt; omega⟩ : Fin 8) (⟨(row t r).val % 4096, by omega⟩ : Fin 4096) k) := by
  unfold row
  blk_point [iblk, V, idx t]

/-- A block of the third branch at a grid point, read at an index. -/
theorem block_o2 (c : Dev nD) (t : Fin cfg0.N) (r : Fin 512) (k : Fin 256) :
    iblk m c 4 t (ix2 r k) = m ((c : Thread nD τ).loc main_arg4)
      (ix3 (⟨(row t r).val / 4096, by have := (row t r).isLt; omega⟩ : Fin 8) (⟨(row t r).val % 4096, by omega⟩ : Fin 4096) k) := by
  unfold row
  blk_point [iblk, V, idx t]

/-- A block of the fourth branch at a grid point, read at an index. -/
theorem block_o3 (c : Dev nD) (t : Fin cfg0.N) (r : Fin 512) (k : Fin 256) :
    iblk m c 5 t (ix2 r k) = m ((c : Thread nD τ).loc main_arg5)
      (ix3 (⟨(row t r).val / 4096, by have := (row t r).isLt; omega⟩ : Fin 8) (⟨(row t r).val % 4096, by omega⟩ : Fin 4096) k) := by
  unfold row
  blk_point [iblk, V, idx t]

/-- The gate matrix, read at an index. -/
theorem block_wm (c : Dev nD) (t : Fin cfg0.N) (k : Fin 1024) (j : Fin 4096) :
    iblk m c 6 t (ix2 k j) = m ((c : Thread nD τ).loc main_arg6) (ix2 k j) := by
  blk_point [iblk, V, idx t]

/-- The branch matrices, read at an index. -/
theorem block_wb (c : Dev nD) (t : Fin cfg0.N) (b : Fin 4) (k : Fin 256) (j : Fin 1024) :
    iblk m c 7 t (ix3 b k j) = m ((c : Thread nD τ).loc main_arg7) (ix3 b k j) := by
  blk_point [iblk, V, idx t]

/-- The output matrix, read at an index. -/
theorem block_wo (c : Dev nD) (t : Fin cfg0.N) (k j : Fin 1024) :
    iblk m c 8 t (ix2 k j) = m ((c : Thread nD τ).loc main_arg8) (ix2 k j) := by
  blk_point [iblk, V, idx t]

/-- The array index a block index of the result lies at. -/
theorem emb_out (t : Fin cfg0.N) (r : Fin 512) (j : Fin 1024) :
    ((cfg0.win 9).blk t).view.emb (ix2 r j) = (ix2 (row t r) j : S32768x1024.Idx) := by
  unfold row
  blk_ext [idx t]

/-- Taking from zero is negation. -/
theorem zero_sub_ideal (x : EReal) : (0 : EReal) - x = -x := by rw [sub_eq_add_neg, zero_add]

/-- The result array after the run. -/
theorem final (c : Dev nD) : (dats m 0 c).arrAt 9 (cfgs 0).N
    = mergeRef (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  refine (dats m 0 c).arrAt_eq_of_covers 9 _ (by decide +kernel) fun t _ y => ?_
  idx_vars y
  rw [emb_out]
  blk_simp
  rw [after0_9]; frame_out
  pointwise [k0_pay1, k0_pay2, k0_pay3, k0_pay4, k0_pay5, k0_pay6, k0_pay7, k0_pay8, mergeRef, gates, block_x, block_ng,
    block_o0, block_o1, block_o2, block_o3, block_wm, block_wb, block_wo]
  simp only [zero_sub_ideal]

end Cert.MergeProof

end
-- ==== Proof.SfiveLoop.lean ====
module

public import proofs.«01_k».proof.Proof.Gen.SfiveIdeal.Frame
public import proofs.«01_k».proof.Proof.Gen.SfiveIdeal.Skeleton
public import Idealize.ShloMosaic.Lib.Exec
public import Idealize.ShloMosaic.Lib.Tactic
public import Idealize.ShloMosaic.Lib.Pipeline.ValueKit
public import Idealize.ShloMosaic.Lib.ValueLayout
public import Idealize.ShloMosaic.Lib.Writes

@[expose] public section

set_option maxRecDepth 16384

noncomputable section

namespace Cert.SfiveIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.SfiveIdeal Cert.SfiveIdeal.Gen

variable {F : FTy → Type} [FloatOps F]

local notation "𝕄" => MT nD τ sig Unit (Elt F) ℕ (UR sig nD τ) ℕ

/-- The box `r` of an array, read off it. -/
abbrev ld {s : Shape} {e : EltTy} (G : Vec F s e) (r : LoadRect s) : Vec F r.shape e := fun x => G (r.idx x)

/-- The real part of the state after time `k` of a tile, from the state before it and the tile's inputs to the recurrence. -/
def nextRe (ar ai : Vec F S1x1024 .f32) (G : Vec F S16x1024x128 .f32) (s : FVec F S8x1024 .f32 × FVec F S8x1024 .f32)
    (k : Fin k0_t1_loop.trips) : FVec F S8x1024 .f32 :=
  k0_pay14 (k0_pay178 ar) (k0_pay179 ai) s.1 s.2 (k0_pay2 (ld G (Rect.unit (s := S16x1024x128) (k0_off1 k) S1x8x128.size (k0_off1_inb k)).toLoadRect)) (k0_pay3 (ld G (Rect.unit (s := S16x1024x128) (k0_off2 k) S1x8x128.size (k0_off2_inb k)).toLoadRect)) (k0_pay4 (ld G (Rect.unit (s := S16x1024x128) (k0_off3 k) S1x8x128.size (k0_off3_inb k)).toLoadRect)) (k0_pay5 (ld G (Rect.unit (s := S16x1024x128) (k0_off4 k) S1x8x128.size (k0_off4_inb k)).toLoadRect)) (k0_pay6 (ld G (Rect.unit (s := S16x1024x128) (k0_off5 k) S1x8x128.size (k0_off5_inb k)).toLoadRect)) (k0_pay7 (ld G (Rect.unit (s := S16x1024x128) (k0_off6 k) S1x8x128.size (k0_off6_inb k)).toLoadRect)) (k0_pay8 (ld G (Rect.unit (s := S16x1024x128) (k0_off7 k) S1x8x128.size (k0_off7_inb k)).toLoadRect)) (k0_pay9 (ld G (Rect.unit (s := S16x1024x128) (k0_off8 k) S1x8x128.size (k0_off8_inb k)).toLoadRect)) (k0_pay10 (ld G (Rect.unit (s := S16x1024x128) (k0_off9 k) S1x8x128.size (k0_off9_inb k)).toLoadRect)) (k0_pay11 (ld G (Rect.unit (s := S16x1024x128) (k0_off10 k) S1x8x128.size (k0_off10_inb k)).toLoadRect)) (k0_pay12 (ld G (Rect.unit (s := S16x1024x128) (k0_off11 k) S1x8x128.size (k0_off11_inb k)).toLoadRect)) (ld G (Rect.unit (s := S16x1024x128) (k0_off12 k) S1x8x128.size (k0_off12_inb k)).toLoadRect) (ld G (Rect.unit (s := S16x1024x128) (k0_off13 k) S1x8x128.size (k0_off13_inb k)).toLoadRect) (ld G (Rect.unit (s := S16x1024x128) (k0_off14 k) S1x8x128.size (k0_off14_inb k)).toLoadRect) (ld G (Rect.unit (s := S16x1024x128) (k0_off15 k) S1x8x128.size (k0_off15_inb k)).toLoadRect) (ld G (Rect.unit (s := S16x1024x128) (k0_off16 k) S1x8x128.size (k0_off16_inb k)).toLoadRect)

/-- The imaginary part of that state. -/
def nextIm (ar ai : Vec F S1x1024 .f32) (G : Vec F S16x1024x128 .f32) (s : FVec F S8x1024 .f32 × FVec F S8x1024 .f32)
    (k : Fin k0_t1_loop.trips) : FVec F S8x1024 .f32 :=
  k0_pay15 (k0_pay178 ar) (k0_pay179 ai) s.1 s.2 (k0_pay2 (ld G (Rect.unit (s := S16x1024x128) (k0_off1 k) S1x8x128.size (k0_off1_inb k)).toLoadRect)) (k0_pay3 (ld G (Rect.unit (s := S16x1024x128) (k0_off2 k) S1x8x128.size (k0_off2_inb k)).toLoadRect)) (k0_pay4 (ld G (Rect.unit (s := S16x1024x128) (k0_off3 k) S1x8x128.size (k0_off3_inb k)).toLoadRect)) (k0_pay5 (ld G (Rect.unit (s := S16x1024x128) (k0_off4 k) S1x8x128.size (k0_off4_inb k)).toLoadRect)) (k0_pay6 (ld G (Rect.unit (s := S16x1024x128) (k0_off5 k) S1x8x128.size (k0_off5_inb k)).toLoadRect)) (k0_pay7 (ld G (Rect.unit (s := S16x1024x128) (k0_off6 k) S1x8x128.size (k0_off6_inb k)).toLoadRect)) (k0_pay8 (ld G (Rect.unit (s := S16x1024x128) (k0_off7 k) S1x8x128.size (k0_off7_inb k)).toLoadRect)) (k0_pay9 (ld G (Rect.unit (s := S16x1024x128) (k0_off8 k) S1x8x128.size (k0_off8_inb k)).toLoadRect)) (k0_pay10 (ld G (Rect.unit (s := S16x1024x128) (k0_off9 k) S1x8x128.size (k0_off9_inb k)).toLoadRect)) (k0_pay11 (ld G (Rect.unit (s := S16x1024x128) (k0_off10 k) S1x8x128.size (k0_off10_inb k)).toLoadRect)) (k0_pay12 (ld G (Rect.unit (s := S16x1024x128) (k0_off11 k) S1x8x128.size (k0_off11_inb k)).toLoadRect)) (ld G (Rect.unit (s := S16x1024x128) (k0_off12 k) S1x8x128.size (k0_off12_inb k)).toLoadRect) (ld G (Rect.unit (s := S16x1024x128) (k0_off13 k) S1x8x128.size (k0_off13_inb k)).toLoadRect) (ld G (Rect.unit (s := S16x1024x128) (k0_off14 k) S1x8x128.size (k0_off14_inb k)).toLoadRect) (ld G (Rect.unit (s := S16x1024x128) (k0_off15 k) S1x8x128.size (k0_off15_inb k)).toLoadRect) (ld G (Rect.unit (s := S16x1024x128) (k0_off16 k) S1x8x128.size (k0_off16_inb k)).toLoadRect)

/-- The tile after time `k`: the eight rows of that time hold the new state, lane block by lane block. -/
def putRow (G : Vec F S16x1024x128 .f32) (re im : FVec F S8x1024 .f32) (k : ℕ) : Vec F S16x1024x128 .f32 := fun x =>
  if (x 1).val / 8 = k then
    if h : (x 0).val < 8 then re (ValueIdx.ix2 (⟨(x 1).val % 8, Nat.mod_lt _ (by decide)⟩ : Fin 8) (⟨128 * (x 0).val + (x 2).val, by have := (x 2).isLt; change (x 2).val < 128 at this; omega⟩ : Fin 1024))
    else im (ValueIdx.ix2 (⟨(x 1).val % 8, Nat.mod_lt _ (by decide)⟩ : Fin 8) (⟨128 * ((x 0).val - 8) + (x 2).val, by have := (x 2).isLt; change (x 2).val < 128 at this; have := (x 0).isLt; change (x 0).val < 16 at this; omega⟩ : Fin 1024))
  else G x

/-- A lane block of the new real part, stored where it belongs. -/
theorem put_re (G : Vec F S16x1024x128 .f32) (re im : FVec F S8x1024 .f32) (k c : ℕ) (hc : c < 8) {off : Fin 3 → ℕ}
    (hoff : off = ![c, 8 * k, 0]) (inb : ∀ a, off a + S1x8x128.size a ≤ S16x1024x128.size a)
    (hs : S8x1024.Slices ![0, 128 * c] S8x128) (x : S1x8x128.Idx) :
    shapeCast S1x8x128 (extractStridedSlice S8x128 ![0, 128 * c] re hs) shapeCasts_S8x128_S1x8x128 x
      = putRow G re im k ((Rect.unit (s := S16x1024x128) off S1x8x128.size inb).emb x) := by
  subst hoff
  obtain ⟨u, r, l, rfl⟩ : ∃ (u : Fin 1) (r : Fin 8) (l : Fin 128), x = ValueIdx.ix3 u r l :=
    ⟨x 0, x 1, x 2, by funext a; fin_cases a <;> rfl⟩
  have h0 : (((Rect.unit (s := S16x1024x128) ![c, 8 * k, 0] S1x8x128.size inb).emb (ValueIdx.ix3 u r l)) 0).val = c := by
    show c + 1 * u.val = c; omega
  have h1 : (((Rect.unit (s := S16x1024x128) ![c, 8 * k, 0] S1x8x128.size inb).emb (ValueIdx.ix3 u r l)) 1).val = 8 * k + r.val := by
    show 8 * k + 1 * r.val = _; omega
  have h2 : (((Rect.unit (s := S16x1024x128) ![c, 8 * k, 0] S1x8x128.size inb).emb (ValueIdx.ix3 u r l)) 2).val = l.val := by
    show 0 + 1 * l.val = _; omega
  have hr := r.isLt
  have hl := l.isLt
  rw [shapeCast_ab_1ab_apply, extractStridedSlice_apply _ _ _ _ (ValueIdx.ix2 r (⟨128 * c + l.val, by omega⟩ : Fin 1024))
    (by intro a; fin_cases a; · exact (Nat.zero_add _).symm
        rfl)]
  unfold putRow
  rw [if_pos (by rw [h1]; omega), dif_pos (by rw [h0]; omega)]
  congr 1
  funext a
  fin_cases a
  · apply Fin.ext; show r.val = (_ : ℕ) % 8; rw [h1]; omega
  · apply Fin.ext; show 128 * c + l.val = 128 * _ + (_ : ℕ); rw [h0, h2]

/-- A lane block of the new imaginary part, stored where it belongs. -/
theorem put_im (G : Vec F S16x1024x128 .f32) (re im : FVec F S8x1024 .f32) (k c : ℕ) (hc : c < 8) {off : Fin 3 → ℕ}
    (hoff : off = ![c + 8, 8 * k, 0]) (inb : ∀ a, off a + S1x8x128.size a ≤ S16x1024x128.size a)
    (hs : S8x1024.Slices ![0, 128 * c] S8x128) (x : S1x8x128.Idx) :
    shapeCast S1x8x128 (extractStridedSlice S8x128 ![0, 128 * c] im hs) shapeCasts_S8x128_S1x8x128 x
      = putRow G re im k ((Rect.unit (s := S16x1024x128) off S1x8x128.size inb).emb x) := by
  subst hoff
  obtain ⟨u, r, l, rfl⟩ : ∃ (u : Fin 1) (r : Fin 8) (l : Fin 128), x = ValueIdx.ix3 u r l :=
    ⟨x 0, x 1, x 2, by funext a; fin_cases a <;> rfl⟩
  have h0 : (((Rect.unit (s := S16x1024x128) ![c + 8, 8 * k, 0] S1x8x128.size inb).emb (ValueIdx.ix3 u r l)) 0).val = c + 8 := by
    show c + 8 + 1 * u.val = c + 8; omega
  have h1 : (((Rect.unit (s := S16x1024x128) ![c + 8, 8 * k, 0] S1x8x128.size inb).emb (ValueIdx.ix3 u r l)) 1).val = 8 * k + r.val := by
    show 8 * k + 1 * r.val = _; omega
  have h2 : (((Rect.unit (s := S16x1024x128) ![c + 8, 8 * k, 0] S1x8x128.size inb).emb (ValueIdx.ix3 u r l)) 2).val = l.val := by
    show 0 + 1 * l.val = _; omega
  have hr := r.isLt
  have hl := l.isLt
  rw [shapeCast_ab_1ab_apply, extractStridedSlice_apply _ _ _ _ (ValueIdx.ix2 r (⟨128 * c + l.val, by omega⟩ : Fin 1024))
    (by intro a; fin_cases a; · exact (Nat.zero_add _).symm
        rfl)]
  unfold putRow
  rw [if_pos (by rw [h1]; omega), dif_neg (by rw [h0]; omega)]
  congr 1
  funext a
  fin_cases a
  · apply Fin.ext; show r.val = (_ : ℕ) % 8; rw [h1]; omega
  · apply Fin.ext; show 128 * c + l.val = 128 * (_ - 8) + (_ : ℕ); rw [h0, h2]; omega
variable (i : grid0.Coords) (arg1 : Memref sig .tc .vmem S8x128x256 .f32) (harg1 : arg1.IsWhole) (arg2 : Memref sig .tc .vmem S8x128x256 .f32) (harg2 : arg2.IsWhole) (arg3 : Memref sig .tc .vmem S256x2048 .bf16) (harg3 : arg3.IsWhole) (arg4 : Memref sig .tc .vmem S2x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S256x512 .bf16) (harg7 : arg7.IsWhole) (arg8 : Memref sig .tc .vmem S1x512 .f32) (harg8 : arg8.IsWhole) (arg9 : Memref sig .tc .vmem S8x128x256 .bf16) (harg9 : arg9.IsWhole) (arg10 : Memref sig .tc .vmem S16x1024x128 .f32) (harg10 : arg10.IsWhole) (arg11 : Memref sig .tc .vmem S8x2048 .f32) (harg11 : arg11.IsWhole)
/-- One of a time's boxes holds the rows of that time in one lane block. -/
theorem mem_row {n k : ℕ} {off : Fin 3 → ℕ} (hoff : off = ![n, 8 * k, 0]) (inb : ∀ a, off a + S1x8x128.size a ≤ S16x1024x128.size a)
    (y : S16x1024x128.Idx) : y ∈ (Rect.unit (s := S16x1024x128) off S1x8x128.size inb).set ↔ (y 0).val = n ∧ (y 1).val / 8 = k := by
  subst hoff
  rw [Rect.mem_set_unit]
  have y2 : (y 2).val < 128 := (y 2).isLt
  constructor
  · intro h
    have h0 : n ≤ (y 0).val ∧ (y 0).val < n + 1 := h 0
    have h1 : 8 * k ≤ (y 1).val ∧ (y 1).val < 8 * k + 8 := h 1
    omega
  · rintro ⟨h0, h1⟩ a
    fin_cases a
    · show n ≤ (y 0).val ∧ (y 0).val < n + 1; omega
    · show 8 * k ≤ (y 1).val ∧ (y 1).val < 8 * k + 8; omega
    · show 0 ≤ (y 2).val ∧ (y 2).val < 0 + 128; omega

/-- The sixteen stores of one time, last first. -/
def puts (re im : FVec F S8x1024 .f32) (k : Fin k0_t1_loop.trips) : List (View.Piece (Elt F) S16x1024x128 .f32) :=
  [⟨Rect.unit (s := S16x1024x128) (k0_off16 k) S1x8x128.size (k0_off16_inb k), shapeCast S1x8x128 (extractStridedSlice S8x128 ![0, 128 * 7] im (by decide)) shapeCasts_S8x128_S1x8x128⟩, ⟨Rect.unit (s := S16x1024x128) (k0_off8 k) S1x8x128.size (k0_off8_inb k), shapeCast S1x8x128 (extractStridedSlice S8x128 ![0, 128 * 7] re (by decide)) shapeCasts_S8x128_S1x8x128⟩, ⟨Rect.unit (s := S16x1024x128) (k0_off15 k) S1x8x128.size (k0_off15_inb k), shapeCast S1x8x128 (extractStridedSlice S8x128 ![0, 128 * 6] im (by decide)) shapeCasts_S8x128_S1x8x128⟩, ⟨Rect.unit (s := S16x1024x128) (k0_off7 k) S1x8x128.size (k0_off7_inb k), shapeCast S1x8x128 (extractStridedSlice S8x128 ![0, 128 * 6] re (by decide)) shapeCasts_S8x128_S1x8x128⟩, ⟨Rect.unit (s := S16x1024x128) (k0_off14 k) S1x8x128.size (k0_off14_inb k), shapeCast S1x8x128 (extractStridedSlice S8x128 ![0, 128 * 5] im (by decide)) shapeCasts_S8x128_S1x8x128⟩, ⟨Rect.unit (s := S16x1024x128) (k0_off6 k) S1x8x128.size (k0_off6_inb k), shapeCast S1x8x128 (extractStridedSlice S8x128 ![0, 128 * 5] re (by decide)) shapeCasts_S8x128_S1x8x128⟩, ⟨Rect.unit (s := S16x1024x128) (k0_off13 k) S1x8x128.size (k0_off13_inb k), shapeCast S1x8x128 (extractStridedSlice S8x128 ![0, 128 * 4] im (by decide)) shapeCasts_S8x128_S1x8x128⟩, ⟨Rect.unit (s := S16x1024x128) (k0_off5 k) S1x8x128.size (k0_off5_inb k), shapeCast S1x8x128 (extractStridedSlice S8x128 ![0, 128 * 4] re (by decide)) shapeCasts_S8x128_S1x8x128⟩, ⟨Rect.unit (s := S16x1024x128) (k0_off12 k) S1x8x128.size (k0_off12_inb k), shapeCast S1x8x128 (extractStridedSlice S8x128 ![0, 128 * 3] im (by decide)) shapeCasts_S8x128_S1x8x128⟩, ⟨Rect.unit (s := S16x1024x128) (k0_off4 k) S1x8x128.size (k0_off4_inb k), shapeCast S1x8x128 (extractStridedSlice S8x128 ![0, 128 * 3] re (by decide)) shapeCasts_S8x128_S1x8x128⟩, ⟨Rect.unit (s := S16x1024x128) (k0_off11 k) S1x8x128.size (k0_off11_inb k), shapeCast S1x8x128 (extractStridedSlice S8x128 ![0, 128 * 2] im (by decide)) shapeCasts_S8x128_S1x8x128⟩, ⟨Rect.unit (s := S16x1024x128) (k0_off3 k) S1x8x128.size (k0_off3_inb k), shapeCast S1x8x128 (extractStridedSlice S8x128 ![0, 128 * 2] re (by decide)) shapeCasts_S8x128_S1x8x128⟩, ⟨Rect.unit (s := S16x1024x128) (k0_off10 k) S1x8x128.size (k0_off10_inb k), shapeCast S1x8x128 (extractStridedSlice S8x128 ![0, 128 * 1] im (by decide)) shapeCasts_S8x128_S1x8x128⟩, ⟨Rect.unit (s := S16x1024x128) (k0_off2 k) S1x8x128.size (k0_off2_inb k), shapeCast S1x8x128 (extractStridedSlice S8x128 ![0, 128 * 1] re (by decide)) shapeCasts_S8x128_S1x8x128⟩, ⟨Rect.unit (s := S16x1024x128) (k0_off9 k) S1x8x128.size (k0_off9_inb k), shapeCast S1x8x128 (extractStridedSlice S8x128 ![0, 128 * 0] im (by decide)) shapeCasts_S8x128_S1x8x128⟩, ⟨Rect.unit (s := S16x1024x128) (k0_off1 k) S1x8x128.size (k0_off1_inb k), shapeCast S1x8x128 (extractStridedSlice S8x128 ![0, 128 * 0] re (by decide)) shapeCasts_S8x128_S1x8x128⟩]

theorem read_puts (f : BufTy.Contents (Elt F) arg10.view.ty) (re im : FVec F S8x1024 .f32) (k : Fin k0_t1_loop.trips) :
    arg10.view.read (Elt F) (arg10.view.writes (Elt F) f (puts re im k)) = putRow (arg10.view.read (Elt F) f) re im k.val := by
  have hk : k.val < 128 := Nat.lt_of_lt_of_le k.isLt k0_t1_abs.2.1
  funext y
  have y0 : (y 0).val < 16 := (y 0).isLt
  have y2 : (y 2).val < 128 := (y 2).isLt
  by_cases h : (y 1).val / 8 = k.val
  · refine View.read_writes_apply_of_pieces _ _ _ _ ?_ y ?_
    · intro p hp x
      simp only [puts, List.mem_cons, List.not_mem_nil, _root_.or_false] at hp
      rcases hp with rfl | rfl | rfl | rfl | rfl | rfl | rfl | rfl | rfl | rfl | rfl | rfl | rfl | rfl | rfl | rfl
      · exact put_im _ re im k.val 7 (by decide) (k0_off16_eq k) (k0_off16_inb k) (by decide) x
      · exact put_re _ re im k.val 7 (by decide) (k0_off8_eq k) (k0_off8_inb k) (by decide) x
      · exact put_im _ re im k.val 6 (by decide) (k0_off15_eq k) (k0_off15_inb k) (by decide) x
      · exact put_re _ re im k.val 6 (by decide) (k0_off7_eq k) (k0_off7_inb k) (by decide) x
      · exact put_im _ re im k.val 5 (by decide) (k0_off14_eq k) (k0_off14_inb k) (by decide) x
      · exact put_re _ re im k.val 5 (by decide) (k0_off6_eq k) (k0_off6_inb k) (by decide) x
      · exact put_im _ re im k.val 4 (by decide) (k0_off13_eq k) (k0_off13_inb k) (by decide) x
      · exact put_re _ re im k.val 4 (by decide) (k0_off5_eq k) (k0_off5_inb k) (by decide) x
      · exact put_im _ re im k.val 3 (by decide) (k0_off12_eq k) (k0_off12_inb k) (by decide) x
      · exact put_re _ re im k.val 3 (by decide) (k0_off4_eq k) (k0_off4_inb k) (by decide) x
      · exact put_im _ re im k.val 2 (by decide) (k0_off11_eq k) (k0_off11_inb k) (by decide) x
      · exact put_re _ re im k.val 2 (by decide) (k0_off3_eq k) (k0_off3_inb k) (by decide) x
      · exact put_im _ re im k.val 1 (by decide) (k0_off10_eq k) (k0_off10_inb k) (by decide) x
      · exact put_re _ re im k.val 1 (by decide) (k0_off2_eq k) (k0_off2_inb k) (by decide) x
      · exact put_im _ re im k.val 0 (by decide) (k0_off9_eq k) (k0_off9_inb k) (by decide) x
      · exact put_re _ re im k.val 0 (by decide) (k0_off1_eq k) (k0_off1_inb k) (by decide) x
    · have hy : (y 0).val ∈ [15, 7, 14, 6, 13, 5, 12, 4, 11, 3, 10, 2, 9, 1, 8, 0] := by
        generalize (y 0).val = n at y0
        interval_cases n <;> decide
      simp only [List.mem_cons, List.not_mem_nil, _root_.or_false] at hy
      rcases hy with h' | h' | h' | h' | h' | h' | h' | h' | h' | h' | h' | h' | h' | h' | h' | h'
      · exact ⟨_, List.mem_cons_self, (mem_row (k0_off16_eq k) (k0_off16_inb k) y).2 ⟨h', h⟩⟩
      · exact ⟨_, List.mem_cons_of_mem _ (List.mem_cons_self), (mem_row (k0_off8_eq k) (k0_off8_inb k) y).2 ⟨h', h⟩⟩
      · exact ⟨_, List.mem_cons_of_mem _ (List.mem_cons_of_mem _ (List.mem_cons_self)), (mem_row (k0_off15_eq k) (k0_off15_inb k) y).2 ⟨h', h⟩⟩
      · exact ⟨_, List.mem_cons_of_mem _ (List.mem_cons_of_mem _ (List.mem_cons_of_mem _ (List.mem_cons_self))), (mem_row (k0_off7_eq k) (k0_off7_inb k) y).2 ⟨h', h⟩⟩
      · exact ⟨_, List.mem_cons_of_mem _ (List.mem_cons_of_mem _ (List.mem_cons_of_mem _ (List.mem_cons_of_mem _ (List.mem_cons_self)))), (mem_row (k0_off14_eq k) (k0_off14_inb k) y).2 ⟨h', h⟩⟩
      · exact ⟨_, List.mem_cons_of_mem _ (List.mem_cons_of_mem _ (List.mem_cons_of_mem _ (List.mem_cons_of_mem _ (List.mem_cons_of_mem _ (List.mem_cons_self))))), (mem_row (k0_off6_eq k) (k0_off6_inb k) y).2 ⟨h', h⟩⟩
      · exact ⟨_, List.mem_cons_of_mem _ (List.mem_cons_of_mem _ (List.mem_cons_of_mem _ (List.mem_cons_of_mem _ (List.mem_cons_of_mem _ (List.mem_cons_of_mem _ (List.mem_cons_self)))))), (mem_row (k0_off13_eq k) (k0_off13_inb k) y).2 ⟨h', h⟩⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), (mem_row (k0_off5_eq k) (k0_off5_inb k) y).2 ⟨h', h⟩⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), (mem_row (k0_off12_eq k) (k0_off12_inb k) y).2 ⟨h', h⟩⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), (mem_row (k0_off4_eq k) (k0_off4_inb k) y).2 ⟨h', h⟩⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), (mem_row (k0_off11_eq k) (k0_off11_inb k) y).2 ⟨h', h⟩⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), (mem_row (k0_off3_eq k) (k0_off3_inb k) y).2 ⟨h', h⟩⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), (mem_row (k0_off10_eq k) (k0_off10_inb k) y).2 ⟨h', h⟩⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), (mem_row (k0_off2_eq k) (k0_off2_inb k) y).2 ⟨h', h⟩⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), (mem_row (k0_off9_eq k) (k0_off9_inb k) y).2 ⟨h', h⟩⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), (mem_row (k0_off1_eq k) (k0_off1_inb k) y).2 ⟨h', h⟩⟩
  · refine (View.read_writes_apply_of_forall_not_mem _ _ _ _ ?_).trans ?_
    · intro p hp
      simp only [puts, List.mem_cons, List.not_mem_nil, _root_.or_false] at hp
      rcases hp with rfl | rfl | rfl | rfl | rfl | rfl | rfl | rfl | rfl | rfl | rfl | rfl | rfl | rfl | rfl | rfl
      · exact fun hm => h ((mem_row (k0_off16_eq k) (k0_off16_inb k) y).1 hm).2
      · exact fun hm => h ((mem_row (k0_off8_eq k) (k0_off8_inb k) y).1 hm).2
      · exact fun hm => h ((mem_row (k0_off15_eq k) (k0_off15_inb k) y).1 hm).2
      · exact fun hm => h ((mem_row (k0_off7_eq k) (k0_off7_inb k) y).1 hm).2
      · exact fun hm => h ((mem_row (k0_off14_eq k) (k0_off14_inb k) y).1 hm).2
      · exact fun hm => h ((mem_row (k0_off6_eq k) (k0_off6_inb k) y).1 hm).2
      · exact fun hm => h ((mem_row (k0_off13_eq k) (k0_off13_inb k) y).1 hm).2
      · exact fun hm => h ((mem_row (k0_off5_eq k) (k0_off5_inb k) y).1 hm).2
      · exact fun hm => h ((mem_row (k0_off12_eq k) (k0_off12_inb k) y).1 hm).2
      · exact fun hm => h ((mem_row (k0_off4_eq k) (k0_off4_inb k) y).1 hm).2
      · exact fun hm => h ((mem_row (k0_off11_eq k) (k0_off11_inb k) y).1 hm).2
      · exact fun hm => h ((mem_row (k0_off3_eq k) (k0_off3_inb k) y).1 hm).2
      · exact fun hm => h ((mem_row (k0_off10_eq k) (k0_off10_inb k) y).1 hm).2
      · exact fun hm => h ((mem_row (k0_off2_eq k) (k0_off2_inb k) y).1 hm).2
      · exact fun hm => h ((mem_row (k0_off9_eq k) (k0_off9_inb k) y).1 hm).2
      · exact fun hm => h ((mem_row (k0_off1_eq k) (k0_off1_inb k) y).1 hm).2
    · unfold putRow
      rw [if_neg h]

theorem trip (c : Dev nD) (v490 : FVec F S128x2048 .f32) (v535 : FVec F S128x128 .f32) (ar ai : Vec F S1x1024 .f32) (k : Fin k0_t1_loop.trips) (acc : FVec F S8x1024 .f32 × FVec F S8x1024 .f32) (E : Set ℕ) (f : BufTy.Contents (Elt F) arg10.view.ty) :
    (iprop(arg10.view.loc (c : Thread nD τ) ↦[arg10.view.set]{fullShare} f) : sProp 𝕄)
      ⊢ wp frame (wpE (defs₀ (F := F)) Variants.none (c : Thread nD τ) none) E (k0_t1_body i arg1 harg1 arg2 harg2 arg3 harg3 arg4 harg4 arg5 harg5 arg6 harg6 arg7 harg7 arg8 harg8 arg9 harg9 arg10 harg10 arg11 harg11 v490 v535 ar ai k acc)
        (fun r => iprop((∃ f', (arg10.view.loc (c : Thread nD τ) ↦[arg10.view.set]{fullShare} f') ∗ ⌜arg10.view.read (Elt F) f' = putRow (arg10.view.read (Elt F) f) (nextRe ar ai (arg10.view.read (Elt F) f) acc k) (nextIm ar ai (arg10.view.read (Elt F) f) acc k) k.val⌝) ∗ ⌜r = (nextRe ar ai (arg10.view.read (Elt F) f) acc k, nextIm ar ai (arg10.view.read (Elt F) f) acc k)⌝)) := by
  obtain ⟨a, b⟩ := acc
  unfold k0_t1_body
  iintro HW
  sl_exec
  sl_step
  isplitl [HW]
  · iexists _
    isplitl [HW]
    · iexact HW
    · ipureintro
      exact read_puts arg10 f _ _ k
  · ipureintro
    rfl

/-- The state and the tile after the first `k` times. -/
def tile (ar ai : Vec F S1x1024 .f32) (G : Vec F S16x1024x128 .f32) (s : FVec F S8x1024 .f32 × FVec F S8x1024 .f32) :
    ℕ → (FVec F S8x1024 .f32 × FVec F S8x1024 .f32) × Vec F S16x1024x128 .f32
  | 0 => (s, G)
  | k + 1 =>
    if h : k < k0_t1_loop.trips then
      ((nextRe ar ai (tile ar ai G s k).2 (tile ar ai G s k).1 ⟨k, h⟩, nextIm ar ai (tile ar ai G s k).2 (tile ar ai G s k).1 ⟨k, h⟩),
        putRow (tile ar ai G s k).2 (nextRe ar ai (tile ar ai G s k).2 (tile ar ai G s k).1 ⟨k, h⟩)
          (nextIm ar ai (tile ar ai G s k).2 (tile ar ai G s k).1 ⟨k, h⟩) k)
    else tile ar ai G s k

theorem tile_succ (ar ai : Vec F S1x1024 .f32) (G : Vec F S16x1024x128 .f32) (s : FVec F S8x1024 .f32 × FVec F S8x1024 .f32)
    (k : Fin k0_t1_loop.trips) : tile ar ai G s (k.val + 1)
      = ((nextRe ar ai (tile ar ai G s k.val).2 (tile ar ai G s k.val).1 k, nextIm ar ai (tile ar ai G s k.val).2 (tile ar ai G s k.val).1 k),
        putRow (tile ar ai G s k.val).2 (nextRe ar ai (tile ar ai G s k.val).2 (tile ar ai G s k.val).1 k)
          (nextIm ar ai (tile ar ai G s k.val).2 (tile ar ai G s k.val).1 k) k.val) := by
  rw [tile, dif_pos k.isLt]

/-- The loop over a tile's times, from the tile's inputs to the recurrence to its states. -/
theorem loop_run (c : Dev nD) (v490 : FVec F S128x2048 .f32) (v535 : FVec F S128x128 .f32) (ar ai : Vec F S1x1024 .f32) (s : FVec F S8x1024 .f32 × FVec F S8x1024 .f32) (E : Set ℕ)
    (f : BufTy.Contents (Elt F) arg10.view.ty) {β : Type} {kk : FVec F S8x1024 .f32 × FVec F S8x1024 .f32 → Prog (TpuEff nD τ sig (Elt F) Λ₀ .tc) β}
    {Q : β → sProp 𝕄} :
    (iprop(arg10.view.loc (c : Thread nD τ) ↦[arg10.view.set]{fullShare} f) : sProp 𝕄)
      ⊢ iprop((∀ acc, iprop((∃ f', (arg10.view.loc (c : Thread nD τ) ↦[arg10.view.set]{fullShare} f') ∗ ⌜arg10.view.read (Elt F) f' = (tile ar ai (arg10.view.read (Elt F) f) s k0_t1_loop.trips).2⌝) ∗ ⌜acc = (tile ar ai (arg10.view.read (Elt F) f) s k0_t1_loop.trips).1⌝) -∗ wp frame (wpE (defs₀ (F := F)) Variants.none (c : Thread nD τ) none) E (kk acc) Q)
          -∗ wp frame (wpE (defs₀ (F := F)) Variants.none (c : Thread nD τ) none) E (Scf.Loop.for k0_t1_loop k0_t1_ok s (k0_t1_body i arg1 harg1 arg2 harg2 arg3 harg3 arg4 harg4 arg5 harg5 arg6 harg6 arg7 harg7 arg8 harg8 arg9 harg9 arg10 harg10 arg11 harg11 v490 v535 ar ai) >>= kk) Q) := by
  refine BIBase.Entails.trans ?_ (Scf.wp_for_bind frame (wpE (defs₀ (F := F)) Variants.none (c : Thread nD τ) none) E k0_t1_loop.lb k0_t1_loop.ub k0_t1_loop.st
    k0_t1_ok s (k0_t1_body i arg1 harg1 arg2 harg2 arg3 harg3 arg4 harg4 arg5 harg5 arg6 harg6 arg7 harg7 arg8 harg8 arg9 harg9 arg10 harg10 arg11 harg11 v490 v535 ar ai) (fun k acc => iprop((∃ f', (arg10.view.loc (c : Thread nD τ) ↦[arg10.view.set]{fullShare} f') ∗ ⌜arg10.view.read (Elt F) f' = (tile ar ai (arg10.view.read (Elt F) f) s k).2⌝) ∗ ⌜acc = (tile ar ai (arg10.view.read (Elt F) f) s k).1⌝)) ?_)
  · iintro H
    isplitl [H]
    · iexists f
      isplitl [H]
      · iexact H
      · ipureintro
        rfl
    · ipureintro
      rfl
  · intro k acc
    iintro ⟨⟨%f', H, %hf⟩, %ha⟩
    subst ha
    rw [tile_succ ar ai _ s k, ← hf]
    iapply (trip i arg1 harg1 arg2 harg2 arg3 harg3 arg4 harg4 arg5 harg5 arg6 harg6 arg7 harg7 arg8 harg8 arg9 harg9 arg10 harg10 arg11 harg11 c v490 v535 ar ai k _ E f') $$ H

end Cert.SfiveIdeal.Hand

end
-- ==== Proof.SfiveTile.lean ====
module

public import proofs.«01_k».proof.Proof.Gen.SfiveIdeal.Frame
public import proofs.«01_k».proof.Proof.Gen.SfiveIdeal.Skeleton
public import Idealize.ShloMosaic.Lib.Exec
public import Idealize.ShloMosaic.Lib.Tactic
public import Idealize.ShloMosaic.Lib.Pipeline.ValueKit
public import Idealize.ShloMosaic.Lib.ValueLayout
public import Idealize.ShloMosaic.Lib.Writes
public import proofs.«01_k».proof.Proof.SfiveLoop
public import Idealize.ShloMosaic.Lib.VecWindow

@[expose] public section

set_option maxRecDepth 16384

noncomputable section

namespace Cert.SfiveIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.SfiveIdeal Cert.SfiveIdeal.Gen

variable {F : FTy → Type} [FloatOps F]

local notation "𝕄" => MT nD τ sig Unit (Elt F) ℕ (UR sig nD τ) ℕ

/-- The rows of batch `b` in lane block `c` of the tile: every eighth row. -/
abbrev box (c b : ℕ) (hc : c < 16) (hb : b < 8) : LoadRect S16x1024x128 :=
  ⟨![c, b, 0], S1x128x128.size, ![1, 8, 1], by
    intro a
    fin_cases a
    · exact Or.inr (by show c + 1 * (1 - 1) < 16; omega)
    · exact Or.inr (by show b + 8 * (128 - 1) < 1024; omega)
    · exact Or.inr (by show 0 + 1 * (128 - 1) < 128; omega)⟩

/-- Batch `b` of a block. -/
abbrev urect (b : ℕ) (hb : b < 8) : Rect S8x128x256 := Rect.unit (s := S8x128x256) ![b, 0, 0] S1x128x256.size (by
    intro a
    fin_cases a
    · show b + 1 ≤ 8; omega
    · show 0 + 128 ≤ 128; omega
    · show 0 + 256 ≤ 256; omega)

/-- The same, to load from. -/
abbrev ubox (b : ℕ) (hb : b < 8) : LoadRect S8x128x256 := (urect b hb).toLoadRect

/-- The input to the recurrence of batch `b`: its block times the input matrix. -/
def prod (u : Vec F S8x128x256 .f32) (B : Vec F S256x2048 .bf16) (b : ℕ) (hb : b < 8) : FVec F S128x2048 .f32 :=
  k0_pay29 (ld u (ubox b hb)) (ld B (Rect.unit (s := S256x2048) ![0, 0] S256x2048.size inb_S256x2048_S256x2048_0_0).toLoadRect)

/-- The tile of inputs to the recurrence: row `8 t + b` is time `t` of batch `b`, lane block by lane block. -/
def BU (u : Vec F S8x128x256 .f32) (B : Vec F S256x2048 .bf16) : Vec F S16x1024x128 .f32 := fun y =>
  prod u B ((y 1).val % 8) (Nat.mod_lt _ (by decide))
    (ValueIdx.ix2 (⟨(y 1).val / 8, by have := (y 1).isLt; change (y 1).val < 1024 at this; omega⟩ : Fin 128)
      (⟨128 * (y 0).val + (y 2).val, by have := (y 0).isLt; change (y 0).val < 16 at this; have := (y 2).isLt; change (y 2).val < 128 at this; omega⟩ : Fin 2048))

/-- The states of a tile, from the state before it. -/
def tileOf (u : Vec F S8x128x256 .f32) (B : Vec F S256x2048 .bf16) (a : Vec F S2x1024 .f32) (s : Vec F S8x2048 .f32) :
    (FVec F S8x1024 .f32 × FVec F S8x1024 .f32) × Vec F S16x1024x128 .f32 :=
  tile (ld a (Rect.unit (s := S2x1024) ![0, 0] S1x1024.size inb_S2x1024_S1x1024_0_0).toLoadRect)
    (ld a (Rect.unit (s := S2x1024) ![1, 0] S1x1024.size inb_S2x1024_S1x1024_1_0).toLoadRect) (BU u B) (k0_pay180 s, k0_pay181 s) k0_t1_loop.trips

/-- The state after a tile. -/
def nextS (u : Vec F S8x128x256 .f32) (B : Vec F S256x2048 .bf16) (a : Vec F S2x1024 .f32) (s : Vec F S8x2048 .f32) : Vec F S8x2048 .f32 :=
  k0_pay188 (tileOf u B a s).1.1 (tileOf u B a s).1.2

/-- What the output holds of batch `b`, from the tile's states. -/
def outB (XS : Vec F S16x1024x128 .f32) (u z : Vec F S8x128x256 .f32) (C : Vec F S2048x256 .bf16) (d : Vec F S1x256 .f32)
    (gw : Vec F S256x512 .bf16) (gb : Vec F S1x512 .f32) (b : ℕ) (hb : b < 8) : FVec F S1x128x256 .bf16 :=
  k0_pay291 (k0_pay199 (k0_pay189 (ld XS (box 0 b (by omega) hb))) (k0_pay189 (ld XS (box 1 b (by omega) hb))) (k0_pay189 (ld XS (box 2 b (by omega) hb))) (k0_pay189 (ld XS (box 3 b (by omega) hb))) (k0_pay189 (ld XS (box 4 b (by omega) hb))) (k0_pay189 (ld XS (box 5 b (by omega) hb))) (k0_pay189 (ld XS (box 6 b (by omega) hb))) (k0_pay189 (ld XS (box 7 b (by omega) hb))) (k0_pay189 (ld XS (box 8 b (by omega) hb))) (k0_pay189 (ld XS (box 9 b (by omega) hb))) (ld XS (box 10 b (by omega) hb)) (ld XS (box 11 b (by omega) hb)) (ld XS (box 12 b (by omega) hb)) (ld XS (box 13 b (by omega) hb)) (ld XS (box 14 b (by omega) hb)) (ld XS (box 15 b (by omega) hb))
      (ld C (Rect.unit (s := S2048x256) ![0, 0] S2048x256.size inb_S2048x256_S2048x256_0_0).toLoadRect)
      (ld d (Rect.unit (s := S1x256) ![0, 0] S1x256.size inb_S1x256_S1x256_0_0).toLoadRect) (ld u (ubox b hb)))
    (ld gw (Rect.unit (s := S256x512) ![0, 0] S256x512.size inb_S256x512_S256x512_0_0).toLoadRect)
    (ld gb (Rect.unit (s := S1x512) ![0, 0] S1x512.size inb_S1x512_S1x512_0_0).toLoadRect) (ld z (ubox b hb))

/-- The block of the output, from the tile's states. -/
def outT (XS : Vec F S16x1024x128 .f32) (u z : Vec F S8x128x256 .f32) (C : Vec F S2048x256 .bf16) (d : Vec F S1x256 .f32)
    (gw : Vec F S256x512 .bf16) (gb : Vec F S1x512 .f32) : Vec F S8x128x256 .bf16 := fun y =>
  outB XS u z C d gw gb (y 0).val (y 0).isLt (ValueIdx.ix3 (0 : Fin 1) (y 1 : Fin 128) (y 2 : Fin 256))

/-- The lanes of a block lie in a row of the tile's inputs. -/
theorem slicesC (c : Fin 16) : S128x2048.Slices ![0, 128 * c.val] S128x128 := by
  have := c.isLt
  refine ⟨rfl, ?_⟩
  intro a
  fin_cases a
  · show 0 + 128 ≤ 128; omega
  · show 128 * c.val + 128 ≤ 2048; omega

/-- The piece of the tile that lane block `c` of batch `b` fills. -/
abbrev piece (P : ∀ b, b < 8 → FVec F S128x2048 .f32) (b : Fin 8) (c : Fin 16) : View.Piece (Elt F) S16x1024x128 .f32 :=
  ⟨⟨box c.val b.val c.isLt b.isLt, fun a => match a with | ⟨0, _⟩ => Nat.one_pos | ⟨1, _⟩ => Nat.succ_pos 7 | ⟨2, _⟩ => Nat.one_pos⟩,
    shapeCast S1x128x128 (extractStridedSlice S128x128 ![0, 128 * c.val] (P b.val b.isLt) (slicesC c)) shapeCasts_S128x128_S1x128x128⟩

/-- The stores of the tile's inputs to the recurrence, last first. -/
def preL (P : ∀ b, b < 8 → FVec F S128x2048 .f32) : List (View.Piece (Elt F) S16x1024x128 .f32) :=
  ([7, 6, 5, 4, 3, 2, 1, 0] : List (Fin 8)).flatMap fun b =>
    ([15, 14, 13, 12, 11, 10, 9, 8, 7, 6, 5, 4, 3, 2, 1, 0] : List (Fin 16)).map fun c => piece P b c
variable (i : grid0.Coords) (arg1 : Memref sig .tc .vmem S8x128x256 .f32) (harg1 : arg1.IsWhole) (arg2 : Memref sig .tc .vmem S8x128x256 .f32) (harg2 : arg2.IsWhole) (arg3 : Memref sig .tc .vmem S256x2048 .bf16) (harg3 : arg3.IsWhole) (arg4 : Memref sig .tc .vmem S2x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S256x512 .bf16) (harg7 : arg7.IsWhole) (arg8 : Memref sig .tc .vmem S1x512 .f32) (harg8 : arg8.IsWhole) (arg9 : Memref sig .tc .vmem S8x128x256 .bf16) (harg9 : arg9.IsWhole) (arg10 : Memref sig .tc .vmem S16x1024x128 .f32) (harg10 : arg10.IsWhole) (arg11 : Memref sig .tc .vmem S8x2048 .f32) (harg11 : arg11.IsWhole)
theorem read_pre (f : BufTy.Contents (Elt F) arg10.view.ty) (u : Vec F S8x128x256 .f32) (B : Vec F S256x2048 .bf16) :
    arg10.view.read (Elt F) (arg10.view.writes (Elt F) f (preL (prod u B))) = BU u B := by
  funext y
  have y0 : (y 0).val < 16 := (y 0).isLt
  have y1 : (y 1).val < 1024 := (y 1).isLt
  have y2 : (y 2).val < 128 := (y 2).isLt
  refine View.read_writes_apply_of_pieces _ _ _ _ ?_ y ?_
  · intro p hp x
    obtain ⟨b, -, hp⟩ := List.mem_flatMap.1 hp
    obtain ⟨c, -, rfl⟩ := List.mem_map.1 hp
    have hb := b.isLt
    have hc := c.isLt
    obtain ⟨v, r, l, rfl⟩ : ∃ (v : Fin 1) (r : Fin 128) (l : Fin 128), x = ValueIdx.ix3 v r l :=
      ⟨x 0, x 1, x 2, by funext a; fin_cases a <;> rfl⟩
    have hr := r.isLt
    have hl := l.isLt
    have h0 : (((piece (prod u B) b c).1.emb (ValueIdx.ix3 v r l)) 0).val = c.val := by
      show c.val + 1 * v.val = c.val; omega
    have h1 : (((piece (prod u B) b c).1.emb (ValueIdx.ix3 v r l)) 1).val = b.val + 8 * r.val := rfl
    have h2 : (((piece (prod u B) b c).1.emb (ValueIdx.ix3 v r l)) 2).val = l.val := by
      show 0 + 1 * l.val = _; omega
    show shapeCast S1x128x128 (extractStridedSlice S128x128 ![0, 128 * c.val] (prod u B b.val b.isLt) (slicesC c)) shapeCasts_S128x128_S1x128x128 (ValueIdx.ix3 v r l) = _
    rw [shapeCast_ab_1ab_apply, extractStridedSlice_apply _ _ _ _ (ValueIdx.ix2 r (⟨128 * c.val + l.val, by omega⟩ : Fin 2048))
      (by intro a; fin_cases a; · exact (Nat.zero_add _).symm
          rfl)]
    unfold BU
    have e : ∀ (b' : ℕ) (hb' : b' < 8) (j j' : S128x2048.Idx), b' = b.val → j' = j → prod u B b.val b.isLt j = prod u B b' hb' j' := by
      intro b' hb' j j' h h'
      subst h h'
      rfl
    refine e _ _ _ _ (by rw [h1]; omega) ?_
    funext a
    fin_cases a
    · apply Fin.ext; show (_ : ℕ) / 8 = r.val; rw [h1]; omega
    · apply Fin.ext; show 128 * (_ : ℕ) + (_ : ℕ) = 128 * c.val + l.val; rw [h0, h2]
  · refine ⟨piece (prod u B) ⟨(y 1).val % 8, Nat.mod_lt _ (by decide)⟩ ⟨(y 0).val, y0⟩, ?_, ?_⟩
    · refine List.mem_flatMap.2 ⟨_, ?_, List.mem_map.2 ⟨_, ?_, rfl⟩⟩
      · generalize (⟨(y 1).val % 8, _⟩ : Fin 8) = b; revert b; decide
      · generalize (⟨(y 0).val, _⟩ : Fin 16) = b; revert b; decide
    · refine (LoadRect.mem_set _).2 fun a => ?_
      fin_cases a
      · exact ⟨0, by show 0 < 1; decide, by show (y 0).val = (y 0).val + 1 * 0; omega⟩
      · exact ⟨(y 1).val / 8, by show (y 1).val / 8 < 128; omega, by show (y 1).val = (y 1).val % 8 + 8 * ((y 1).val / 8); omega⟩
      · exact ⟨(y 2).val, y2, by show (y 2).val = 0 + 1 * (y 2).val; omega⟩

/-- The stores of a block of the output, last first. -/
def postL (XS : Vec F S16x1024x128 .f32) (u z : Vec F S8x128x256 .f32) (C : Vec F S2048x256 .bf16) (d : Vec F S1x256 .f32)
    (gw : Vec F S256x512 .bf16) (gb : Vec F S1x512 .f32) : List (View.Piece (Elt F) S8x128x256 .bf16) :=
  ([7, 6, 5, 4, 3, 2, 1, 0] : List (Fin 8)).map fun b => ⟨urect b.val b.isLt, outB XS u z C d gw gb b.val b.isLt⟩

theorem read_post (XS : Vec F S16x1024x128 .f32) (u z : Vec F S8x128x256 .f32) (C : Vec F S2048x256 .bf16) (d : Vec F S1x256 .f32)
    (gw : Vec F S256x512 .bf16) (gb : Vec F S1x512 .f32) (f : BufTy.Contents (Elt F) arg9.view.ty) :
    arg9.view.read (Elt F) (arg9.view.writes (Elt F) f (postL XS u z C d gw gb)) = outT XS u z C d gw gb := by
  funext y
  have y0 : (y 0).val < 8 := (y 0).isLt
  have y1 : (y 1).val < 128 := (y 1).isLt
  have y2 : (y 2).val < 256 := (y 2).isLt
  refine View.read_writes_apply_of_pieces _ _ _ _ ?_ y ?_
  · intro p hp x
    obtain ⟨b, -, rfl⟩ := List.mem_map.1 hp
    obtain ⟨v, r, l, rfl⟩ : ∃ (v : Fin 1) (r : Fin 128) (l : Fin 256), x = ValueIdx.ix3 v r l :=
      ⟨x 0, x 1, x 2, by funext a; fin_cases a <;> rfl⟩
    obtain rfl : v = 0 := Fin.ext (by omega)
    have e : ∀ (b' : ℕ) (hb' : b' < 8) (j j' : S1x128x256.Idx), b' = b.val → j' = j → outB XS u z C d gw gb b.val b.isLt j = outB XS u z C d gw gb b' hb' j' := by
      intro b' hb' j j' h h'
      subst h h'
      rfl
    refine e _ _ _ _ ?_ ?_
    · show b.val + 1 * 0 = b.val; omega
    · funext a
      fin_cases a
      · rfl
      · apply Fin.ext; show 0 + 1 * r.val = r.val; omega
      · apply Fin.ext; show 0 + 1 * l.val = l.val; omega
  · refine ⟨⟨urect (y 0).val y0, outB XS u z C d gw gb (y 0).val y0⟩, List.mem_map.2 ⟨(⟨(y 0).val, y0⟩ : Fin 8), ?_, rfl⟩, ?_⟩
    · generalize (⟨(y 0).val, _⟩ : Fin 8) = b; revert b; decide
    · show y ∈ (urect (y 0).val y0).set
      rw [Rect.mem_set_unit]
      intro a
      fin_cases a
      · show (y 0).val ≤ (y 0).val ∧ (y 0).val < (y 0).val + 1; omega
      · show 0 ≤ (y 1).val ∧ (y 1).val < 0 + 128; omega
      · show 0 ≤ (y 2).val ∧ (y 2).val < 0 + 256; omega

end Cert.SfiveIdeal.Hand

end
-- ==== Proof.SfiveRun.lean ====
module

public import proofs.«01_k».proof.Proof.Gen.SfiveIdeal.Frame
public import proofs.«01_k».proof.Proof.Gen.SfiveIdeal.Skeleton
public import Idealize.ShloMosaic.Lib.Exec
public import Idealize.ShloMosaic.Lib.Tactic
public import Idealize.ShloMosaic.Lib.Pipeline.ValueKit
public import Idealize.ShloMosaic.Lib.ValueLayout
public import Idealize.ShloMosaic.Lib.Writes
public import proofs.«01_k».proof.Proof.SfiveTile
public import Idealize.ShloMosaic.Lib.VecWindow

@[expose] public section

set_option maxRecDepth 16384

noncomputable section

namespace Cert.SfiveIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.SfiveIdeal Cert.SfiveIdeal.Gen

variable {F : FTy → Type} [FloatOps F]

local notation "𝕄" => MT nD τ sig Unit (Elt F) ℕ (UR sig nD τ) ℕ
variable (i : grid0.Coords) (arg1 : Memref sig .tc .vmem S8x128x256 .f32) (harg1 : arg1.IsWhole) (arg2 : Memref sig .tc .vmem S8x128x256 .f32) (harg2 : arg2.IsWhole) (arg3 : Memref sig .tc .vmem S256x2048 .bf16) (harg3 : arg3.IsWhole) (arg4 : Memref sig .tc .vmem S2x1024 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S256x512 .bf16) (harg7 : arg7.IsWhole) (arg8 : Memref sig .tc .vmem S1x512 .f32) (harg8 : arg8.IsWhole) (arg9 : Memref sig .tc .vmem S8x128x256 .bf16) (harg9 : arg9.IsWhole) (arg10 : Memref sig .tc .vmem S16x1024x128 .f32) (harg10 : arg10.IsWhole) (arg11 : Memref sig .tc .vmem S8x2048 .f32) (harg11 : arg11.IsWhole)
/-- The state before a tile, read back where the first point has just stored it. -/
theorem cov11 (w : Vec F S8x2048 .f32) :
    arg11.view.readCov (Val := Elt F) [⟨Rect.unit (s := S8x2048) ![0, 0] S8x2048.size inb_S8x2048_S8x2048_0_0, w⟩]
      (Rect.unit (s := S8x2048) ![0, 0] S8x2048.size inb_S8x2048_S8x2048_0_0).toLoadRect = w :=
  View.readCov_full arg11.view inb_S8x2048_S8x2048_0_0 inb_S8x2048_S8x2048_0_0 w []

theorem tile_pre (f : BufTy.Contents (Elt F) arg10.view.ty) (u : Vec F S8x128x256 .f32) (B : Vec F S256x2048 .bf16) (a : Vec F S2x1024 .f32)
    (s v : Vec F S8x2048 .f32) (hv : v = s) :
    tile (ld a (Rect.unit (s := S2x1024) ![0, 0] S1x1024.size inb_S2x1024_S1x1024_0_0).toLoadRect)
      (ld a (Rect.unit (s := S2x1024) ![1, 0] S1x1024.size inb_S2x1024_S1x1024_1_0).toLoadRect)
      (arg10.view.read (Elt F) (arg10.view.writes (Elt F) f (preL (prod u B)))) (k0_pay180 v, k0_pay181 v) k0_t1_loop.trips = tileOf u B a s := by
  rw [read_pre, hv]
  rfl

set_option maxHeartbeats 1000000 in
/-- The body of a grid point: from a block of the arguments and the state before the tile to the block of the output and the state after it. -/
theorem body_run (c : Dev nD) (x0 : Vec F S8x128x256 .f32) (x1 : Vec F S8x128x256 .f32) (x2 : Vec F S256x2048 .bf16) (x3 : Vec F S2x1024 .f32) (x4 : Vec F S2048x256 .bf16) (x5 : Vec F S1x256 .f32) (x6 : Vec F S256x512 .bf16) (x7 : Vec F S1x512 .f32) (s : Vec F S8x2048 .f32) (hs : Scalar.cmpi .ne (Scalar.extui (Scalar.cmpi .eq (BitVec.ofNat 32 (i 0).val) 0#32)) (0#32 : BitVec 32) = 1#1 → s = k0_pay28) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} f) ∗ (∃ f, arg10.view.loc (c : Thread nD τ) ↦[arg10.view.set]{fullShare} f) ∗ (∃ f, ⌜¬ Scalar.cmpi .ne (Scalar.extui (Scalar.cmpi .eq (BitVec.ofNat 32 (i 0).val) 0#32)) (0#32 : BitVec 32) = 1#1 → arg11.view.read (Elt F) f = s⌝ ∗ arg11.view.loc (c : Thread nD τ) ↦[arg11.view.set]{fullShare} f)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outT (tileOf x0 x2 x3 s).2 x0 x1 x4 x5 x6 x7) ∗ (∃ f, arg10.view.loc (c : Thread nD τ) ↦[arg10.view.set]{fullShare} f) ∗ owns (c : Thread nD τ) arg11 fullShare (nextS x0 x2 x3 s)) -∗ K ⟨⟩))
          ⊢ wp frame (wpE (defs₀ (F := F)) Variants.none (c : Thread nD τ) none) E (cc0_s5 i arg1 harg1 arg2 harg2 arg3 harg3 arg4 harg4 arg5 harg5 arg6 harg6 arg7 harg7 arg8 harg8 arg9 harg9 arg10 harg10 arg11 harg11) K := by
  simp only [cc0_s5_eq_skeleton]; unfold cc0_s5_skel
  simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, H8⟩, ⟨%f9, H9⟩, ⟨%f10, %hf10, H10⟩, Hk⟩
  subst hf0; subst hf1; subst hf2; subst hf3; subst hf4; subst hf5; subst hf6; subst hf7
  by_cases hc : Scalar.cmpi .ne (Scalar.extui (Scalar.cmpi .eq (BitVec.ofNat 32 (i 0).val) 0#32)) (0#32 : BitVec 32) = 1#1
  all_goals
    sl_exec (disch := first | sl_exact hc)
    iapply (loop_run i arg1 harg1 arg2 harg2 arg3 harg3 arg4 harg4 arg5 harg5 arg6 harg6 arg7 harg7 arg8 harg8 arg9 harg9 arg10 harg10 arg11 harg11 c _ _ _ _ _ E _) $$ H9
    iintro %acc ⟨⟨%g, H9, %hg⟩, %ha⟩
    obtain ⟨re, im⟩ := acc
    sl_exec
    sl_step
    have ht : (re, im) = (tileOf (arg1.view.read (Elt F) f0) (arg3.view.read (Elt F) f2) (arg4.view.read (Elt F) f3) s).1 := by
      refine ha.trans (congrArg Prod.fst (tile_pre arg10 f9 (arg1.view.read (Elt F) f0) (arg3.view.read (Elt F) f2) (arg4.view.read (Elt F) f3) s _ ?_))
      first
        | (have e := hs hc
           rw [e]
           delta body_run.sl.v561 body_run.sl.H10_1
           exact cov11 arg11 k0_pay28)
        | (have e := hf10 hc
           exact (View.readAt_full arg11.view f10 inb_S8x2048_S8x2048_0_0).trans e)
    have hx : (arg10.view.read (Elt F) g) = (tileOf (arg1.view.read (Elt F) f0) (arg3.view.read (Elt F) f2) (arg4.view.read (Elt F) f3) s).2 := by
      refine hg.trans (congrArg Prod.snd (tile_pre arg10 f9 (arg1.view.read (Elt F) f0) (arg3.view.read (Elt F) f2) (arg4.view.read (Elt F) f3) s _ ?_))
      first
        | (have e := hs hc
           rw [e]
           delta body_run.sl.v561 body_run.sl.H10_1
           exact cov11 arg11 k0_pay28)
        | (have e := hf10 hc
           exact (View.readAt_full arg11.view f10 inb_S8x2048_S8x2048_0_0).trans e)
    iapply Hk
    isplitl [H0]
    · iexists _
      isplitr
      swap
      · iexact H0
      · ipureintro; rfl
    isplitl [H1]
    · iexists _
      isplitr
      swap
      · iexact H1
      · ipureintro; rfl
    isplitl [H2]
    · iexists _
      isplitr
      swap
      · iexact H2
      · ipureintro; rfl
    isplitl [H3]
    · iexists _
      isplitr
      swap
      · iexact H3
      · ipureintro; rfl
    isplitl [H4]
    · iexists _
      isplitr
      swap
      · iexact H4
      · ipureintro; rfl
    isplitl [H5]
    · iexists _
      isplitr
      swap
      · iexact H5
      · ipureintro; rfl
    isplitl [H6]
    · iexists _
      isplitr
      swap
      · iexact H6
      · ipureintro; rfl
    isplitl [H7]
    · iexists _
      isplitr
      swap
      · iexact H7
      · ipureintro; rfl
    isplitl [H8]
    · iexists _
      isplitr
      swap
      · iexact H8
      · ipureintro
        rw [← hx]
        exact read_post arg9 (arg10.view.read (Elt F) g) (arg1.view.read (Elt F) f0) (arg2.view.read (Elt F) f1) (arg5.view.read (Elt F) f4) (arg6.view.read (Elt F) f5) (arg7.view.read (Elt F) f6) (arg8.view.read (Elt F) f7) f8
    isplitl [H9]
    · iexists _
      iexact H9
    · iexists _
      isplitr
      swap
      · iexact H10
      · ipureintro
        unfold nextS
        rw [← ht]
        exact View.read_writes_full _ _ _ _ _

end Cert.SfiveIdeal.Hand

end
-- ==== Proof.SfiveFrame.lean ====
module

public import proofs.«01_k».proof.Proof.Gen.SfiveIdeal.Frame
public import proofs.«01_k».proof.Proof.Gen.SfiveIdeal.Skeleton
public import Idealize.ShloMosaic.Lib.Exec
public import Idealize.ShloMosaic.Lib.Tactic
public import Idealize.ShloMosaic.Lib.Pipeline.ValueKit
public import Idealize.ShloMosaic.Lib.ValueLayout
public import Idealize.ShloMosaic.Lib.Writes
public import proofs.«01_k».proof.Proof.SfiveRun
public import Idealize.ShloMosaic.Lib.Pipeline.FrameBody

@[expose] public section

set_option maxRecDepth 16384

noncomputable section

namespace Cert.SfiveIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.SfiveIdeal Cert.SfiveIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The state before point `t`: zeros before the first. -/
def state (c : Dev nD) : ℕ → Vec F S8x2048 .f32
  | 0 => k0_pay28
  | t + 1 => if h : t < cfg0.N then nextS (iblk m c 0 ⟨t, h⟩) (iblk m c 2 ⟨t, h⟩) (iblk m c 3 ⟨t, h⟩) (state c t) else state c t

theorem state_succ (c : Dev nD) (t : Fin cfg0.N) : state m c (t.val + 1) = nextS (iblk m c 0 t) (iblk m c 2 t) (iblk m c 3 t) (state m c t.val) := by
  rw [state, dif_pos t.isLt]

/-- What the point leaves in the output's block. -/
def outAt (c : Dev nD) (t : Fin cfg0.N) : Vec F S8x128x256 .bf16 :=
  outT (tileOf (iblk m c 0 t) (iblk m c 2 t) (iblk m c 3 t) (state m c t.val)).2 (iblk m c 0 t) (iblk m c 1 t) (iblk m c 4 t) (iblk m c 5 t) (iblk m c 6 t) (iblk m c 7 t)

/-- What the points hand on: the tile at whatever it holds, the state before the point, the generator's register. -/
def carried (c : Dev nD) (t : ℕ) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ⌜t ≠ 0 → f = state m c t⌝ ∗ ((c : Thread nD τ).loc cc0_scratch1) ↦{fullShare} f)
    ∗ (∃ r, prngReg c r))

/-- The proof data of the launch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := carried m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body starts from at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it ends with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The first point is the one whose coordinate the body finds zero. -/
theorem first_iff : ∀ t : Fin cfg0.N, (Scalar.cmpi .ne (Scalar.extui (Scalar.cmpi .eq (BitVec.ofNat 32 ((grid0.coords t) 0).val) 0#32)) (0#32 : BitVec 32) = 1#1) ↔ t.val = 0 := by
  decide +kernel

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = carried m c (t.val + 1) from rfl, show (dats m 0 c).Φ t.castSucc = carried m c t.val from rfl,
    show (dats m 0 c).owesAt () t.succ = (dats m 0 c).owesAt () t.castSucc from rfl,
    after0_0, after0_1, after0_2, after0_3, after0_4, after0_5, after0_6, after0_7, after0_8]
  unfold carried
  iintro ⟨⟨⟨%g, HS0⟩, ⟨%s, %hs, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run (grid0.coords t) _ _ _ _ _ _ _ _ _ _ _ _ _ _ _ _ _ _ _ _ _ _ c (iblk m c 0 t) (iblk m c 1 t) (iblk m c 2 t) (iblk m c 3 t)
    (iblk m c 4 t) (iblk m c 5 t) (iblk m c 6 t) (iblk m c 7 t) (state m c t.val) ?_ Set.univ _)
  rotate_left
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns
    icases H8 with ⟨%f8, -, H8⟩
    iexists f8
    iexact H8
  isplitl [HS0]
  · iexists g
    simp only [Memref.view_whole, View.set_whole]
    iexact HS0
  isplitl [HS1]
  · iexists s
    isplitr
    swap
    · simp only [Memref.view_whole, View.set_whole]
      iexact HS1
    · ipureintro
      intro h
      exact hs fun h' => h ((first_iff t).2 h')
  · iintro ⟨H0, H1, H2, H3, H4, H5, H6, H7, H8, ⟨%g', HS0⟩, HS1⟩
    isplitl [HS0 HS1 Hg]
    · isplitl [HS0]
      · iexists g'
        simp only [Memref.view_whole, View.set_whole]
        iexact HS0
      isplitl [HS1]
      · iexists (nextS (iblk m c 0 t) (iblk m c 2 t) (iblk m c 3 t) (state m c t.val))
        isplitr
        swap
        · rw [owns_whole]
          exact .rfl
        · ipureintro
          exact fun _ => (state_succ m c t).symm
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · intro h
    rw [(first_iff t).1 h, state]

/-- The body table's row at a point is the body at that point's buffers. -/
theorem row (t : Fin cfg0.N) : defs₀ (F := F) .tc cfg0.body (cfg0.bodyArgs t (cfg0.slots t)) = bodyAt0 t := by
  unfold defs₀
  rw [Defs.onTc_tc]

theorem obligation (c : Dev nD) : BodyObligation (dats (F := F) m 0 c) (defs₀ (F := F)) Variants.none () Set.univ := fun t => by
  rw [bigSep_W0, bigSep_W0, row]
  exact triple_restated (sound_body m c t) rfl .rfl fun _ => .rfl

/-- Before the first point the scratch holds anything, -/
theorem carried_in (c : Dev nD) : Pipeline.ΦA spec0 c ⊢ carried m c 0 := by
  unfold Pipeline.ΦA carried
  rw [scopedRest0_eq]
  iintro ⟨⟨H0, ⟨%f, H1⟩⟩, Hg⟩
  isplitl [H0]; · iexact H0
  isplitl [H1]
  · iexists f
    isplitr
    swap
    · iexact H1
    · ipureintro
      exact fun h => absurd rfl h
  iexact Hg

/-- and after the last what it holds is forgotten. -/
theorem carried_out (c : Dev nD) (t : ℕ) : carried m c t ⊢ Pipeline.ΦA spec0 c := by
  unfold Pipeline.ΦA carried
  rw [scopedRest0_eq]
  iintro ⟨H0, ⟨%f, -, H1⟩, Hg⟩
  isplitl [H0 H1]
  · isplitl [H0]; · iexact H0
    iexists f
    iexact H1
  iexact Hg

set_option backward.isDefEq.respectTransparency.types false in
/-- The launch: every array at what the points left in it, and every counter at zero. -/
theorem launch_run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun c => carried_in m c) (hout := fun c => carried_out m c _)

theorem run_main : θ_run defs (onTc (τ := τ) (main (F := F))) (s₀ m ρ) (Pipeline.FramePost cfgs (dats m) 0 (V m)) :=
  (θ_run defs _ _).mono (fun _ h => h.1) (launch_run m ρ)

/-- The frame: the arguments end as they started and every counter is zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (launch_run m ρ))

end Cert.SfiveIdeal.Hand

end
-- ==== Proof.SfiveRec.lean ====
module

public import proofs.«01_k».proof.Proof.Gen.SfiveRefIdeal.Step
public import Idealize.ShloMosaic.Lib.Pipeline.ValueKit
public import Idealize.ShloMosaic.Lib.DynamicIndex

/-! The reference's recurrence, read at indices: one time's state from the state before it, and the array of all states
    after the last time. -/

@[expose] public section

set_option maxRecDepth 16384

noncomputable section

open Idealize.ShloMosaic Idealize.ShloMosaic.TcCoe

namespace Cert.SfiveProof

open Cert.SfiveRefIdeal Cert.SfiveRefIdeal.Gen Cert.SfiveRefIdeal.Step

variable (A : FVec Ideal S2x1024 .f32) (U : FVec Ideal S8x4096x256 .f32) (B : FVec Ideal S256x2048 .bf16)

/-- The reference's loop state before time `n`. -/
def it : ℕ → State Ideal
  | 0 => init A U B
  | n + 1 => step n (it n)

/-- The inputs to the recurrence stay what they are. -/
theorem it_bu (n : ℕ) : (it A U B n).main_v4_0 = A_main_v1 U B := by
  induction n with
  | zero => rfl
  | succ n ih => exact ih

/-- So do its coefficients. -/
theorem it_a (n : ℕ) : (it A U B n).main_v4_1 = A := by
  induction n with
  | zero => rfl
  | succ n ih => exact ih

/-- The input to the recurrence at one place: a row of the tokens times a column of the input matrix. -/
def inp (b : Fin 8) (t : Fin 4096) (l : Fin 2048) : EReal := ∑ k : Fin 256, U (ix3 b t k) * B (ix2 k l)

theorem bu_apply (b : Fin 8) (t : Fin 4096) (l : Fin 2048) : A_main_v1 (F := Ideal) U B (ix3 b t l) = inp U B b t l := by
  pointwise [A_main_v1, A_main_v0, inp]

/-- One time's inputs, cut out of all. -/
theorem row_apply (n : ℕ) (hn : n < 4096) (s : State Ideal) (b : Fin 8) (l : Fin 2048) :
    b11 n s (ix2 b l) = s.main_v4_0 (ix3 b (⟨n, hn⟩ : Fin 4096) l) := by
  have h : b10 n s = extractStridedSlice S8x1x2048 ![0, n, 0] s.main_v4_0 ⟨rfl, by
      intro a; fin_cases a
      · show 0 + 8 ≤ 8; omega
      · show n + 1 ≤ 4096; omega
      · show 0 + 2048 ≤ 2048; omega⟩ := by
    unfold b10
    refine Host.dynamicSlice_eq_extractStridedSlice _ _ _ _ _ _ ?_
    intro a
    fin_cases a
    · rfl
    · exact toInt_wrap_ofNat n (by omega)
    · rfl
  unfold b11
  rw [h]
  pointwise []

/-- The real part after time `n`, -/
theorem re_succ (n : ℕ) (hn : n < 4096) (b : Fin 8) (l : Fin 1024) : (it A U B (n + 1)).main_v4_4 (ix2 b l)
    = A (ix2 (0 : Fin 2) l) * (it A U B n).main_v4_4 (ix2 b l) - A (ix2 (1 : Fin 2) l) * (it A U B n).main_v4_5 (ix2 b l)
      + inp U B b ⟨n, hn⟩ ⟨l.val, by omega⟩ := by
  show b24 n (it A U B n) (ix2 b l) = _
  have e : b23 n (it A U B n) (ix2 b l) = b11 n (it A U B n) (ix2 b (⟨l.val, by omega⟩ : Fin 2048)) := by
    pointwise [b23]
  have e' : b24 n (it A U B n) (ix2 b l) = b22 n (it A U B n) (ix2 b l) + b23 n (it A U B n) (ix2 b l) := rfl
  rw [e', e, row_apply n hn, it_bu, bu_apply]
  pointwise [b22, b21, b20, b19, b18, b17, b16, b15, b14, b13, b12, it_a]

/-- and the imaginary part. -/
theorem im_succ (n : ℕ) (hn : n < 4096) (b : Fin 8) (l : Fin 1024) : (it A U B (n + 1)).main_v4_5 (ix2 b l)
    = A (ix2 (0 : Fin 2) l) * (it A U B n).main_v4_5 (ix2 b l) + A (ix2 (1 : Fin 2) l) * (it A U B n).main_v4_4 (ix2 b l)
      + inp U B b ⟨n, hn⟩ ⟨1024 + l.val, by omega⟩ := by
  show b37 n (it A U B n) (ix2 b l) = _
  have e : b36 n (it A U B n) (ix2 b l) = b11 n (it A U B n) (ix2 b (⟨1024 + l.val, by omega⟩ : Fin 2048)) := by
    pointwise [b36]
  have e' : b37 n (it A U B n) (ix2 b l) = b35 n (it A U B n) (ix2 b l) + b36 n (it A U B n) (ix2 b l) := rfl
  rw [e', e, row_apply n hn, it_bu, bu_apply]
  pointwise [b35, b34, b33, b32, b31, b30, b29, b28, b27, b26, b25, it_a]

/-- The whole state before time `n`, real lanes first. -/
def st (n : ℕ) (b : Fin 8) (l : Fin 2048) : EReal :=
  if h : l.val < 1024 then (it A U B n).main_v4_4 (ix2 b (⟨l.val, h⟩ : Fin 1024))
  else (it A U B n).main_v4_5 (ix2 b (⟨l.val - 1024, by omega⟩ : Fin 1024))

/-- Before the first time it is zero. -/
theorem st_zero (b : Fin 8) (l : Fin 2048) : st A U B 0 b l = 0 := by
  have h : ∀ j, K_main_v2 (F := Ideal) j = 0 := by
    intro j
    pointwise [K_main_v2, K_main_cst]
  unfold st
  split
  · next hl => exact h (ix2 b (⟨l.val, hl⟩ : Fin 1024))
  · exact h (ix2 b (⟨l.val - 1024, by omega⟩ : Fin 1024))

/-- The states kept after time `n`: that time's is the new one. -/
theorem xs_succ (n : ℕ) (hn : n < 4096) (b : Fin 8) (t : Fin 4096) (l : Fin 2048) : (it A U B (n + 1)).main_v4_6 (ix3 b t l)
    = if t.val = n then st A U B (n + 1) b l else (it A U B n).main_v4_6 (ix3 b t l) := by
  have e38 : b38 n (it A U B n) (ix2 b l) = st A U B (n + 1) b l := by
    unfold st
    pointwise [b38]
    rfl
  have e42 : b42 n (it A U B n) (ix3 b t l) = BitVec.ofBool (decide (t.val = n)) := by
    pointwise [b42, b41, b40, b39]
    show BitVec.ofBool (BitVec.ofNat 32 t.val == BitVec.ofNat 32 n) = _
    congr 1
    have := t.isLt
    rw [Bool.eq_iff_iff, beq_iff_eq, decide_eq_true_iff, ← BitVec.toNat_inj, BitVec.toNat_ofNat, BitVec.toNat_ofNat,
      Nat.mod_eq_of_lt (by omega), Nat.mod_eq_of_lt (by omega)]
  show b45 n (it A U B n) (ix3 b t l) = _
  rw [← e38]
  have e44 : b44 n (it A U B n) (ix3 b t l) = b38 n (it A U B n) (ix2 b l) := by
    pointwise [b44, b43]
  rw [← e44]
  show (if b42 n (it A U B n) (ix3 b t l) = 1 then _ else _) = _
  rw [e42]
  by_cases h : t.val = n
  · rw [if_pos h, decide_eq_true h]; rfl
  · rw [if_neg h, decide_eq_false h]; rfl

/-- After the last time every time's state is kept. -/
theorem xs_last (b : Fin 8) (t : Fin 4096) (l : Fin 2048) : (it A U B 4096).main_v4_6 (ix3 b t l) = st A U B (t.val + 1) b l := by
  have h : ∀ n, n ≤ 4096 → t.val < n → (it A U B n).main_v4_6 (ix3 b t l) = st A U B (t.val + 1) b l := by
    intro n
    induction n with
    | zero => intro _ h; exact absurd h (Nat.not_lt_zero _)
    | succ n ih =>
      intro hn ht
      rw [xs_succ A U B n (by omega)]
      by_cases e : t.val = n
      · rw [if_pos e, e]
      · rw [if_neg e]; exact ih (by omega) (by omega)
  exact h 4096 (le_refl _) t.isLt

/-- The recurrence's read-out before the gate, at a place: the states times the output matrix, and the tokens passed through. -/
def readout (x : Fin 2048 → EReal) (u : Fin 256 → EReal) (C : FVec Ideal S2048x256 .bf16) (d : FVec Ideal S1x256 .f32) (j : Fin 256) : EReal :=
  (∑ k : Fin 2048, x k * C (ix2 k j)) + d (ix2 (0 : Fin 1) j) * u j

/-- The gate's projection of the read-out, at a place. -/
def gate (x : Fin 2048 → EReal) (u : Fin 256 → EReal) (C : FVec Ideal S2048x256 .bf16) (d : FVec Ideal S1x256 .f32)
    (gw : FVec Ideal S256x512 .bf16) (gb : FVec Ideal S1x512 .f32) (j : Fin 512) : EReal :=
  (∑ k : Fin 256, readout x u C d k * gw (ix2 k j)) + gb (ix2 (0 : Fin 1) j)

/-- What the call returns at a place. -/
def result (x : Fin 2048 → EReal) (u : Fin 256 → EReal) (z : EReal) (C : FVec Ideal S2048x256 .bf16) (d : FVec Ideal S1x256 .f32)
    (gw : FVec Ideal S256x512 .bf16) (gb : FVec Ideal S1x512 .f32) (j : Fin 256) : EReal :=
  gate x u C d gw gb ⟨j.val, by omega⟩ * (Ideal.div 1 (1 + Ideal.exp (-gate x u C d gw gb ⟨256 + j.val, by omega⟩))) * z

/-- The reference's result, at a place. -/
theorem ref_apply (s : State Ideal) (u z : FVec Ideal S8x4096x256 .f32) (C : FVec Ideal S2048x256 .bf16) (d : FVec Ideal S1x256 .f32)
    (gw : FVec Ideal S256x512 .bf16) (gb : FVec Ideal S1x512 .f32) (b : Fin 8) (t : Fin 4096) (j : Fin 256) :
    R_main_v26 s u z C d gw gb (ix3 b t j)
      = result (fun k => s.main_v4_6 (ix3 b t k)) (fun k => u (ix3 b t k)) (z (ix3 b t j)) C d gw gb j := by
  pointwise [R_main_v26, result, gate, readout]

end Cert.SfiveProof

end
-- ==== Proof.SfiveValue.lean ====
module

public import proofs.«01_k».proof.Proof.SfiveFrame
public import proofs.«01_k».proof.Proof.SfiveRec

/-! The value of the S5 call: a tile's states are the reference's states of the tile's times, and what the kernel makes of
    them is what the reference makes of them. -/

@[expose] public section

set_option maxRecDepth 16384

noncomputable section

open Idealize.ShloMosaic Idealize.ShloMosaic.TcCoe Idealize.SL.Sem
open Idealize.ShloMosaic.Pipeline (Dat)
open Idealize.ShloMosaic.ValueIdx (shapeCast_1ab_ab_apply)

namespace Cert.SfiveProof

open Cert.SfiveIdeal Cert.SfiveIdeal.Gen Cert.SfiveIdeal.Hand

/-- Sixteen lane blocks side by side are the array they are the lane blocks of. -/
theorem concat16 {R : ℕ} {α : Type} (x0 x1 x2 x3 x4 x5 x6 x7 x8 x9 x10 x11 x12 x13 x14 x15 : (⟨2, ![R, 128]⟩ : Shape).Idx → α)
    (h : Shape.Concatenates (List.map (·.1) [(⟨(⟨2, ![R, 128]⟩ : Shape), x0⟩ : (s : Shape) × (s.Idx → α)), ⟨(⟨2, ![R, 128]⟩ : Shape), x1⟩, ⟨(⟨2, ![R, 128]⟩ : Shape), x2⟩, ⟨(⟨2, ![R, 128]⟩ : Shape), x3⟩, ⟨(⟨2, ![R, 128]⟩ : Shape), x4⟩, ⟨(⟨2, ![R, 128]⟩ : Shape), x5⟩, ⟨(⟨2, ![R, 128]⟩ : Shape), x6⟩, ⟨(⟨2, ![R, 128]⟩ : Shape), x7⟩, ⟨(⟨2, ![R, 128]⟩ : Shape), x8⟩, ⟨(⟨2, ![R, 128]⟩ : Shape), x9⟩, ⟨(⟨2, ![R, 128]⟩ : Shape), x10⟩, ⟨(⟨2, ![R, 128]⟩ : Shape), x11⟩, ⟨(⟨2, ![R, 128]⟩ : Shape), x12⟩, ⟨(⟨2, ![R, 128]⟩ : Shape), x13⟩, ⟨(⟨2, ![R, 128]⟩ : Shape), x14⟩, ⟨(⟨2, ![R, 128]⟩ : Shape), x15⟩]) (⟨2, ![R, 2048]⟩ : Shape) 1)
    (g : (⟨2, ![R, 2048]⟩ : Shape).Idx → α)
    (H : ∀ (n : Fin 16) (r : Fin R) (l : Fin 128), (![x0, x1, x2, x3, x4, x5, x6, x7, x8, x9, x10, x11, x12, x13, x14, x15] : Fin 16 → _) n (ix2 r l)
      = g (ix2 r (⟨128 * n.val + l.val, by omega⟩ : Fin 2048))) :
    concatenate (⟨2, ![R, 2048]⟩ : Shape) 1 [⟨(⟨2, ![R, 128]⟩ : Shape), x0⟩, ⟨(⟨2, ![R, 128]⟩ : Shape), x1⟩, ⟨(⟨2, ![R, 128]⟩ : Shape), x2⟩, ⟨(⟨2, ![R, 128]⟩ : Shape), x3⟩, ⟨(⟨2, ![R, 128]⟩ : Shape), x4⟩, ⟨(⟨2, ![R, 128]⟩ : Shape), x5⟩, ⟨(⟨2, ![R, 128]⟩ : Shape), x6⟩, ⟨(⟨2, ![R, 128]⟩ : Shape), x7⟩, ⟨(⟨2, ![R, 128]⟩ : Shape), x8⟩, ⟨(⟨2, ![R, 128]⟩ : Shape), x9⟩, ⟨(⟨2, ![R, 128]⟩ : Shape), x10⟩, ⟨(⟨2, ![R, 128]⟩ : Shape), x11⟩, ⟨(⟨2, ![R, 128]⟩ : Shape), x12⟩, ⟨(⟨2, ![R, 128]⟩ : Shape), x13⟩, ⟨(⟨2, ![R, 128]⟩ : Shape), x14⟩, ⟨(⟨2, ![R, 128]⟩ : Shape), x15⟩] h = g := by
  funext y
  obtain ⟨r, l, rfl⟩ : ∃ (r : Fin R) (l : Fin 2048), y = ix2 r l := ⟨y 0, y 1, (ix2_eta y).symm⟩
  have hl := l.isLt
  refine (concatenate_ofFn_apply (s₁ := (⟨2, ![R, 128]⟩ : Shape)) (t := (⟨2, ![R, 2048]⟩ : Shape)) 1
    (![x0, x1, x2, x3, x4, x5, x6, x7, x8, x9, x10, x11, x12, x13, x14, x15] : Fin 16 → _) h rfl 128 rfl (ix2 r l)
    (⟨l.val / 128, by omega⟩ : Fin 16) rfl (ix2 r (⟨l.val % 128, by omega⟩ : Fin 128)) rfl ?_).trans ?_
  · intro b hb
    fin_cases b
    · rfl
    · exact absurd rfl hb
  · rw [H]
    congr 2
    exact Fin.ext (by show 128 * (l.val / 128) + l.val % 128 = l.val; omega)

/-- One time's rows of a tile, the lane blocks side by side. -/
def rows (G : Vec Ideal S16x1024x128 .f32) (k : ℕ) (hk : k < 128) : FVec Ideal S8x2048 .f32 := fun y =>
  G (ix3 (⟨(y 1).val / 128, by have := (y 1).isLt; change (y 1).val < 2048 at this; omega⟩ : Fin 16)
    (⟨8 * k + (y 0).val, by have := (y 0).isLt; change (y 0).val < 8 at this; omega⟩ : Fin 1024) (⟨(y 1).val % 128, by omega⟩ : Fin 128))

/-- A lane block of those rows. -/
theorem row_block (G : Vec Ideal S16x1024x128 .f32) (k : ℕ) (hk : k < 128) (n : Fin 16) {off : Fin 3 → ℕ} (hoff : off = ![n.val, 8 * k, 0])
    (inb : ∀ a, off a + S1x8x128.size a ≤ S16x1024x128.size a) (r : Fin 8) (l : Fin 128) :
    shapeCast S8x128 (ld G (Rect.unit (s := S16x1024x128) off S1x8x128.size inb).toLoadRect) shapeCasts_S1x8x128_S8x128 (ix2 r l)
      = rows G k hk (ix2 r (⟨128 * n.val + l.val, by omega⟩ : Fin 2048)) := by
  subst hoff
  have := n.isLt
  have hr := r.isLt
  have hl := l.isLt
  refine (shapeCast_1ab_ab_apply _ _ r l).trans (congrArg G (funext fun a => ?_))
  fin_cases a
  · apply Fin.ext
    show n.val + 1 * 0 = (128 * n.val + l.val) / 128
    omega
  · apply Fin.ext
    show 8 * k + 1 * r.val = 8 * k + r.val
    omega
  · apply Fin.ext
    show 0 + 1 * l.val = (128 * n.val + l.val) % 128
    omega

/-- One time's inputs to the recurrence, as the loop gathers them. -/
theorem gathered (G : Vec Ideal S16x1024x128 .f32) (k : Fin k0_t1_loop.trips) (hk : k.val < 128) :
    k0_pay13 (k0_pay2 (ld G (Rect.unit (s := S16x1024x128) (k0_off1 k) S1x8x128.size (k0_off1_inb k)).toLoadRect)) (k0_pay3 (ld G (Rect.unit (s := S16x1024x128) (k0_off2 k) S1x8x128.size (k0_off2_inb k)).toLoadRect)) (k0_pay4 (ld G (Rect.unit (s := S16x1024x128) (k0_off3 k) S1x8x128.size (k0_off3_inb k)).toLoadRect)) (k0_pay5 (ld G (Rect.unit (s := S16x1024x128) (k0_off4 k) S1x8x128.size (k0_off4_inb k)).toLoadRect)) (k0_pay6 (ld G (Rect.unit (s := S16x1024x128) (k0_off5 k) S1x8x128.size (k0_off5_inb k)).toLoadRect)) (k0_pay7 (ld G (Rect.unit (s := S16x1024x128) (k0_off6 k) S1x8x128.size (k0_off6_inb k)).toLoadRect)) (k0_pay8 (ld G (Rect.unit (s := S16x1024x128) (k0_off7 k) S1x8x128.size (k0_off7_inb k)).toLoadRect)) (k0_pay9 (ld G (Rect.unit (s := S16x1024x128) (k0_off8 k) S1x8x128.size (k0_off8_inb k)).toLoadRect)) (k0_pay10 (ld G (Rect.unit (s := S16x1024x128) (k0_off9 k) S1x8x128.size (k0_off9_inb k)).toLoadRect)) (k0_pay11 (ld G (Rect.unit (s := S16x1024x128) (k0_off10 k) S1x8x128.size (k0_off10_inb k)).toLoadRect)) (k0_pay12 (ld G (Rect.unit (s := S16x1024x128) (k0_off11 k) S1x8x128.size (k0_off11_inb k)).toLoadRect)) (ld G (Rect.unit (s := S16x1024x128) (k0_off12 k) S1x8x128.size (k0_off12_inb k)).toLoadRect) (ld G (Rect.unit (s := S16x1024x128) (k0_off13 k) S1x8x128.size (k0_off13_inb k)).toLoadRect) (ld G (Rect.unit (s := S16x1024x128) (k0_off14 k) S1x8x128.size (k0_off14_inb k)).toLoadRect) (ld G (Rect.unit (s := S16x1024x128) (k0_off15 k) S1x8x128.size (k0_off15_inb k)).toLoadRect) (ld G (Rect.unit (s := S16x1024x128) (k0_off16 k) S1x8x128.size (k0_off16_inb k)).toLoadRect) = rows G k.val hk := by
  unfold k0_pay2 k0_pay3 k0_pay4 k0_pay5 k0_pay6 k0_pay7 k0_pay8 k0_pay9 k0_pay10 k0_pay11 k0_pay12 k0_pay13
  refine concat16 _ _ _ _ _ _ _ _ _ _ _ _ _ _ _ _ _ (rows G k.val hk) ?_
  intro n r l
  fin_cases n
  · exact row_block G k.val hk 0 (k0_off1_eq k) (k0_off1_inb k) r l
  · exact row_block G k.val hk 1 (k0_off2_eq k) (k0_off2_inb k) r l
  · exact row_block G k.val hk 2 (k0_off3_eq k) (k0_off3_inb k) r l
  · exact row_block G k.val hk 3 (k0_off4_eq k) (k0_off4_inb k) r l
  · exact row_block G k.val hk 4 (k0_off5_eq k) (k0_off5_inb k) r l
  · exact row_block G k.val hk 5 (k0_off6_eq k) (k0_off6_inb k) r l
  · exact row_block G k.val hk 6 (k0_off7_eq k) (k0_off7_inb k) r l
  · exact row_block G k.val hk 7 (k0_off8_eq k) (k0_off8_inb k) r l
  · exact row_block G k.val hk 8 (k0_off9_eq k) (k0_off9_inb k) r l
  · exact row_block G k.val hk 9 (k0_off10_eq k) (k0_off10_inb k) r l
  · exact row_block G k.val hk 10 (k0_off11_eq k) (k0_off11_inb k) r l
  · exact row_block G k.val hk 11 (k0_off12_eq k) (k0_off12_inb k) r l
  · exact row_block G k.val hk 12 (k0_off13_eq k) (k0_off13_inb k) r l
  · exact row_block G k.val hk 13 (k0_off14_eq k) (k0_off14_inb k) r l
  · exact row_block G k.val hk 14 (k0_off15_eq k) (k0_off15_inb k) r l
  · exact row_block G k.val hk 15 (k0_off16_eq k) (k0_off16_inb k) r l

theorem trips_eq : k0_t1_loop.trips = 128 := by decide +kernel

/-- The real part after one time of a tile, -/
theorem nextRe_apply (ar ai : Vec Ideal S1x1024 .f32) (G : Vec Ideal S16x1024x128 .f32) (s : FVec Ideal S8x1024 .f32 × FVec Ideal S8x1024 .f32)
    (k : Fin k0_t1_loop.trips) (hk : k.val < 128) (b : Fin 8) (l : Fin 1024) : nextRe ar ai G s k (ix2 b l)
      = ar (ix2 (0 : Fin 1) l) * s.1 (ix2 b l) - ai (ix2 (0 : Fin 1) l) * s.2 (ix2 b l) + rows G k.val hk (ix2 b (⟨l.val, by omega⟩ : Fin 2048)) := by
  unfold nextRe k0_pay14
  rw [gathered G k hk]
  generalize rows G k.val hk = R
  pointwise [k0_pay178, k0_pay179]

/-- and the imaginary part. -/
theorem nextIm_apply (ar ai : Vec Ideal S1x1024 .f32) (G : Vec Ideal S16x1024x128 .f32) (s : FVec Ideal S8x1024 .f32 × FVec Ideal S8x1024 .f32)
    (k : Fin k0_t1_loop.trips) (hk : k.val < 128) (b : Fin 8) (l : Fin 1024) : nextIm ar ai G s k (ix2 b l)
      = ar (ix2 (0 : Fin 1) l) * s.2 (ix2 b l) + ai (ix2 (0 : Fin 1) l) * s.1 (ix2 b l) + rows G k.val hk (ix2 b (⟨1024 + l.val, by omega⟩ : Fin 2048)) := by
  unfold nextIm k0_pay15
  rw [gathered G k hk]
  generalize rows G k.val hk = R
  pointwise [k0_pay178, k0_pay179]

/-- A state, real lanes first. -/
def both (re im : FVec Ideal S8x1024 .f32) (b : Fin 8) (l : Fin 2048) : EReal :=
  if h : l.val < 1024 then re (ix2 b (⟨l.val, h⟩ : Fin 1024)) else im (ix2 b (⟨l.val - 1024, by omega⟩ : Fin 1024))

/-- The rows of a tile after one time's stores. -/
theorem rows_put (G : Vec Ideal S16x1024x128 .f32) (re im : FVec Ideal S8x1024 .f32) (k j : ℕ) (hj : j < 128) (b : Fin 8) (l : Fin 2048) :
    rows (putRow G re im k) j hj (ix2 b l) = if j = k then both re im b l else rows G j hj (ix2 b l) := by
  have hb := b.isLt
  have hl := l.isLt
  show (if (8 * j + b.val) / 8 = k then _ else _) = _
  by_cases e : j = k
  · rw [if_pos e, if_pos (by omega)]
    unfold both
    show (if h : l.val / 128 < 8 then _ else _) = _
    by_cases h : l.val < 1024
    · rw [dif_pos h, dif_pos (by omega)]
      congr 1
      funext a
      fin_cases a
      · exact Fin.ext (by show (8 * j + b.val) % 8 = b.val; omega)
      · exact Fin.ext (by show 128 * (l.val / 128) + l.val % 128 = l.val; omega)
    · rw [dif_neg h, dif_neg (by omega)]
      congr 1
      funext a
      fin_cases a
      · exact Fin.ext (by show (8 * j + b.val) % 8 = b.val; omega)
      · exact Fin.ext (by show 128 * (l.val / 128 - 8) + l.val % 128 = l.val - 1024; omega)
  · rw [if_neg e, if_neg (by omega)]
    rfl

section Tile

variable (A : FVec Ideal S2x1024 .f32) (U : FVec Ideal S8x4096x256 .f32) (B : FVec Ideal S256x2048 .bf16)

/-- A tile's times, begun from the reference's state before them, go through the reference's states. -/
theorem tile_states (T : ℕ) (hT : T < 32) (ar ai : Vec Ideal S1x1024 .f32) (G : Vec Ideal S16x1024x128 .f32)
    (s : FVec Ideal S8x1024 .f32 × FVec Ideal S8x1024 .f32)
    (har : ∀ l, ar (ix2 (0 : Fin 1) l) = A (ix2 (0 : Fin 2) l)) (hai : ∀ l, ai (ix2 (0 : Fin 1) l) = A (ix2 (1 : Fin 2) l))
    (hG : ∀ j (hj : j < 128) b l, rows G j hj (ix2 b l) = inp U B b ⟨128 * T + j, by omega⟩ l)
    (hs : ∀ b l, s.1 (ix2 b l) = (it A U B (128 * T)).main_v4_4 (ix2 b l) ∧ s.2 (ix2 b l) = (it A U B (128 * T)).main_v4_5 (ix2 b l))
    (k : ℕ) (hk : k ≤ 128) :
    (∀ b l, (tile ar ai G s k).1.1 (ix2 b l) = (it A U B (128 * T + k)).main_v4_4 (ix2 b l)
      ∧ (tile ar ai G s k).1.2 (ix2 b l) = (it A U B (128 * T + k)).main_v4_5 (ix2 b l))
    ∧ ∀ j (hj : j < 128) b l, rows (tile ar ai G s k).2 j hj (ix2 b l)
      = if j < k then st A U B (128 * T + j + 1) b l else inp U B b ⟨128 * T + j, by omega⟩ l := by
  induction k with
  | zero => exact ⟨hs, fun j hj b l => by rw [if_neg (Nat.not_lt_zero _)]; exact hG j hj b l⟩
  | succ k ih =>
    obtain ⟨h1, h2⟩ := ih (by omega)
    have hk' : k < 128 := by omega
    have hkt : k < k0_t1_loop.trips := by rw [trips_eq]; exact hk'
    have hre : ∀ b l, nextRe ar ai (tile ar ai G s k).2 (tile ar ai G s k).1 ⟨k, hkt⟩ (ix2 b l)
        = (it A U B (128 * T + k + 1)).main_v4_4 (ix2 b l) := by
      intro b l
      rw [nextRe_apply _ _ _ _ _ hk', h2 k hk', if_neg (Nat.lt_irrefl k), har, hai, (h1 b l).1, (h1 b l).2,
        re_succ A U B (128 * T + k) (by omega)]
    have him : ∀ b l, nextIm ar ai (tile ar ai G s k).2 (tile ar ai G s k).1 ⟨k, hkt⟩ (ix2 b l)
        = (it A U B (128 * T + k + 1)).main_v4_5 (ix2 b l) := by
      intro b l
      rw [nextIm_apply _ _ _ _ _ hk', h2 k hk', if_neg (Nat.lt_irrefl k), har, hai, (h1 b l).1, (h1 b l).2,
        im_succ A U B (128 * T + k) (by omega)]
    rw [tile_succ ar ai G s ⟨k, hkt⟩]
    refine ⟨fun b l => ⟨hre b l, him b l⟩, fun j hj b l => ?_⟩
    rw [rows_put]
    by_cases e : j = k
    · subst e
      rw [if_pos rfl, if_pos (Nat.lt_succ_self _)]
      unfold both st
      simp only [hre, him]
    · rw [if_neg e, h2 j hj]
      by_cases e' : j < k
      · rw [if_pos e', if_pos (by omega)]
      · rw [if_neg e', if_neg (by omega)]

end Tile

/-- A batch's block times the input matrix, at a place. -/
theorem prod_apply (u : Vec Ideal S8x128x256 .f32) (B : Vec Ideal S256x2048 .bf16) (b : ℕ) (hb : b < 8) (r : Fin 128) (l : Fin 2048) :
    prod u B b hb (ix2 r l) = ∑ k : Fin 256, u (ix3 (⟨b, hb⟩ : Fin 8) r k) * B (ix2 k l) := by
  have hu : ∀ k : Fin 256, ld u (ubox b hb) (ix3 (0 : Fin 1) r k) = u (ix3 (⟨b, hb⟩ : Fin 8) r k) := by
    intro k
    refine congrArg u (funext fun a => ?_)
    fin_cases a
    · exact Fin.ext (by show b + 1 * 0 = b; omega)
    · exact Fin.ext (by show 0 + 1 * r.val = r.val; omega)
    · exact Fin.ext (by show 0 + 1 * k.val = k.val; omega)
  simp only [← hu]
  unfold prod
  generalize ld u (ubox b hb) = v
  pointwise [k0_pay29, ld]

/-- A tile's inputs to the recurrence, at a place. -/
theorem rows_BU (u : Vec Ideal S8x128x256 .f32) (B : Vec Ideal S256x2048 .bf16) (j : ℕ) (hj : j < 128) (b : Fin 8) (l : Fin 2048) :
    rows (BU u B) j hj (ix2 b l) = ∑ k : Fin 256, u (ix3 b (⟨j, hj⟩ : Fin 128) k) * B (ix2 k l) := by
  have hb := b.isLt
  have hl := l.isLt
  have e1 : (8 * j + b.val) % 8 = b.val := by omega
  refine (prod_apply u B ((8 * j + b.val) % 8) (Nat.mod_lt _ (by decide)) (⟨(8 * j + b.val) / 8, by omega⟩ : Fin 128)
    (⟨128 * (l.val / 128) + l.val % 128, by omega⟩ : Fin 2048)).trans ?_
  have e2 : (⟨(8 * j + b.val) % 8, Nat.mod_lt _ (by decide)⟩ : Fin 8) = b := Fin.ext e1
  have e3 : (⟨(8 * j + b.val) / 8, by omega⟩ : Fin 128) = ⟨j, hj⟩ := Fin.ext (by show (8 * j + b.val) / 8 = j; omega)
  have e4 : (⟨128 * (l.val / 128) + l.val % 128, by omega⟩ : Fin 2048) = l := Fin.ext (by show 128 * (l.val / 128) + l.val % 128 = l.val; omega)
  rw [e2, e3, e4]

/-- A batch's states of a tile, the lane blocks side by side. -/
def cols (X : Vec Ideal S16x1024x128 .f32) (b : ℕ) (hb : b < 8) : FVec Ideal S128x2048 .f32 := fun y =>
  X (ix3 (⟨(y 1).val / 128, by have := (y 1).isLt; change (y 1).val < 2048 at this; omega⟩ : Fin 16)
    (⟨8 * (y 0).val + b, by have := (y 0).isLt; change (y 0).val < 128 at this; omega⟩ : Fin 1024) (⟨(y 1).val % 128, by omega⟩ : Fin 128))

/-- A lane block of those states. -/
theorem col_block (X : Vec Ideal S16x1024x128 .f32) (b : ℕ) (hb : b < 8) (n : Fin 16) (hn : n.val < 16) (r : Fin 128) (l : Fin 128) :
    shapeCast S128x128 (ld X (box n.val b hn hb)) shapeCasts_S1x128x128_S128x128 (ix2 r l)
      = cols X b hb (ix2 r (⟨128 * n.val + l.val, by omega⟩ : Fin 2048)) := by
  have hr := r.isLt
  have hl := l.isLt
  refine (shapeCast_1ab_ab_apply _ _ r l).trans (congrArg X (funext fun a => ?_))
  fin_cases a
  · apply Fin.ext
    show n.val + 1 * 0 = (128 * n.val + l.val) / 128
    omega
  · apply Fin.ext
    show b + 8 * r.val = 8 * r.val + b
    omega
  · apply Fin.ext
    show 0 + 1 * l.val = (128 * n.val + l.val) % 128
    omega

/-- The kernel's read-out. -/
theorem readout_apply (X : Vec Ideal S16x1024x128 .f32) (u : Vec Ideal S8x128x256 .f32) (C : Vec Ideal S2048x256 .bf16) (d : Vec Ideal S1x256 .f32)
    (b : ℕ) (hb : b < 8) (r : Fin 128) (j : Fin 256) :
    k0_pay199 (k0_pay189 (ld X (box 0 b (by omega) hb))) (k0_pay189 (ld X (box 1 b (by omega) hb))) (k0_pay189 (ld X (box 2 b (by omega) hb))) (k0_pay189 (ld X (box 3 b (by omega) hb))) (k0_pay189 (ld X (box 4 b (by omega) hb))) (k0_pay189 (ld X (box 5 b (by omega) hb))) (k0_pay189 (ld X (box 6 b (by omega) hb))) (k0_pay189 (ld X (box 7 b (by omega) hb))) (k0_pay189 (ld X (box 8 b (by omega) hb))) (k0_pay189 (ld X (box 9 b (by omega) hb))) (ld X (box 10 b (by omega) hb)) (ld X (box 11 b (by omega) hb)) (ld X (box 12 b (by omega) hb)) (ld X (box 13 b (by omega) hb)) (ld X (box 14 b (by omega) hb)) (ld X (box 15 b (by omega) hb)) C d (ld u (ubox b hb)) (ix2 r j)
      = readout (fun k => cols X b hb (ix2 r k)) (fun k => u (ix3 (⟨b, hb⟩ : Fin 8) r k)) C d j := by
  have hu : ∀ k : Fin 256, ld u (ubox b hb) (ix3 (0 : Fin 1) r k) = u (ix3 (⟨b, hb⟩ : Fin 8) r k) := by
    intro k
    refine congrArg u (funext fun a => ?_)
    fin_cases a
    · exact Fin.ext (by show b + 1 * 0 = b; omega)
    · exact Fin.ext (by show 0 + 1 * r.val = r.val; omega)
    · exact Fin.ext (by show 0 + 1 * k.val = k.val; omega)
  simp only [← hu]
  generalize ld u (ubox b hb) = v
  unfold k0_pay199 k0_pay189
  rw [concat16 _ _ _ _ _ _ _ _ _ _ _ _ _ _ _ _ _ (cols X b hb) (by
    intro n r l
    fin_cases n
    · exact col_block X b hb 0 (by decide) r l
    · exact col_block X b hb 1 (by decide) r l
    · exact col_block X b hb 2 (by decide) r l
    · exact col_block X b hb 3 (by decide) r l
    · exact col_block X b hb 4 (by decide) r l
    · exact col_block X b hb 5 (by decide) r l
    · exact col_block X b hb 6 (by decide) r l
    · exact col_block X b hb 7 (by decide) r l
    · exact col_block X b hb 8 (by decide) r l
    · exact col_block X b hb 9 (by decide) r l
    · exact col_block X b hb 10 (by decide) r l
    · exact col_block X b hb 11 (by decide) r l
    · exact col_block X b hb 12 (by decide) r l
    · exact col_block X b hb 13 (by decide) r l
    · exact col_block X b hb 14 (by decide) r l
    · exact col_block X b hb 15 (by decide) r l)]
  generalize cols X b hb = W
  pointwise [readout]

/-! Loads of whole blocks. -/

theorem ld_c (x : Vec Ideal S2048x256 .bf16) : ld x (Rect.unit (s := S2048x256) ![0, 0] S2048x256.size inb_S2048x256_S2048x256_0_0).toLoadRect = x := by
  funext y
  refine congrArg x (funext fun a => Fin.ext ?_)
  fin_cases a
  · show 0 + 1 * (y 0).val = (y 0).val; omega
  · show 0 + 1 * (y 1).val = (y 1).val; omega

theorem ld_d (x : Vec Ideal S1x256 .f32) : ld x (Rect.unit (s := S1x256) ![0, 0] S1x256.size inb_S1x256_S1x256_0_0).toLoadRect = x := by
  funext y
  refine congrArg x (funext fun a => Fin.ext ?_)
  fin_cases a
  · show 0 + 1 * (y 0).val = (y 0).val; omega
  · show 0 + 1 * (y 1).val = (y 1).val; omega

theorem ld_gw (x : Vec Ideal S256x512 .bf16) : ld x (Rect.unit (s := S256x512) ![0, 0] S256x512.size inb_S256x512_S256x512_0_0).toLoadRect = x := by
  funext y
  refine congrArg x (funext fun a => Fin.ext ?_)
  fin_cases a
  · show 0 + 1 * (y 0).val = (y 0).val; omega
  · show 0 + 1 * (y 1).val = (y 1).val; omega

theorem ld_gb (x : Vec Ideal S1x512 .f32) : ld x (Rect.unit (s := S1x512) ![0, 0] S1x512.size inb_S1x512_S1x512_0_0).toLoadRect = x := by
  funext y
  refine congrArg x (funext fun a => Fin.ext ?_)
  fin_cases a
  · show 0 + 1 * (y 0).val = (y 0).val; omega
  · show 0 + 1 * (y 1).val = (y 1).val; omega

/-- The kernel's result, at a place of a batch's block. -/
theorem out_apply (X : Vec Ideal S16x1024x128 .f32) (u z : Vec Ideal S8x128x256 .f32) (C : Vec Ideal S2048x256 .bf16) (d : Vec Ideal S1x256 .f32)
    (gw : Vec Ideal S256x512 .bf16) (gb : Vec Ideal S1x512 .f32) (b : ℕ) (hb : b < 8) (r : Fin 128) (j : Fin 256) :
    outB X u z C d gw gb b hb (ix3 (0 : Fin 1) r j)
      = result (fun k => cols X b hb (ix2 r k)) (fun k => u (ix3 (⟨b, hb⟩ : Fin 8) r k)) (z (ix3 (⟨b, hb⟩ : Fin 8) r j)) C d gw gb j := by
  have hz : ld z (ubox b hb) (ix3 (0 : Fin 1) r j) = z (ix3 (⟨b, hb⟩ : Fin 8) r j) := by
    refine congrArg z (funext fun a => ?_)
    fin_cases a
    · exact Fin.ext (by show b + 1 * 0 = b; omega)
    · exact Fin.ext (by show 0 + 1 * r.val = r.val; omega)
    · exact Fin.ext (by show 0 + 1 * j.val = j.val; omega)
  rw [← hz]
  unfold outB result gate
  simp only [← readout_apply X u C d b hb r]
  rw [ld_c, ld_d, ld_gw, ld_gb]
  generalize k0_pay199 (F := Ideal) _ _ _ _ _ _ _ _ _ _ _ _ _ _ _ _ _ _ _ = Y
  generalize ld z (ubox b hb) = w
  pointwise [k0_pay291]
  simp only [sub_eq_add_neg, zero_add]

variable (m : (ℓ : Loc nD τ sig) → Buf (Elt Ideal) ℓ)

/-- Where each window's block lies at a grid point: the token windows move along the times, the weights stay. -/
theorem idx : ∀ t : Fin cfg0.N, win0_0.index t = ![0, t.val, 0] ∧ win0_1.index t = ![0, t.val, 0] ∧ win0_2.index t = ![0, 0]
    ∧ win0_3.index t = ![0, 0] ∧ win0_4.index t = ![0, 0] ∧ win0_5.index t = ![0, 0]
    ∧ win0_6.index t = ![0, 0] ∧ win0_7.index t = ![0, 0] ∧ win0_8.index t = ![0, t.val, 0] :=
  (by decide +kernel : ∀ t : Fin grid0.N, _)

/-- The time that row `r` of grid point `t` is. -/
def time (t : Fin cfg0.N) (r : Fin 128) : Fin 4096 :=
  ⟨t.val * 128 + r.val, by have h : cfg0.N = 32 := N_0; have := t.isLt; have := r.isLt; omega⟩

/-- A block of the tokens at a grid point, read at an index. -/
theorem block_u (c : Dev nD) (t : Fin cfg0.N) (b : Fin 8) (r : Fin 128) (k : Fin 256) :
    iblk m c 0 t (ix3 b r k) = m ((c : Thread nD τ).loc main_arg0) (ix3 b (time t r) k) := by
  unfold time
  blk_point [iblk, V, idx t]

/-- A block of the outer gate at a grid point, read at an index. -/
theorem block_z (c : Dev nD) (t : Fin cfg0.N) (b : Fin 8) (r : Fin 128) (k : Fin 256) :
    iblk m c 1 t (ix3 b r k) = m ((c : Thread nD τ).loc main_arg1) (ix3 b (time t r) k) := by
  unfold time
  blk_point [iblk, V, idx t]

/-- The input matrix, read at an index. -/
theorem block_b (c : Dev nD) (t : Fin cfg0.N) (k : Fin 256) (j : Fin 2048) :
    iblk m c 2 t (ix2 k j) = m ((c : Thread nD τ).loc main_arg2) (ix2 k j) := by
  skip
  blk_point [iblk, V, idx t]

/-- The recurrence's coefficients, read at an index. -/
theorem block_a (c : Dev nD) (t : Fin cfg0.N) (k : Fin 2) (j : Fin 1024) :
    iblk m c 3 t (ix2 k j) = m ((c : Thread nD τ).loc main_arg3) (ix2 k j) := by
  skip
  blk_point [iblk, V, idx t]

/-- The output matrix, read at an index. -/
theorem block_c (c : Dev nD) (t : Fin cfg0.N) (k : Fin 2048) (j : Fin 256) :
    iblk m c 4 t (ix2 k j) = m ((c : Thread nD τ).loc main_arg4) (ix2 k j) := by
  skip
  blk_point [iblk, V, idx t]

/-- The weights of the tokens passed through, read at an index. -/
theorem block_d (c : Dev nD) (t : Fin cfg0.N) (k : Fin 1) (j : Fin 256) :
    iblk m c 5 t (ix2 k j) = m ((c : Thread nD τ).loc main_arg5) (ix2 k j) := by
  skip
  blk_point [iblk, V, idx t]

/-- The gate's matrix, read at an index. -/
theorem block_gw (c : Dev nD) (t : Fin cfg0.N) (k : Fin 256) (j : Fin 512) :
    iblk m c 6 t (ix2 k j) = m ((c : Thread nD τ).loc main_arg6) (ix2 k j) := by
  skip
  blk_point [iblk, V, idx t]

/-- The gate's bias, read at an index. -/
theorem block_gb (c : Dev nD) (t : Fin cfg0.N) (k : Fin 1) (j : Fin 512) :
    iblk m c 7 t (ix2 k j) = m ((c : Thread nD τ).loc main_arg7) (ix2 k j) := by
  skip
  blk_point [iblk, V, idx t]

/-- The array index a block index of the result lies at. -/
theorem emb_out (t : Fin cfg0.N) (b : Fin 8) (r : Fin 128) (j : Fin 256) :
    ((cfg0.win 8).blk t).view.emb (ix3 b r j) = (ix3 b (time t r) j : S8x4096x256.Idx) := by
  unfold time
  blk_ext [idx t]

/-- The two rows of the coefficients, as the kernel loads them. -/
theorem coef_re (a : Vec Ideal S2x1024 .f32) (l : Fin 1024) :
    ld a (Rect.unit (s := S2x1024) ![0, 0] S1x1024.size inb_S2x1024_S1x1024_0_0).toLoadRect (ix2 (0 : Fin 1) l) = a (ix2 (0 : Fin 2) l) := by
  refine congrArg a (funext fun x => Fin.ext ?_)
  fin_cases x
  · rfl
  · show 0 + 1 * l.val = l.val; omega

theorem coef_im (a : Vec Ideal S2x1024 .f32) (l : Fin 1024) :
    ld a (Rect.unit (s := S2x1024) ![1, 0] S1x1024.size inb_S2x1024_S1x1024_1_0).toLoadRect (ix2 (0 : Fin 1) l) = a (ix2 (1 : Fin 2) l) := by
  refine congrArg a (funext fun x => Fin.ext ?_)
  fin_cases x
  · rfl
  · show 0 + 1 * l.val = l.val; omega

/-- A point's tile, begun from the reference's state before the point, holds the reference's states. -/
theorem tile_at (c : Dev nD) (t : Fin cfg0.N)
    (hs : ∀ b l, state m c t.val (ix2 b l) = st (m ((c : Thread nD τ).loc main_arg3)) (m ((c : Thread nD τ).loc main_arg0)) (m ((c : Thread nD τ).loc main_arg2)) (128 * t.val) b l) :
    (∀ b l, (tileOf (iblk m c 0 t) (iblk m c 2 t) (iblk m c 3 t) (state m c t.val)).1.1 (ix2 b l) = (it (m ((c : Thread nD τ).loc main_arg3)) (m ((c : Thread nD τ).loc main_arg0)) (m ((c : Thread nD τ).loc main_arg2)) (128 * t.val + 128)).main_v4_4 (ix2 b l)
      ∧ (tileOf (iblk m c 0 t) (iblk m c 2 t) (iblk m c 3 t) (state m c t.val)).1.2 (ix2 b l) = (it (m ((c : Thread nD τ).loc main_arg3)) (m ((c : Thread nD τ).loc main_arg0)) (m ((c : Thread nD τ).loc main_arg2)) (128 * t.val + 128)).main_v4_5 (ix2 b l))
    ∧ ∀ j (hj : j < 128) b l, rows (tileOf (iblk m c 0 t) (iblk m c 2 t) (iblk m c 3 t) (state m c t.val)).2 j hj (ix2 b l)
      = st (m ((c : Thread nD τ).loc main_arg3)) (m ((c : Thread nD τ).loc main_arg0)) (m ((c : Thread nD τ).loc main_arg2)) (128 * t.val + j + 1) b l := by
  have ht : t.val < 32 := by have h : cfg0.N = 32 := N_0; have := t.isLt; omega
  have h := tile_states (m ((c : Thread nD τ).loc main_arg3)) (m ((c : Thread nD τ).loc main_arg0)) (m ((c : Thread nD τ).loc main_arg2)) t.val ht
    (ld (iblk m c 3 t) (Rect.unit (s := S2x1024) ![0, 0] S1x1024.size inb_S2x1024_S1x1024_0_0).toLoadRect)
    (ld (iblk m c 3 t) (Rect.unit (s := S2x1024) ![1, 0] S1x1024.size inb_S2x1024_S1x1024_1_0).toLoadRect)
    (BU (iblk m c 0 t) (iblk m c 2 t)) (k0_pay180 (state m c t.val), k0_pay181 (state m c t.val))
    (fun l => (coef_re _ l).trans (block_a m c t 0 l)) (fun l => (coef_im _ l).trans (block_a m c t 1 l))
    (fun j hj b l => by
      rw [rows_BU]
      simp only [block_u, block_b]
      unfold inp time
      simp only [Nat.mul_comm 128 t.val])
    (fun b l => by
      have e1 : k0_pay180 (state m c t.val) (ix2 b l) = state m c t.val (ix2 b (⟨l.val, by omega⟩ : Fin 2048)) := by
        generalize state m c t.val = S
        pointwise [k0_pay180]
      have e2 : k0_pay181 (state m c t.val) (ix2 b l) = state m c t.val (ix2 b (⟨1024 + l.val, by omega⟩ : Fin 2048)) := by
        generalize state m c t.val = S
        pointwise [k0_pay181]
      have hl := l.isLt
      constructor
      · refine e1.trans ((hs _ _).trans ?_)
        unfold st
        rw [dif_pos hl]
      · refine e2.trans ((hs _ _).trans ?_)
        unfold st
        rw [dif_neg (by show ¬ 1024 + l.val < 1024; omega)]
        congr 2
        exact Fin.ext (by show 1024 + l.val - 1024 = l.val; omega))
    128 (Nat.le_refl _)
  unfold tileOf
  rw [trips_eq]
  refine ⟨h.1, fun j hj b l => ?_⟩
  exact (h.2 j hj b l).trans (if_pos hj)

/-- The state the kernel carries is the reference's state before the point's first time. -/
theorem state_eq (c : Dev nD) (n : ℕ) (hn : n ≤ 32) (b : Fin 8) (l : Fin 2048) : state m c n (ix2 b l) = st (m ((c : Thread nD τ).loc main_arg3)) (m ((c : Thread nD τ).loc main_arg0)) (m ((c : Thread nD τ).loc main_arg2)) (128 * n) b l := by
  induction n generalizing b l with
  | zero =>
    rw [Nat.mul_zero, st_zero]
    unfold state
    pointwise [k0_pay28]
  | succ n ih =>
    have hN : n < cfg0.N := by have h : cfg0.N = 32 := N_0; omega
    have h := (tile_at m c ⟨n, hN⟩ (fun b l => ih (by omega) b l)).1
    rw [state_succ m c ⟨n, hN⟩, show 128 * (n + 1) = 128 * n + 128 from by omega]
    unfold nextS st
    have e : ∀ re im : FVec Ideal S8x1024 .f32, k0_pay188 re im (ix2 b l) = both re im b l := by
      intro re im
      pointwise [k0_pay188, both]
    rw [e]
    unfold both
    simp only [h]

/-- The result array after the run. -/
theorem final (c : Dev nD) : (dats m 0 c).arrAt 8 (cfgs 0).N
    = Cert.SfiveRefIdeal.Step.R_main_v26 (it (m ((c : Thread nD τ).loc main_arg3)) (m ((c : Thread nD τ).loc main_arg0)) (m ((c : Thread nD τ).loc main_arg2)) 4096) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  obtain ⟨b, r, j, rfl⟩ : ∃ (b : Fin 8) (r : Fin 128) (j : Fin 256), y = ix3 b r j :=
    ⟨y 0, y 1, y 2, by funext a; fin_cases a <;> rfl⟩
  have ht : t.val < 32 := Nat.lt_of_lt_of_eq t.isLt N_0
  rw [emb_out, ref_apply, after0_8]
  unfold outAt
  refine (out_apply _ _ _ _ _ _ _ b.val b.isLt r j).trans ?_
  have hx : ∀ k, cols (tileOf (iblk m c 0 t) (iblk m c 2 t) (iblk m c 3 t) (state m c t.val)).2 b.val b.isLt (ix2 r k)
      = (it (m ((c : Thread nD τ).loc main_arg3)) (m ((c : Thread nD τ).loc main_arg0)) (m ((c : Thread nD τ).loc main_arg2)) 4096).main_v4_6 (ix3 b (time t r) k) := by
    intro k
    refine ((tile_at m c t (fun b l => state_eq m c t.val (by omega) b l)).2 r.val r.isLt b k).trans ?_
    rw [xs_last]
    unfold time
    show st _ _ _ (128 * t.val + r.val + 1) b k = st _ _ _ (t.val * 128 + r.val + 1) b k
    rw [Nat.mul_comm 128 t.val]
  unfold result gate readout
  simp only [hx, block_u, block_z, block_c, block_d, block_gw, block_gb]

end Cert.SfiveProof

end
-- ==== Proof.SfiveBits.lean ====
module

public import proofs.«01_k».proof.Proof.SfiveFrame
public import proofs.«01_k».proof.Proof.Gen.Sfive.Frame
public import proofs.«01_k».proof.Defs

/-! The S5 call on words: its program is the idealized one's text, so that one's frame, which holds at any values, is its
    frame. -/

@[expose] public section

set_option maxRecDepth 16384
set_option backward.isDefEq.respectTransparency.types false

noncomputable section

namespace Cert.SfiveProof

open Idealize.ShloMosaic Idealize.SL.Sem

theorem body_same : @Cert.Sfive.defs₀ Bits _ _ = @Cert.SfiveIdeal.defs₀ Bits _ _ := by
  unfold Cert.Sfive.defs₀ Cert.SfiveIdeal.defs₀
  refine congrArg Defs.onTc (funext fun l => funext fun a => ?_)
  obtain ⟨v, hv⟩ := l
  cases v with
  | zero => rfl
  | succ n => exact absurd hv (Nat.not_lt.2 (Nat.le_add_left _ _))

theorem defs_same : @Cert.Sfive.defs Bits _ _ = @Cert.SfiveIdeal.defs Bits _ _ := by
  unfold Cert.Sfive.defs Cert.SfiveIdeal.defs
  exact congrArg (Pipeline.defs Cert.SfiveIdeal.pcfgs) body_same

theorem main_same : @Cert.Sfive.main Bits _ = @Cert.SfiveIdeal.main Bits _ := rfl

/-- The frame on words. -/
theorem frame_bits : Cert.quiescent_Sfive := by
  intro m g _
  rw [defs_same, main_same]
  exact Cert.SfiveIdeal.Hand.quiet m g

end Cert.SfiveProof

end
-- ==== Proof.lean ====
/- The proof of the five claims about each of the merge call, the S5 call and the input projection's call. -/
module

public import proofs.«01_k».proof.Proof.Gen.InprojRefIdeal.Run
public import proofs.«01_k».proof.Proof.Gen.InprojIdeal.Frame
public import proofs.«01_k».proof.Proof.Gen.InprojIdeal.Skeleton
public import proofs.«01_k».proof.Proof.Gen.Inproj.Frame
public import proofs.«01_k».proof.Proof.InprojBits
public import proofs.«01_k».proof.Proof.InprojConv
public import proofs.«01_k».proof.Proof.InprojHeads
public import proofs.«01_k».proof.Proof.InprojRefRun
public import proofs.«01_k».proof.Proof.MergeValue
public import proofs.«01_k».proof.Proof.Gen.MergeRefIdeal.Run
public import proofs.«01_k».proof.Proof.SfiveValue
public import proofs.«01_k».proof.Proof.SfiveBits
public import proofs.«01_k».proof.Proof.Gen.SfiveRefIdeal.Run
public import proofs.«01_k».proof.Proof.Gen.SfiveRefIdeal.Step
public import proofs.«01_k».proof.Proof.Gen.SfiveRefIdeal.StepRun
public import proofs.«01_k».proof.Proof.Gen.SfiveIdeal.Frame
public import proofs.«01_k».proof.Proof.Gen.SfiveIdeal.Skeleton
public import proofs.«01_k».proof.Proof.Gen.SfiveIdeal.Points
public import proofs.«01_k».proof.Proof.Gen.Sfive.Frame
public import proofs.«01_k».proof.Defs
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The reference's result is its own term of its arguments. -/
theorem ref_merge (m : (ℓ : Loc Cert.MergeRefIdeal.nD Cert.MergeRefIdeal.τ Cert.MergeRefIdeal.sig) → Buf (Elt Ideal) ℓ)
    (c : Dev Cert.MergeRefIdeal.nD) : Cert.MergeRefIdeal.Value.res_main_v50 m c
      = Cert.MergeProof.mergeRef
        (m ((c.tc : Thread Cert.MergeRefIdeal.nD Cert.MergeRefIdeal.τ).loc Cert.MergeRefIdeal.main_arg0))
        (m ((c.tc : Thread Cert.MergeRefIdeal.nD Cert.MergeRefIdeal.τ).loc Cert.MergeRefIdeal.main_arg1))
        (m ((c.tc : Thread Cert.MergeRefIdeal.nD Cert.MergeRefIdeal.τ).loc Cert.MergeRefIdeal.main_arg2))
        (m ((c.tc : Thread Cert.MergeRefIdeal.nD Cert.MergeRefIdeal.τ).loc Cert.MergeRefIdeal.main_arg3))
        (m ((c.tc : Thread Cert.MergeRefIdeal.nD Cert.MergeRefIdeal.τ).loc Cert.MergeRefIdeal.main_arg4))
        (m ((c.tc : Thread Cert.MergeRefIdeal.nD Cert.MergeRefIdeal.τ).loc Cert.MergeRefIdeal.main_arg5))
        (m ((c.tc : Thread Cert.MergeRefIdeal.nD Cert.MergeRefIdeal.τ).loc Cert.MergeRefIdeal.main_arg6))
        (m ((c.tc : Thread Cert.MergeRefIdeal.nD Cert.MergeRefIdeal.τ).loc Cert.MergeRefIdeal.main_arg7))
        (m ((c.tc : Thread Cert.MergeRefIdeal.nD Cert.MergeRefIdeal.τ).loc Cert.MergeRefIdeal.main_arg8)) := rfl

/-- The merge call and its reference end with equal arrays. -/
theorem algebraic_merge : Cert.algebraic_MergeIdeal_MergeRefIdeal := by
  pair_intro
  · run_from Cert.MergeIdeal.Gen.run_main m g
  · run_from Cert.MergeRefIdeal.Value.run m' g'
    obtain ⟨h0, h1, h2, h3, h4, h5, h6, h7, h8⟩ := hagree c
    rw [ref_merge, h0, h1, h2, h3, h4, h5, h6, h7, h8]
    exact (Cert.MergeProof.final m c).symm

/-- The S5 call and its reference end with equal arrays. -/
theorem algebraic_s5 : Cert.algebraic_SfiveIdeal_SfiveRefIdeal := by
  pair_intro
  · run_from Cert.SfiveIdeal.Hand.run_main m g
  · run_from Cert.SfiveRefIdeal.StepRun.run_iter m' g'
      (fun c => Cert.SfiveProof.it (m' ((c.tc : Thread Cert.SfiveRefIdeal.nD Cert.SfiveRefIdeal.τ).loc Cert.SfiveRefIdeal.main_arg3))
        (m' ((c.tc : Thread Cert.SfiveRefIdeal.nD Cert.SfiveRefIdeal.τ).loc Cert.SfiveRefIdeal.main_arg0))
        (m' ((c.tc : Thread Cert.SfiveRefIdeal.nD Cert.SfiveRefIdeal.τ).loc Cert.SfiveRefIdeal.main_arg2))) (fun _ => rfl) (fun _ _ => rfl)
    exact (Cert.SfiveProof.final m c).symm

set_option maxHeartbeats 20000000 in
/-- The input projection's call and its reference end with equal arrays. -/
theorem algebraic_inproj : Cert.algebraic_InprojIdeal_InprojRefIdeal := by
  intro m g m' g' hpre hagree
  refine ⟨fun c => (Cert.InprojIdeal.Hand.dats m 0 c).arrAt 14 (Cert.InprojIdeal.cfgs 0).N, fun c => (Cert.InprojIdeal.Hand.dats m 0 c).arrAt 15 (Cert.InprojIdeal.cfgs 0).N, fun c => (Cert.InprojIdeal.Hand.dats m 0 c).arrAt 16 (Cert.InprojIdeal.cfgs 0).N, fun c => (Cert.InprojIdeal.Hand.dats m 0 c).arrAt 17 (Cert.InprojIdeal.cfgs 0).N, fun c => (Cert.InprojIdeal.Hand.dats m 0 c).arrAt 18 (Cert.InprojIdeal.cfgs 0).N, fun c => (Cert.InprojIdeal.Hand.dats m 0 c).arrAt 19 (Cert.InprojIdeal.cfgs 0).N, fun c => (Cert.InprojIdeal.Hand.dats m 0 c).arrAt 20 (Cert.InprojIdeal.cfgs 0).N, fun c => (Cert.InprojIdeal.Hand.dats m 0 c).arrAt 21 (Cert.InprojIdeal.cfgs 0).N, fun c => (Cert.InprojIdeal.Hand.dats m 0 c).arrAt 22 (Cert.InprojIdeal.cfgs 0).N, fun c => (Cert.InprojIdeal.Hand.dats m 0 c).arrAt 23 (Cert.InprojIdeal.cfgs 0).N, fun c => (Cert.InprojIdeal.Hand.dats m 0 c).arrAt 24 (Cert.InprojIdeal.cfgs 0).N, fun c => (Cert.InprojIdeal.Hand.dats m 0 c).arrAt 25 (Cert.InprojIdeal.cfgs 0).N, fun c => (Cert.InprojIdeal.Hand.dats m 0 c).arrAt 26 (Cert.InprojIdeal.cfgs 0).N, fun c => (Cert.InprojIdeal.Hand.dats m 0 c).arrAt 27 (Cert.InprojIdeal.cfgs 0).N, fun c => (Cert.InprojIdeal.Hand.dats m 0 c).arrAt 28 (Cert.InprojIdeal.cfgs 0).N, fun c => (Cert.InprojIdeal.Hand.dats m 0 c).arrAt 29 (Cert.InprojIdeal.cfgs 0).N, ?_, ?_⟩
  · exact (θ_run Cert.InprojIdeal.defs _ _).mono (fun r h c => ⟨(h.2 c).1 14, (h.2 c).1 15, (h.2 c).1 16, (h.2 c).1 17, (h.2 c).1 18, (h.2 c).1 19, (h.2 c).1 20, (h.2 c).1 21, (h.2 c).1 22, (h.2 c).1 23, (h.2 c).1 24, (h.2 c).1 25, (h.2 c).1 26, (h.2 c).1 27, (h.2 c).1 28, (h.2 c).1 29, h.1.1 c⟩)
      (θ_run_and (Cert.InprojIdeal.Hand.quiet m g) (Cert.InprojIdeal.Hand.run_main m g))
  · refine (θ_run Cert.InprojRefIdeal.defs _ _).mono (fun r h c => ?_) (Cert.InprojProof.ref_run m' g')
    obtain ⟨q0, q1, q2, q3, q4, q5, q6, q7, q8, q9, q10, q11, q12, q13, q14, q15, rest⟩ := h c
    obtain ⟨b0, b1, b2, b3, b4, b5, b6, b7, b8, b9, b10, b11, b12, b13⟩ := hagree c
    rw [b0, b1, b2, b10, b11, b12] at q0
    rw [b0, b1, b2, b10, b11, b12] at q1
    rw [b0, b1, b2, b10, b11, b12] at q2
    rw [b0, b1, b3] at q3
    rw [b0, b1, b3] at q4
    rw [b0, b1, b5] at q5
    rw [b0, b1, b6] at q6
    rw [b0, b1, b6] at q7
    rw [b0, b1, b6] at q8
    rw [b0, b1, b6, b7, b13] at q9
    rw [b0, b1, b8] at q10
    rw [b0, b1, b8] at q11
    rw [b0, b1, b8] at q12
    rw [b0, b1, b9] at q13
    rw [b0, b1, b4] at q14
    rw [b0, b1, b4] at q15
    exact ⟨q0.trans (Cert.InprojProof.final0 m c).symm, q1.trans (Cert.InprojProof.final1 m c).symm, q2.trans (Cert.InprojProof.final2 m c).symm, q3.trans (Cert.InprojProof.final3 m c).symm, q4.trans (Cert.InprojProof.final4 m c).symm, q5.trans (Cert.InprojProof.final5 m c).symm, q6.trans (Cert.InprojProof.final6 m c).symm, q7.trans (Cert.InprojProof.final7 m c).symm, q8.trans (Cert.InprojProof.final8 m c).symm, q9.trans (Cert.InprojProof.final9 m c).symm, q10.trans (Cert.InprojProof.final10 m c).symm, q11.trans (Cert.InprojProof.final11 m c).symm, q12.trans (Cert.InprojProof.final12 m c).symm, q13.trans (Cert.InprojProof.final13 m c).symm, q14.trans (Cert.InprojProof.final14 m c).symm, q15.trans (Cert.InprojProof.final15 m c).symm, rest⟩

theorem claim : Cert.Claim := by
  refine ⟨Cert.Sfive.Gen.facts, Cert.SfiveIdeal.Gen.facts, Cert.SfiveRefIdeal.Gen.facts, Cert.Merge.Gen.facts, Cert.MergeIdeal.Gen.facts,
    Cert.MergeRefIdeal.Gen.facts, Cert.Inproj.Gen.facts, Cert.InprojIdeal.Gen.facts, Cert.InprojRefIdeal.Gen.facts, Cert.SfiveProof.frame_bits, ?_, ?_, ?_, ?_, ?_,
    Cert.InprojProof.frame_bits, ?_, ?_, trivial, algebraic_s5, trivial, algebraic_merge, trivial, algebraic_inproj⟩
  · intro m g _
    exact Cert.SfiveIdeal.Hand.quiet m g
  · intro m g _
    exact (θ_run Cert.SfiveRefIdeal.defs _ _).mono (fun r h => ⟨fun c => (h c).2,
      Idealize.ShloMosaic.sem_eq_zero_of_no_sems (by decide) r.2⟩) (Cert.SfiveRefIdeal.StepRun.run_iter (F := Ideal) m g
        (fun c => Cert.SfiveProof.it (m ((c.tc : Thread Cert.SfiveRefIdeal.nD Cert.SfiveRefIdeal.τ).loc Cert.SfiveRefIdeal.main_arg3))
          (m ((c.tc : Thread Cert.SfiveRefIdeal.nD Cert.SfiveRefIdeal.τ).loc Cert.SfiveRefIdeal.main_arg0))
          (m ((c.tc : Thread Cert.SfiveRefIdeal.nD Cert.SfiveRefIdeal.τ).loc Cert.SfiveRefIdeal.main_arg2))) (fun _ => rfl) (fun _ _ => rfl))
  · intro m g _
    exact Cert.Merge.Gen.frame m g
  · intro m g _
    exact Cert.MergeIdeal.Gen.frame m g
  · intro m g _
    exact (θ_run Cert.MergeRefIdeal.defs _ _).mono (fun r h => ⟨fun c => (h c).2,
      Idealize.ShloMosaic.sem_eq_zero_of_no_sems (by decide) r.2⟩) (Cert.MergeRefIdeal.Value.run (F := Ideal) m g)
  · intro m g _
    exact Cert.InprojIdeal.Hand.quiet m g
  · intro m g _
    exact (θ_run Cert.InprojRefIdeal.defs _ _).mono (fun r h => ⟨fun c => (h c).2.2.2.2.2.2.2.2.2.2.2.2.2.2.2.2,
      Idealize.ShloMosaic.sem_eq_zero_of_no_sems (by decide) r.2⟩) (Cert.InprojRefIdeal.Value.run (F := Ideal) m g)

end Cert.Proof

end
